-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S1x1024x1024 : Shape := ⟨3, ![1, 1024, 1024]⟩
abbrev S2048x64 : Shape := ⟨2, ![2048, 64]⟩
abbrev S2048 : Shape := ⟨1, ![2048]⟩
abbrev S256x1024 : Shape := ⟨2, ![256, 1024]⟩
abbrev S1792x1024 : Shape := ⟨2, ![1792, 1024]⟩
abbrev S42 : Shape := ⟨1, ![42]⟩
abbrev S_ : Shape := ⟨0, ![]⟩
abbrev S1 : Shape := ⟨1, ![1]⟩
abbrev S96x1024 : Shape := ⟨2, ![96, 1024]⟩
abbrev S64x1024 : Shape := ⟨2, ![64, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x1, .i32⟩
  | .hbm, ⟨3, _⟩ => ⟨S8x1024x1024, .f32⟩
  | .hbm, ⟨4, _⟩ => ⟨S1024x1024, .f32⟩
  | .hbm, ⟨5, _⟩ => ⟨S2048x1024, .bf16⟩
  | .hbm, ⟨6, _⟩ => ⟨S2048x1024, .bf16⟩
  | .local _ .vmem, ⟨0, _⟩ => ⟨S2048x1024, .f32⟩
  | .local _ .vmem, ⟨1, _⟩ => ⟨S1024x64, .f32⟩
  | .local _ .vmem, ⟨2, _⟩ => ⟨S2048x1, .i32⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1, .f32⟩
  | .local _ .vmem, ⟨8, _⟩ => ⟨S2048x1024, .bf16⟩
  | .local _ .vmem, ⟨9, _⟩ => ⟨S2048x1024, .f32⟩
  | .local _ .vmem, ⟨10, _⟩ => ⟨S2048x1024, .bf16⟩
  | .local _ .vmem, ⟨11, _⟩ => ⟨S2048x1024, .bf16⟩
  | .local _ .vmem, ⟨12, _⟩ => ⟨S1792x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc1_sem0_0 : DmaSem sig := 7
abbrev cc1_sem1_0 : DmaSem sig := 8
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v66 : BitVec 32 := Scalar.muli v2 c256_i32
  let v67 : Index := Scalar.indexCast v66
  let c0_36 : Index := 0#32
  ![v67.toNat, 0]
def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

def k1_dev1 (d0 : Dev nD) : Nat :=
  let c0_i32 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_31 : BitVec 32 := 1#32
  let v48 : BitVec 32 := Scalar.muli v24 c1_i32_31
  let v49 : BitVec 32 := Scalar.addi c0_i32 v48
  v49.toNat
def k1_dev2 (d0 : Dev nD) : Nat :=
  let c0_i32_34 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_33 : BitVec 32 := 1#32
  let v50 : BitVec 32 := Scalar.muli v35 c1_i32_33
  let v51 : BitVec 32 := Scalar.addi c0_i32_34 v50
  v51.toNat
def k1_dev3 (d0 : Dev nD) : Nat :=
  let c0_i32_37 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_36 : BitVec 32 := 1#32
  let v52 : BitVec 32 := Scalar.muli v46 c1_i32_36
  let v53 : BitVec 32 := Scalar.addi c0_i32_37 v52
  v53.toNat
def k1_off1 (d0 : Dev nD) (c0_i32_43 : BitVec 32) (c0_i32_38 : BitVec 32) (c4_i32_39 : BitVec 32) (c4_i32_40 : BitVec 32) (c0_i32_42 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v54 : BitVec 32 := Scalar.andi v13 c0_i32_38
  let v55 : BitVec 32 := Scalar.andi v13 c4_i32_39
  let v56 : BitVec 32 := Scalar.xori v55 c4_i32_40
  let v57 : BitVec 32 := Scalar.ori v54 v56
  let v59 : BitVec 32 := Scalar.addi v57 c0_i32_42
  let c96_i32 : BitVec 32 := 96#32
  let v60 : BitVec 32 := Scalar.muli v59 c96_i32
  let v61 : BitVec 32 := Scalar.addi c0_i32_43 v60
  let c0_i32_50 : BitVec 32 := 0#32
  ![v61.toNat, 0]
def k1_off1_at (r : Fin 14) : BitVec 32 × BitVec 32 × BitVec 32 × BitVec 32 × BitVec 32 :=
  if r.val < 7 then
    if r.val < 3 then
      if r.val < 1 then
        (0#32, 0#32, 4#32, 4#32, 0#32)
      else
        if r.val < 2 then
          (0#32, 0#32, 4#32, 4#32, 2#32)
        else
          (0#32, 0#32, 4#32, 4#32, 1#32)
    else
      if r.val < 5 then
        if r.val < 4 then
          (0#32, 0#32, 4#32, 4#32, 3#32)
        else
          (768#32, 0#32, 2#32, 2#32, 0#32)
      else
        if r.val < 6 then
          (768#32, 0#32, 2#32, 2#32, 1#32)
        else
          (768#32, 0#32, 2#32, 2#32, 4#32)
  else
    if r.val < 10 then
      if r.val < 8 then
        (768#32, 0#32, 2#32, 2#32, 5#32)
      else
        if r.val < 9 then
          (0#32, 4#32, 2#32, 2#32, 0#32)
        else
          (0#32, 4#32, 2#32, 2#32, 1#32)
    else
      if r.val < 12 then
        if r.val < 11 then
          (768#32, 2#32, 1#32, 1#32, 0#32)
        else
          (768#32, 2#32, 1#32, 1#32, 4#32)
      else
        if r.val < 13 then
          (0#32, 6#32, 1#32, 1#32, 0#32)
        else
          (768#32, 3#32, 4#32, 4#32, 0#32)
def k1_dev4 (d0 : Dev nD) : Nat :=
  let c0_i32_47 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_46 : BitVec 32 := 1#32
  let v62 : BitVec 32 := Scalar.muli v46 c1_i32_46
  let v63 : BitVec 32 := Scalar.addi c0_i32_47 v62
  v63.toNat
def k1_dev5 (d0 : Dev nD) : Nat :=
  let c0_i32_58 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_57 : BitVec 32 := 1#32
  let v74 : BitVec 32 := Scalar.muli v46 c1_i32_57
  let v75 : BitVec 32 := Scalar.addi c0_i32_58 v74
  v75.toNat
def k1_dev6 (d0 : Dev nD) : Nat :=
  let c0_i32_69 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_68 : BitVec 32 := 1#32
  let v86 : BitVec 32 := Scalar.muli v46 c1_i32_68
  let v87 : BitVec 32 := Scalar.addi c0_i32_69 v86
  v87.toNat
def k1_dev7 (d0 : Dev nD) : Nat :=
  let c0_i32_79 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_78 : BitVec 32 := 1#32
  let v98 : BitVec 32 := Scalar.muli v46 c1_i32_78
  let v99 : BitVec 32 := Scalar.addi c0_i32_79 v98
  v99.toNat
def k1_dev8 (d0 : Dev nD) : Nat :=
  let c0_i32_92 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_91 : BitVec 32 := 1#32
  let v115 : BitVec 32 := Scalar.muli v35 c1_i32_91
  let v116 : BitVec 32 := Scalar.addi c0_i32_92 v115
  v116.toNat
def k1_dev9 (d0 : Dev nD) : Nat :=
  let c0_i32_101 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_100 : BitVec 32 := 1#32
  let v127 : BitVec 32 := Scalar.muli v35 c1_i32_100
  let v128 : BitVec 32 := Scalar.addi c0_i32_101 v127
  v128.toNat
def k1_dev10 (d0 : Dev nD) : Nat :=
  let c0_i32_111 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_110 : BitVec 32 := 1#32
  let v139 : BitVec 32 := Scalar.muli v35 c1_i32_110
  let v140 : BitVec 32 := Scalar.addi c0_i32_111 v139
  v140.toNat
def k1_dev11 (d0 : Dev nD) : Nat :=
  let c0_i32_120 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_119 : BitVec 32 := 1#32
  let v151 : BitVec 32 := Scalar.muli v35 c1_i32_119
  let v152 : BitVec 32 := Scalar.addi c0_i32_120 v151
  v152.toNat
def k1_off2 (d0 : Dev nD) (c0_i32_124 : BitVec 32) (c1_i32_125 : BitVec 32) (c1_i32_126 : BitVec 32) (c0_i32_128 : BitVec 32) : Fin 2 → Nat :=
  let c1536_i32 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v160 : BitVec 32 := Scalar.andi v13 c0_i32_124
  let v161 : BitVec 32 := Scalar.andi v13 c1_i32_125
  let v162 : BitVec 32 := Scalar.xori v161 c1_i32_126
  let v163 : BitVec 32 := Scalar.ori v160 v162
  let v165 : BitVec 32 := Scalar.addi v163 c0_i32_128
  let c64_i32 : BitVec 32 := 64#32
  let v166 : BitVec 32 := Scalar.muli v165 c64_i32
  let v167 : BitVec 32 := Scalar.addi c1536_i32 v166
  let c0_i32_134 : BitVec 32 := 0#32
  ![v167.toNat, 0]
def k1_off2_at (r : Fin 7) : BitVec 32 × BitVec 32 × BitVec 32 × BitVec 32 :=
  if r.val < 3 then
    if r.val < 1 then
      (0#32, 1#32, 1#32, 0#32)
    else
      if r.val < 2 then
        (0#32, 1#32, 1#32, 4#32)
      else
        (0#32, 1#32, 1#32, 2#32)
  else
    if r.val < 5 then
      if r.val < 4 then
        (0#32, 1#32, 1#32, 6#32)
      else
        (1#32, 4#32, 4#32, 0#32)
    else
      if r.val < 6 then
        (1#32, 4#32, 4#32, 2#32)
      else
        (5#32, 2#32, 2#32, 0#32)
def k1_dev12 (d0 : Dev nD) : Nat :=
  let c0_i32_132 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_131 : BitVec 32 := 1#32
  let v168 : BitVec 32 := Scalar.muli v24 c1_i32_131
  let v169 : BitVec 32 := Scalar.addi c0_i32_132 v168
  v169.toNat
def k1_dev13 (d0 : Dev nD) : Nat :=
  let c0_i32_141 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_140 : BitVec 32 := 1#32
  let v180 : BitVec 32 := Scalar.muli v24 c1_i32_140
  let v181 : BitVec 32 := Scalar.addi c0_i32_141 v180
  v181.toNat
def k1_dev14 (d0 : Dev nD) : Nat :=
  let c0_i32_150 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_149 : BitVec 32 := 1#32
  let v192 : BitVec 32 := Scalar.muli v24 c1_i32_149
  let v193 : BitVec 32 := Scalar.addi c0_i32_150 v192
  v193.toNat
def k1_dev15 (d0 : Dev nD) : Nat :=
  let c0_i32_159 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_158 : BitVec 32 := 1#32
  let v204 : BitVec 32 := Scalar.muli v24 c1_i32_158
  let v205 : BitVec 32 := Scalar.addi c0_i32_159 v204
  v205.toNat
def k1_off3 (d0 : Dev nD) (c0_i32_178 : BitVec 32) (c4_i32_41 : BitVec 32) (c0_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v58 : BitVec 32 := Scalar.andi v13 c4_i32_41
  let v70 : BitVec 32 := Scalar.addi v58 c0_i32_51
  let c96_i32_177 : BitVec 32 := 96#32
  let v223 : BitVec 32 := Scalar.muli v70 c96_i32_177
  let v224 : BitVec 32 := Scalar.addi c0_i32_178 v223
  let v226 : Index := Scalar.indexCast v224
  let c0_180 : Index := 0#32
  ![v226.toNat, 0]
def k1_off3_at (r : Fin 14) : BitVec 32 × BitVec 32 × BitVec 32 :=
  if r.val < 7 then
    if r.val < 3 then
      if r.val < 1 then
        (0#32, 4#32, 0#32)
      else
        if r.val < 2 then
          (0#32, 4#32, 2#32)
        else
          (0#32, 4#32, 1#32)
    else
      if r.val < 5 then
        if r.val < 4 then
          (0#32, 4#32, 3#32)
        else
          (768#32, 2#32, 0#32)
      else
        if r.val < 6 then
          (768#32, 2#32, 1#32)
        else
          (768#32, 2#32, 4#32)
  else
    if r.val < 10 then
      if r.val < 8 then
        (768#32, 2#32, 5#32)
      else
        if r.val < 9 then
          (0#32, 6#32, 0#32)
        else
          (0#32, 6#32, 1#32)
    else
      if r.val < 12 then
        if r.val < 11 then
          (768#32, 3#32, 0#32)
        else
          (768#32, 3#32, 4#32)
      else
        if r.val < 13 then
          (0#32, 7#32, 0#32)
        else
          (768#32, 7#32, 0#32)
def k1_dev16 (d0 : Dev nD) : Nat :=
  let c0_i32_245 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_244 : BitVec 32 := 1#32
  let v297 : BitVec 32 := Scalar.muli v35 c1_i32_244
  let v298 : BitVec 32 := Scalar.addi c0_i32_245 v297
  v298.toNat
def k1_dev17 (d0 : Dev nD) : Nat :=
  let c0_i32_254 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_253 : BitVec 32 := 1#32
  let v309 : BitVec 32 := Scalar.muli v35 c1_i32_253
  let v310 : BitVec 32 := Scalar.addi c0_i32_254 v309
  v310.toNat
def k1_dev18 (d0 : Dev nD) : Nat :=
  let c0_i32_339 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_338 : BitVec 32 := 1#32
  let v402 : BitVec 32 := Scalar.muli v24 c1_i32_338
  let v403 : BitVec 32 := Scalar.addi c0_i32_339 v402
  v403.toNat
def k1_dev19 (d0 : Dev nD) : Nat :=
  let c0_i32_348 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_347 : BitVec 32 := 1#32
  let v414 : BitVec 32 := Scalar.muli v24 c1_i32_347
  let v415 : BitVec 32 := Scalar.addi c0_i32_348 v414
  v415.toNat
def k1_off4 (d0 : Dev nD) (c1_i32_127 : BitVec 32) (c0_i32_135 : BitVec 32) : Fin 2 → Nat :=
  let c1536_i32_366 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v164 : BitVec 32 := Scalar.andi v13 c1_i32_127
  let v176 : BitVec 32 := Scalar.addi v164 c0_i32_135
  let c64_i32_365 : BitVec 32 := 64#32
  let v433 : BitVec 32 := Scalar.muli v176 c64_i32_365
  let v434 : BitVec 32 := Scalar.addi c1536_i32_366 v433
  let v436 : Index := Scalar.indexCast v434
  let c0_368 : Index := 0#32
  ![v436.toNat, 0]
def k1_off4_at (r : Fin 7) : BitVec 32 × BitVec 32 :=
  if r.val < 3 then
    if r.val < 1 then
      (1#32, 0#32)
    else
      if r.val < 2 then
        (1#32, 4#32)
      else
        (1#32, 2#32)
  else
    if r.val < 5 then
      if r.val < 4 then
        (1#32, 6#32)
      else
        (5#32, 0#32)
    else
      if r.val < 6 then
        (5#32, 2#32)
      else
        (7#32, 0#32)
def k1_dev20 (d0 : Dev nD) : Nat :=
  let c0_i32_433 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_432 : BitVec 32 := 1#32
  let v507 : BitVec 32 := Scalar.muli v46 c1_i32_432
  let v508 : BitVec 32 := Scalar.addi c0_i32_433 v507
  v508.toNat
def k1_dev21 (d0 : Dev nD) : Nat :=
  let c0_i32_442 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_441 : BitVec 32 := 1#32
  let v519 : BitVec 32 := Scalar.muli v46 c1_i32_441
  let v520 : BitVec 32 := Scalar.addi c0_i32_442 v519
  v520.toNat
def k1_dev22 (d0 : Dev nD) : Nat :=
  let c0_i32_491 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_490 : BitVec 32 := 1#32
  let v574 : BitVec 32 := Scalar.muli v24 c1_i32_490
  let v575 : BitVec 32 := Scalar.addi c0_i32_491 v574
  v575.toNat
def k1_dev23 (d0 : Dev nD) : Nat :=
  let c0_i32_540 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_539 : BitVec 32 := 1#32
  let v629 : BitVec 32 := Scalar.muli v46 c1_i32_539
  let v630 : BitVec 32 := Scalar.addi c0_i32_540 v629
  v630.toNat
def k1_dev24 (d0 : Dev nD) : Nat :=
  let c0_i32_589 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_588 : BitVec 32 := 1#32
  let v684 : BitVec 32 := Scalar.muli v35 c1_i32_588
  let v685 : BitVec 32 := Scalar.addi c0_i32_589 v684
  v685.toNat
def k1_off5 (d0 : Dev nD) (c0_i32_613 : BitVec 32) (c0_i32_611 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v712 : BitVec 32 := Scalar.xori v13 c0_i32_611
  let c96_i32_612 : BitVec 32 := 96#32
  let v713 : BitVec 32 := Scalar.muli v712 c96_i32_612
  let v714 : BitVec 32 := Scalar.addi c0_i32_613 v713
  let c0_i32_617 : BitVec 32 := 0#32
  ![v714.toNat, 0]
def k1_off5_at (r : Fin 8) : BitVec 32 × BitVec 32 :=
  if r.val < 4 then
    if r.val < 2 then
      if r.val < 1 then
        (0#32, 0#32)
      else
        (768#32, 0#32)
    else
      if r.val < 3 then
        (0#32, 1#32)
      else
        (768#32, 4#32)
  else
    if r.val < 6 then
      if r.val < 5 then
        (0#32, 2#32)
      else
        (0#32, 3#32)
    else
      if r.val < 7 then
        (768#32, 1#32)
      else
        (768#32, 5#32)
def k1_dev25 (d0 : Dev nD) : Nat :=
  let c0_i32_616 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_615 : BitVec 32 := 1#32
  let v715 : BitVec 32 := Scalar.muli v24 c1_i32_615
  let v716 : BitVec 32 := Scalar.addi c0_i32_616 v715
  v716.toNat
def k1_dev26 (d0 : Dev nD) : Nat :=
  let c0_i32_642 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_641 : BitVec 32 := 1#32
  let v745 : BitVec 32 := Scalar.muli v46 c1_i32_641
  let v746 : BitVec 32 := Scalar.addi c0_i32_642 v745
  v746.toNat
def k1_off6 (d0 : Dev nD) (c0_i32_663 : BitVec 32) : Fin 2 → Nat :=
  let c1536_i32_665 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let v772 : BitVec 32 := Scalar.xori v13 c0_i32_663
  let c64_i32_664 : BitVec 32 := 64#32
  let v773 : BitVec 32 := Scalar.muli v772 c64_i32_664
  let v774 : BitVec 32 := Scalar.addi c1536_i32_665 v773
  let c0_i32_669 : BitVec 32 := 0#32
  ![v774.toNat, 0]
def k1_dev27 (d0 : Dev nD) : Nat :=
  let c0_i32_668 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_667 : BitVec 32 := 1#32
  let v775 : BitVec 32 := Scalar.muli v35 c1_i32_667
  let v776 : BitVec 32 := Scalar.addi c0_i32_668 v775
  v776.toNat
def k1_dev28 (d0 : Dev nD) : Nat :=
  let c0_i32_687 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_686 : BitVec 32 := 1#32
  let v796 : BitVec 32 := Scalar.muli v35 c1_i32_686
  let v797 : BitVec 32 := Scalar.addi c0_i32_687 v796
  v797.toNat
def k1_dev29 (d0 : Dev nD) : Nat :=
  let c0_i32_695 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_694 : BitVec 32 := 1#32
  let v807 : BitVec 32 := Scalar.muli v35 c1_i32_694
  let v808 : BitVec 32 := Scalar.addi c0_i32_695 v807
  v808.toNat
def k1_dev30 (d0 : Dev nD) : Nat :=
  let c0_i32_714 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_713 : BitVec 32 := 1#32
  let v828 : BitVec 32 := Scalar.muli v24 c1_i32_713
  let v829 : BitVec 32 := Scalar.addi c0_i32_714 v828
  v829.toNat
def k1_dev31 (d0 : Dev nD) : Nat :=
  let c0_i32_722 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_721 : BitVec 32 := 1#32
  let v839 : BitVec 32 := Scalar.muli v24 c1_i32_721
  let v840 : BitVec 32 := Scalar.addi c0_i32_722 v839
  v840.toNat
def k1_dev32 (d0 : Dev nD) : Nat :=
  let c0_i32_741 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_740 : BitVec 32 := 1#32
  let v860 : BitVec 32 := Scalar.muli v46 c1_i32_740
  let v861 : BitVec 32 := Scalar.addi c0_i32_741 v860
  v861.toNat
def k1_dev33 (d0 : Dev nD) : Nat :=
  let c0_i32_749 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_748 : BitVec 32 := 1#32
  let v871 : BitVec 32 := Scalar.muli v46 c1_i32_748
  let v872 : BitVec 32 := Scalar.addi c0_i32_749 v871
  v872.toNat
def k1_dev34 (d0 : Dev nD) : Nat :=
  let c0_i32_779 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_778 : BitVec 32 := 1#32
  let v902 : BitVec 32 := Scalar.muli v46 c1_i32_778
  let v903 : BitVec 32 := Scalar.addi c0_i32_779 v902
  v903.toNat
def k1_dev35 (d0 : Dev nD) : Nat :=
  let c0_i32_787 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_786 : BitVec 32 := 1#32
  let v913 : BitVec 32 := Scalar.muli v46 c1_i32_786
  let v914 : BitVec 32 := Scalar.addi c0_i32_787 v913
  v914.toNat
def k1_dev36 (d0 : Dev nD) : Nat :=
  let c0_i32_795 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_794 : BitVec 32 := 1#32
  let v924 : BitVec 32 := Scalar.muli v46 c1_i32_794
  let v925 : BitVec 32 := Scalar.addi c0_i32_795 v924
  v925.toNat
def k1_dev37 (d0 : Dev nD) : Nat :=
  let c0_i32_803 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c4_i32_22 : BitVec 32 := 4#32
  let v36 : BitVec 32 := Scalar.xori v13 c4_i32_22
  let c2_i32_26 : BitVec 32 := 2#32
  let v40 : BitVec 32 := Scalar.shrsi v36 c2_i32_26
  let c1_i32_27 : BitVec 32 := 1#32
  let v41 : BitVec 32 := Scalar.andi v40 c1_i32_27
  let v42 : BitVec 32 := Scalar.muli c4_i32_28 v41
  let c2_i32_29 : BitVec 32 := 2#32
  let c1_i32_24 : BitVec 32 := 1#32
  let v38 : BitVec 32 := Scalar.shrsi v36 c1_i32_24
  let c1_i32_25 : BitVec 32 := 1#32
  let v39 : BitVec 32 := Scalar.andi v38 c1_i32_25
  let v43 : BitVec 32 := Scalar.muli c2_i32_29 v39
  let v44 : BitVec 32 := Scalar.addi v42 v43
  let c1_i32_23 : BitVec 32 := 1#32
  let v37 : BitVec 32 := Scalar.andi v36 c1_i32_23
  let v45 : BitVec 32 := Scalar.xori v37 v39
  let v46 : BitVec 32 := Scalar.addi v44 v45
  let c1_i32_802 : BitVec 32 := 1#32
  let v935 : BitVec 32 := Scalar.muli v46 c1_i32_802
  let v936 : BitVec 32 := Scalar.addi c0_i32_803 v935
  v936.toNat
def k1_dev38 (d0 : Dev nD) : Nat :=
  let c0_i32_833 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_832 : BitVec 32 := 1#32
  let v966 : BitVec 32 := Scalar.muli v35 c1_i32_832
  let v967 : BitVec 32 := Scalar.addi c0_i32_833 v966
  v967.toNat
def k1_dev39 (d0 : Dev nD) : Nat :=
  let c0_i32_841 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_840 : BitVec 32 := 1#32
  let v977 : BitVec 32 := Scalar.muli v35 c1_i32_840
  let v978 : BitVec 32 := Scalar.addi c0_i32_841 v977
  v978.toNat
def k1_dev40 (d0 : Dev nD) : Nat :=
  let c0_i32_849 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_848 : BitVec 32 := 1#32
  let v988 : BitVec 32 := Scalar.muli v35 c1_i32_848
  let v989 : BitVec 32 := Scalar.addi c0_i32_849 v988
  v989.toNat
def k1_dev41 (d0 : Dev nD) : Nat :=
  let c0_i32_857 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c2_i32_14 : BitVec 32 := 2#32
  let v25 : BitVec 32 := Scalar.xori v13 c2_i32_14
  let c2_i32_18 : BitVec 32 := 2#32
  let v29 : BitVec 32 := Scalar.shrsi v25 c2_i32_18
  let c1_i32_19 : BitVec 32 := 1#32
  let v30 : BitVec 32 := Scalar.andi v29 c1_i32_19
  let v31 : BitVec 32 := Scalar.muli c4_i32_20 v30
  let c2_i32_21 : BitVec 32 := 2#32
  let c1_i32_16 : BitVec 32 := 1#32
  let v27 : BitVec 32 := Scalar.shrsi v25 c1_i32_16
  let c1_i32_17 : BitVec 32 := 1#32
  let v28 : BitVec 32 := Scalar.andi v27 c1_i32_17
  let v32 : BitVec 32 := Scalar.muli c2_i32_21 v28
  let v33 : BitVec 32 := Scalar.addi v31 v32
  let c1_i32_15 : BitVec 32 := 1#32
  let v26 : BitVec 32 := Scalar.andi v25 c1_i32_15
  let v34 : BitVec 32 := Scalar.xori v26 v28
  let v35 : BitVec 32 := Scalar.addi v33 v34
  let c1_i32_856 : BitVec 32 := 1#32
  let v999 : BitVec 32 := Scalar.muli v35 c1_i32_856
  let v1000 : BitVec 32 := Scalar.addi c0_i32_857 v999
  v1000.toNat
def k1_dev42 (d0 : Dev nD) : Nat :=
  let c0_i32_887 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_886 : BitVec 32 := 1#32
  let v1030 : BitVec 32 := Scalar.muli v24 c1_i32_886
  let v1031 : BitVec 32 := Scalar.addi c0_i32_887 v1030
  v1031.toNat
def k1_dev43 (d0 : Dev nD) : Nat :=
  let c0_i32_895 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_894 : BitVec 32 := 1#32
  let v1041 : BitVec 32 := Scalar.muli v24 c1_i32_894
  let v1042 : BitVec 32 := Scalar.addi c0_i32_895 v1041
  v1042.toNat
def k1_dev44 (d0 : Dev nD) : Nat :=
  let c0_i32_903 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_902 : BitVec 32 := 1#32
  let v1052 : BitVec 32 := Scalar.muli v24 c1_i32_902
  let v1053 : BitVec 32 := Scalar.addi c0_i32_903 v1052
  v1053.toNat
def k1_dev45 (d0 : Dev nD) : Nat :=
  let c0_i32_911 : BitVec 32 := 0#32
  let c4_i32_12 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c2_i32_5 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v10 : BitVec 32 := Scalar.muli c2_i32_5 v7
  let v11 : BitVec 32 := Scalar.addi v5 v10
  let c4_i32 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v12 : BitVec 32 := Scalar.muli c4_i32 v9
  let v13 : BitVec 32 := Scalar.addi v11 v12
  let c1_i32_6 : BitVec 32 := 1#32
  let v14 : BitVec 32 := Scalar.xori v13 c1_i32_6
  let c2_i32_10 : BitVec 32 := 2#32
  let v18 : BitVec 32 := Scalar.shrsi v14 c2_i32_10
  let c1_i32_11 : BitVec 32 := 1#32
  let v19 : BitVec 32 := Scalar.andi v18 c1_i32_11
  let v20 : BitVec 32 := Scalar.muli c4_i32_12 v19
  let c2_i32_13 : BitVec 32 := 2#32
  let c1_i32_8 : BitVec 32 := 1#32
  let v16 : BitVec 32 := Scalar.shrsi v14 c1_i32_8
  let c1_i32_9 : BitVec 32 := 1#32
  let v17 : BitVec 32 := Scalar.andi v16 c1_i32_9
  let v21 : BitVec 32 := Scalar.muli c2_i32_13 v17
  let v22 : BitVec 32 := Scalar.addi v20 v21
  let c1_i32_7 : BitVec 32 := 1#32
  let v15 : BitVec 32 := Scalar.andi v14 c1_i32_7
  let v23 : BitVec 32 := Scalar.xori v15 v17
  let v24 : BitVec 32 := Scalar.addi v22 v23
  let c1_i32_910 : BitVec 32 := 1#32
  let v1063 : BitVec 32 := Scalar.muli v24 c1_i32_910
  let v1064 : BitVec 32 := Scalar.addi c0_i32_911 v1063
  v1064.toNat
abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S1024x1024 : Shape := ⟨2, ![1024, 1024]⟩
abbrev S2048x64 : Shape := ⟨2, ![2048, 64]⟩
abbrev S_ : Shape := ⟨0, ![]⟩
abbrev S2048 : Shape := ⟨1, ![2048]⟩
abbrev S64 : Shape := ⟨1, ![64]⟩
abbrev S1x64 : Shape := ⟨2, ![1, 64]⟩
abbrev S2048x64x1024 : Shape := ⟨3, ![2048, 64, 1024]⟩
abbrev S2048x64x1 : Shape := ⟨3, ![2048, 64, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x1, .i32⟩
  | .hbm, ⟨3, _⟩ => ⟨S64x1024x1024, .f32⟩
  | .hbm, ⟨4, _⟩ => ⟨S1024x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S64, .i32⟩
  | .hbm, ⟨19, _⟩ => ⟨S1x64, .i32⟩
  | .hbm, ⟨20, _⟩ => ⟨S2048x64, .i32⟩
  | .hbm, ⟨21, _⟩ => ⟨S2048x64, .i32⟩
  | .hbm, ⟨22, _⟩ => ⟨S2048x64, .i1⟩
  | .hbm, ⟨23, _⟩ => ⟨S_, .f32⟩
  | .hbm, ⟨24, _⟩ => ⟨S_, .f32⟩
  | .hbm, ⟨25, _⟩ => ⟨S2048x64, .f32⟩
  | .hbm, ⟨26, _⟩ => ⟨S2048x64, .f32⟩
  | .hbm, ⟨27, _⟩ => ⟨S2048x64x1024, .f32⟩
  | .hbm, ⟨28, _⟩ => ⟨S2048x64x1, .f32⟩
  | .hbm, ⟨29, _⟩ => ⟨S2048x64x1024, .f32⟩
  | .hbm, ⟨30, _⟩ => ⟨S2048x64x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Tables.lean ====
/-
  The tables of the all-reduce: the cube's labels, which part, round, mask and free bits each of the
  42 transfers has, the block of rows it moves, and the printed offsets and device numbers in these terms.
-/
module

public import proofs.«01_k».proof.Proof.Gen.KernelIdeal

@[expose] public section

noncomputable section

namespace Cert.KernelIdeal.AR

open Idealize.ShloMosaic Idealize.SL.Sem

/-! ## Labels of the cube's corners -/

/-- Device `c`'s label on the cube (a Gray code, its own inverse). -/
def lab (c : Dev nD) : ℕ := [0, 1, 3, 2, 4, 5, 7, 6].getD c.val 0
/-- The device with label `n`. -/
def dev (n : ℕ) : Dev nD := ⟨[0, 1, 3, 2, 4, 5, 7, 6].getD n 0 % 8, Nat.mod_lt _ (by decide)⟩
/-- The device across the edge `m` (1, 2 or 4). -/
def par (m : ℕ) (c : Dev nD) : Dev nD := dev (lab c ^^^ m)

theorem lab_lt (c : Dev nD) : lab c < 8 := by revert c; decide
theorem lab_dev : ∀ n : Fin 8, lab (dev n) = n := by decide
theorem dev_lab : ∀ c : Dev nD, dev (lab c) = c := by decide

/-! ## The transfers -/

/-- Which of the three parts of the array transfer `s` belongs to. -/
def kOf (s : Fin 42) : Fin 3 :=
  [0,0,0,0,1,1,1,1,2,2,2,2, 0,0,1,1,2,2, 0,1,2, 0,1,2, 0,0,1,1,2,2, 0,0,0,0,1,1,1,1,2,2,2,2].getD s.val 0
/-- Its round's position among the part's masks (a gathering round uses the mask of the adding round it mirrors). -/
def jOf (s : Fin 42) : Fin 3 :=
  [0,0,0,0,0,0,0,0,0,0,0,0, 1,1,1,1,1,1, 2,2,2, 2,2,2, 1,1,1,1,1,1, 0,0,0,0,0,0,0,0,0,0,0,0].getD s.val 0
/-- The bits of the label the transfer is free to choose. -/
def fOf (s : Fin 42) : ℕ :=
  [0,2,1,3,0,1,4,5,0,4,2,6, 0,1,0,4,0,2, 0,0,0, 0,0,0, 0,1,0,4,0,2, 0,2,1,3,0,1,4,5,0,4,2,6].getD s.val 0
/-- The masks of a part, in the order of its adding rounds. -/
def mask (k j : Fin 3) : ℕ := ([[4, 2, 1], [2, 1, 4], [1, 4, 2]].getD k.val []).getD j.val 0
/-- The mask of transfer `s`. -/
def mOf (s : Fin 42) : ℕ := mask (kOf s) (jOf s)
/-- The bits fixed once round `j` of part `k` is done. -/
def fixed (k j : Fin 3) : ℕ := ([[4, 6, 7], [2, 3, 7], [1, 5, 7]].getD k.val []).getD j.val 0
/-- The first 21 transfers are the adding ones. -/
def isRS (s : Fin 42) : Bool := s.val < 21

/-- The block device `c` receives by transfer `s`. -/
def rowN (s : Fin 42) (c : Dev nD) : ℕ :=
  bif isRS s then (lab c &&& fixed (kOf s) (jOf s)) + fOf s else (lab c ^^^ mOf s) ^^^ fOf s
def rowV (s : Fin 42) (c : Dev nD) : Fin 8 := ⟨rowN s c % 8, Nat.mod_lt _ (by decide)⟩
/-- The other end of transfer `s` (each end receives what the other sends). -/
def pr (s : Fin 42) (c : Dev nD) : Dev nD := par (mOf s) c

theorem pr_pr (s : Fin 42) (c : Dev nD) : pr s (pr s c) = c := by revert s c; decide +kernel

/-- First row of part `k`, rows of a block of it. -/
def base (k : Fin 3) : ℕ := [0, 768, 1536].getD k.val 0
def sub (k : Fin 3) : ℕ := [96, 96, 64].getD k.val 0
/-- First row of block `v` of part `k`. -/
def rowLo (k : Fin 3) (v : Fin 8) : ℕ := base k + v.val * sub k
/-- First row of the landing slot of adding transfer `s`. -/
def slotLo (s : Fin 42) : ℕ :=
  [0,96,192,288, 672,768,864,960, 1344,1408,1472,1536, 384,480, 1056,1152, 1600,1664, 576, 1248, 1728].getD s.val 0

/-- The adding transfer whose received block is the one gathering transfer `s` sends. -/
def rsOf (s : Fin 42) (c : Dev nD) : Fin 42 :=
  ((List.finRange 21).map (Fin.castLE (by decide : 21 ≤ 42))).find?
    (fun t => kOf t == kOf s && jOf t == jOf s && rowV t c == rowV s (pr s c)) |>.getD 0

/-! ## The printed device numbers and offsets -/

theorem dev_bar0 (c : Dev nD) (h : k1_dev1 c < nD) : (⟨k1_dev1 c, h⟩ : Dev nD) = par 1 c := by revert h; revert c; decide +kernel
theorem dev_bar1 (c : Dev nD) (h : k1_dev2 c < nD) : (⟨k1_dev2 c, h⟩ : Dev nD) = par 2 c := by revert h; revert c; decide +kernel
theorem dev_bar2 (c : Dev nD) (h : k1_dev3 c < nD) : (⟨k1_dev3 c, h⟩ : Dev nD) = par 4 c := by revert h; revert c; decide +kernel
theorem dev_0 (c : Dev nD) (h : k1_dev4 c < nD) : (⟨k1_dev4 c, h⟩ : Dev nD) = pr 0 c := by revert h; revert c; decide +kernel
theorem dev_1 (c : Dev nD) (h : k1_dev5 c < nD) : (⟨k1_dev5 c, h⟩ : Dev nD) = pr 1 c := by revert h; revert c; decide +kernel
theorem dev_2 (c : Dev nD) (h : k1_dev6 c < nD) : (⟨k1_dev6 c, h⟩ : Dev nD) = pr 2 c := by revert h; revert c; decide +kernel
theorem dev_3 (c : Dev nD) (h : k1_dev7 c < nD) : (⟨k1_dev7 c, h⟩ : Dev nD) = pr 3 c := by revert h; revert c; decide +kernel
theorem dev_4 (c : Dev nD) (h : k1_dev8 c < nD) : (⟨k1_dev8 c, h⟩ : Dev nD) = pr 4 c := by revert h; revert c; decide +kernel
theorem dev_5 (c : Dev nD) (h : k1_dev9 c < nD) : (⟨k1_dev9 c, h⟩ : Dev nD) = pr 5 c := by revert h; revert c; decide +kernel
theorem dev_6 (c : Dev nD) (h : k1_dev10 c < nD) : (⟨k1_dev10 c, h⟩ : Dev nD) = pr 6 c := by revert h; revert c; decide +kernel
theorem dev_7 (c : Dev nD) (h : k1_dev11 c < nD) : (⟨k1_dev11 c, h⟩ : Dev nD) = pr 7 c := by revert h; revert c; decide +kernel
theorem dev_8 (c : Dev nD) (h : k1_dev12 c < nD) : (⟨k1_dev12 c, h⟩ : Dev nD) = pr 8 c := by revert h; revert c; decide +kernel
theorem dev_9 (c : Dev nD) (h : k1_dev13 c < nD) : (⟨k1_dev13 c, h⟩ : Dev nD) = pr 9 c := by revert h; revert c; decide +kernel
theorem dev_10 (c : Dev nD) (h : k1_dev14 c < nD) : (⟨k1_dev14 c, h⟩ : Dev nD) = pr 10 c := by revert h; revert c; decide +kernel
theorem dev_11 (c : Dev nD) (h : k1_dev15 c < nD) : (⟨k1_dev15 c, h⟩ : Dev nD) = pr 11 c := by revert h; revert c; decide +kernel
theorem dev_12 (c : Dev nD) (h : k1_dev16 c < nD) : (⟨k1_dev16 c, h⟩ : Dev nD) = pr 12 c := by revert h; revert c; decide +kernel
theorem dev_13 (c : Dev nD) (h : k1_dev17 c < nD) : (⟨k1_dev17 c, h⟩ : Dev nD) = pr 13 c := by revert h; revert c; decide +kernel
theorem dev_14 (c : Dev nD) (h : k1_dev18 c < nD) : (⟨k1_dev18 c, h⟩ : Dev nD) = pr 14 c := by revert h; revert c; decide +kernel
theorem dev_15 (c : Dev nD) (h : k1_dev19 c < nD) : (⟨k1_dev19 c, h⟩ : Dev nD) = pr 15 c := by revert h; revert c; decide +kernel
theorem dev_16 (c : Dev nD) (h : k1_dev20 c < nD) : (⟨k1_dev20 c, h⟩ : Dev nD) = pr 16 c := by revert h; revert c; decide +kernel
theorem dev_17 (c : Dev nD) (h : k1_dev21 c < nD) : (⟨k1_dev21 c, h⟩ : Dev nD) = pr 17 c := by revert h; revert c; decide +kernel
theorem dev_18 (c : Dev nD) (h : k1_dev22 c < nD) : (⟨k1_dev22 c, h⟩ : Dev nD) = pr 18 c := by revert h; revert c; decide +kernel
theorem dev_19 (c : Dev nD) (h : k1_dev23 c < nD) : (⟨k1_dev23 c, h⟩ : Dev nD) = pr 19 c := by revert h; revert c; decide +kernel
theorem dev_20 (c : Dev nD) (h : k1_dev24 c < nD) : (⟨k1_dev24 c, h⟩ : Dev nD) = pr 20 c := by revert h; revert c; decide +kernel
theorem dev_21 (c : Dev nD) (h : k1_dev25 c < nD) : (⟨k1_dev25 c, h⟩ : Dev nD) = pr 21 c := by revert h; revert c; decide +kernel
theorem dev_22 (c : Dev nD) (h : k1_dev26 c < nD) : (⟨k1_dev26 c, h⟩ : Dev nD) = pr 22 c := by revert h; revert c; decide +kernel
theorem dev_23 (c : Dev nD) (h : k1_dev27 c < nD) : (⟨k1_dev27 c, h⟩ : Dev nD) = pr 23 c := by revert h; revert c; decide +kernel
theorem dev_24 (c : Dev nD) (h : k1_dev28 c < nD) : (⟨k1_dev28 c, h⟩ : Dev nD) = pr 24 c := by revert h; revert c; decide +kernel
theorem dev_25 (c : Dev nD) (h : k1_dev29 c < nD) : (⟨k1_dev29 c, h⟩ : Dev nD) = pr 25 c := by revert h; revert c; decide +kernel
theorem dev_26 (c : Dev nD) (h : k1_dev30 c < nD) : (⟨k1_dev30 c, h⟩ : Dev nD) = pr 26 c := by revert h; revert c; decide +kernel
theorem dev_27 (c : Dev nD) (h : k1_dev31 c < nD) : (⟨k1_dev31 c, h⟩ : Dev nD) = pr 27 c := by revert h; revert c; decide +kernel
theorem dev_28 (c : Dev nD) (h : k1_dev32 c < nD) : (⟨k1_dev32 c, h⟩ : Dev nD) = pr 28 c := by revert h; revert c; decide +kernel
theorem dev_29 (c : Dev nD) (h : k1_dev33 c < nD) : (⟨k1_dev33 c, h⟩ : Dev nD) = pr 29 c := by revert h; revert c; decide +kernel
theorem dev_30 (c : Dev nD) (h : k1_dev34 c < nD) : (⟨k1_dev34 c, h⟩ : Dev nD) = pr 30 c := by revert h; revert c; decide +kernel
theorem dev_31 (c : Dev nD) (h : k1_dev35 c < nD) : (⟨k1_dev35 c, h⟩ : Dev nD) = pr 31 c := by revert h; revert c; decide +kernel
theorem dev_32 (c : Dev nD) (h : k1_dev36 c < nD) : (⟨k1_dev36 c, h⟩ : Dev nD) = pr 32 c := by revert h; revert c; decide +kernel
theorem dev_33 (c : Dev nD) (h : k1_dev37 c < nD) : (⟨k1_dev37 c, h⟩ : Dev nD) = pr 33 c := by revert h; revert c; decide +kernel
theorem dev_34 (c : Dev nD) (h : k1_dev38 c < nD) : (⟨k1_dev38 c, h⟩ : Dev nD) = pr 34 c := by revert h; revert c; decide +kernel
theorem dev_35 (c : Dev nD) (h : k1_dev39 c < nD) : (⟨k1_dev39 c, h⟩ : Dev nD) = pr 35 c := by revert h; revert c; decide +kernel
theorem dev_36 (c : Dev nD) (h : k1_dev40 c < nD) : (⟨k1_dev40 c, h⟩ : Dev nD) = pr 36 c := by revert h; revert c; decide +kernel
theorem dev_37 (c : Dev nD) (h : k1_dev41 c < nD) : (⟨k1_dev41 c, h⟩ : Dev nD) = pr 37 c := by revert h; revert c; decide +kernel
theorem dev_38 (c : Dev nD) (h : k1_dev42 c < nD) : (⟨k1_dev42 c, h⟩ : Dev nD) = pr 38 c := by revert h; revert c; decide +kernel
theorem dev_39 (c : Dev nD) (h : k1_dev43 c < nD) : (⟨k1_dev43 c, h⟩ : Dev nD) = pr 39 c := by revert h; revert c; decide +kernel
theorem dev_40 (c : Dev nD) (h : k1_dev44 c < nD) : (⟨k1_dev44 c, h⟩ : Dev nD) = pr 40 c := by revert h; revert c; decide +kernel
theorem dev_41 (c : Dev nD) (h : k1_dev45 c < nD) : (⟨k1_dev45 c, h⟩ : Dev nD) = pr 41 c := by revert h; revert c; decide +kernel
theorem src_0 (c : Dev nD) : k1_off1 c 0#32 0#32 4#32 4#32 0#32 = ![rowLo (kOf 0) (rowV 0 (pr 0 c)), 0] := by revert c; decide +kernel
theorem src_1 (c : Dev nD) : k1_off1 c 0#32 0#32 4#32 4#32 2#32 = ![rowLo (kOf 1) (rowV 1 (pr 1 c)), 0] := by revert c; decide +kernel
theorem src_2 (c : Dev nD) : k1_off1 c 0#32 0#32 4#32 4#32 1#32 = ![rowLo (kOf 2) (rowV 2 (pr 2 c)), 0] := by revert c; decide +kernel
theorem src_3 (c : Dev nD) : k1_off1 c 0#32 0#32 4#32 4#32 3#32 = ![rowLo (kOf 3) (rowV 3 (pr 3 c)), 0] := by revert c; decide +kernel
theorem src_4 (c : Dev nD) : k1_off1 c 768#32 0#32 2#32 2#32 0#32 = ![rowLo (kOf 4) (rowV 4 (pr 4 c)), 0] := by revert c; decide +kernel
theorem src_5 (c : Dev nD) : k1_off1 c 768#32 0#32 2#32 2#32 1#32 = ![rowLo (kOf 5) (rowV 5 (pr 5 c)), 0] := by revert c; decide +kernel
theorem src_6 (c : Dev nD) : k1_off1 c 768#32 0#32 2#32 2#32 4#32 = ![rowLo (kOf 6) (rowV 6 (pr 6 c)), 0] := by revert c; decide +kernel
theorem src_7 (c : Dev nD) : k1_off1 c 768#32 0#32 2#32 2#32 5#32 = ![rowLo (kOf 7) (rowV 7 (pr 7 c)), 0] := by revert c; decide +kernel
theorem src_8 (c : Dev nD) : k1_off2 c 0#32 1#32 1#32 0#32 = ![rowLo (kOf 8) (rowV 8 (pr 8 c)), 0] := by revert c; decide +kernel
theorem src_9 (c : Dev nD) : k1_off2 c 0#32 1#32 1#32 4#32 = ![rowLo (kOf 9) (rowV 9 (pr 9 c)), 0] := by revert c; decide +kernel
theorem src_10 (c : Dev nD) : k1_off2 c 0#32 1#32 1#32 2#32 = ![rowLo (kOf 10) (rowV 10 (pr 10 c)), 0] := by revert c; decide +kernel
theorem src_11 (c : Dev nD) : k1_off2 c 0#32 1#32 1#32 6#32 = ![rowLo (kOf 11) (rowV 11 (pr 11 c)), 0] := by revert c; decide +kernel
theorem src_12 (c : Dev nD) : k1_off1 c 0#32 4#32 2#32 2#32 0#32 = ![rowLo (kOf 12) (rowV 12 (pr 12 c)), 0] := by revert c; decide +kernel
theorem src_13 (c : Dev nD) : k1_off1 c 0#32 4#32 2#32 2#32 1#32 = ![rowLo (kOf 13) (rowV 13 (pr 13 c)), 0] := by revert c; decide +kernel
theorem src_14 (c : Dev nD) : k1_off1 c 768#32 2#32 1#32 1#32 0#32 = ![rowLo (kOf 14) (rowV 14 (pr 14 c)), 0] := by revert c; decide +kernel
theorem src_15 (c : Dev nD) : k1_off1 c 768#32 2#32 1#32 1#32 4#32 = ![rowLo (kOf 15) (rowV 15 (pr 15 c)), 0] := by revert c; decide +kernel
theorem src_16 (c : Dev nD) : k1_off2 c 1#32 4#32 4#32 0#32 = ![rowLo (kOf 16) (rowV 16 (pr 16 c)), 0] := by revert c; decide +kernel
theorem src_17 (c : Dev nD) : k1_off2 c 1#32 4#32 4#32 2#32 = ![rowLo (kOf 17) (rowV 17 (pr 17 c)), 0] := by revert c; decide +kernel
theorem src_18 (c : Dev nD) : k1_off1 c 0#32 6#32 1#32 1#32 0#32 = ![rowLo (kOf 18) (rowV 18 (pr 18 c)), 0] := by revert c; decide +kernel
theorem src_19 (c : Dev nD) : k1_off1 c 768#32 3#32 4#32 4#32 0#32 = ![rowLo (kOf 19) (rowV 19 (pr 19 c)), 0] := by revert c; decide +kernel
theorem src_20 (c : Dev nD) : k1_off2 c 5#32 2#32 2#32 0#32 = ![rowLo (kOf 20) (rowV 20 (pr 20 c)), 0] := by revert c; decide +kernel
theorem src_21 (c : Dev nD) : k1_off5 c 0#32 0#32 = ![rowLo (kOf 21) (rowV 21 (pr 21 c)), 0] := by revert c; decide +kernel
theorem src_22 (c : Dev nD) : k1_off5 c 768#32 0#32 = ![rowLo (kOf 22) (rowV 22 (pr 22 c)), 0] := by revert c; decide +kernel
theorem src_23 (c : Dev nD) : k1_off6 c 0#32 = ![rowLo (kOf 23) (rowV 23 (pr 23 c)), 0] := by revert c; decide +kernel
theorem src_24 (c : Dev nD) : k1_off5 c 0#32 0#32 = ![rowLo (kOf 24) (rowV 24 (pr 24 c)), 0] := by revert c; decide +kernel
theorem src_25 (c : Dev nD) : k1_off5 c 0#32 1#32 = ![rowLo (kOf 25) (rowV 25 (pr 25 c)), 0] := by revert c; decide +kernel
theorem src_26 (c : Dev nD) : k1_off5 c 768#32 0#32 = ![rowLo (kOf 26) (rowV 26 (pr 26 c)), 0] := by revert c; decide +kernel
theorem src_27 (c : Dev nD) : k1_off5 c 768#32 4#32 = ![rowLo (kOf 27) (rowV 27 (pr 27 c)), 0] := by revert c; decide +kernel
theorem src_28 (c : Dev nD) : k1_off6 c 0#32 = ![rowLo (kOf 28) (rowV 28 (pr 28 c)), 0] := by revert c; decide +kernel
theorem src_29 (c : Dev nD) : k1_off6 c 2#32 = ![rowLo (kOf 29) (rowV 29 (pr 29 c)), 0] := by revert c; decide +kernel
theorem src_30 (c : Dev nD) : k1_off5 c 0#32 0#32 = ![rowLo (kOf 30) (rowV 30 (pr 30 c)), 0] := by revert c; decide +kernel
theorem src_31 (c : Dev nD) : k1_off5 c 0#32 2#32 = ![rowLo (kOf 31) (rowV 31 (pr 31 c)), 0] := by revert c; decide +kernel
theorem src_32 (c : Dev nD) : k1_off5 c 0#32 1#32 = ![rowLo (kOf 32) (rowV 32 (pr 32 c)), 0] := by revert c; decide +kernel
theorem src_33 (c : Dev nD) : k1_off5 c 0#32 3#32 = ![rowLo (kOf 33) (rowV 33 (pr 33 c)), 0] := by revert c; decide +kernel
theorem src_34 (c : Dev nD) : k1_off5 c 768#32 0#32 = ![rowLo (kOf 34) (rowV 34 (pr 34 c)), 0] := by revert c; decide +kernel
theorem src_35 (c : Dev nD) : k1_off5 c 768#32 1#32 = ![rowLo (kOf 35) (rowV 35 (pr 35 c)), 0] := by revert c; decide +kernel
theorem src_36 (c : Dev nD) : k1_off5 c 768#32 4#32 = ![rowLo (kOf 36) (rowV 36 (pr 36 c)), 0] := by revert c; decide +kernel
theorem src_37 (c : Dev nD) : k1_off5 c 768#32 5#32 = ![rowLo (kOf 37) (rowV 37 (pr 37 c)), 0] := by revert c; decide +kernel
theorem src_38 (c : Dev nD) : k1_off6 c 0#32 = ![rowLo (kOf 38) (rowV 38 (pr 38 c)), 0] := by revert c; decide +kernel
theorem src_39 (c : Dev nD) : k1_off6 c 4#32 = ![rowLo (kOf 39) (rowV 39 (pr 39 c)), 0] := by revert c; decide +kernel
theorem src_40 (c : Dev nD) : k1_off6 c 2#32 = ![rowLo (kOf 40) (rowV 40 (pr 40 c)), 0] := by revert c; decide +kernel
theorem src_41 (c : Dev nD) : k1_off6 c 6#32 = ![rowLo (kOf 41) (rowV 41 (pr 41 c)), 0] := by revert c; decide +kernel
theorem add_0 (c : Dev nD) : k1_off3 c 0#32 4#32 0#32 = ![rowLo (kOf 0) (rowV 0 c), 0] := by revert c; decide +kernel
theorem add_1 (c : Dev nD) : k1_off3 c 0#32 4#32 2#32 = ![rowLo (kOf 1) (rowV 1 c), 0] := by revert c; decide +kernel
theorem add_2 (c : Dev nD) : k1_off3 c 0#32 4#32 1#32 = ![rowLo (kOf 2) (rowV 2 c), 0] := by revert c; decide +kernel
theorem add_3 (c : Dev nD) : k1_off3 c 0#32 4#32 3#32 = ![rowLo (kOf 3) (rowV 3 c), 0] := by revert c; decide +kernel
theorem add_4 (c : Dev nD) : k1_off3 c 768#32 2#32 0#32 = ![rowLo (kOf 4) (rowV 4 c), 0] := by revert c; decide +kernel
theorem add_5 (c : Dev nD) : k1_off3 c 768#32 2#32 1#32 = ![rowLo (kOf 5) (rowV 5 c), 0] := by revert c; decide +kernel
theorem add_6 (c : Dev nD) : k1_off3 c 768#32 2#32 4#32 = ![rowLo (kOf 6) (rowV 6 c), 0] := by revert c; decide +kernel
theorem add_7 (c : Dev nD) : k1_off3 c 768#32 2#32 5#32 = ![rowLo (kOf 7) (rowV 7 c), 0] := by revert c; decide +kernel
theorem add_8 (c : Dev nD) : k1_off4 c 1#32 0#32 = ![rowLo (kOf 8) (rowV 8 c), 0] := by revert c; decide +kernel
theorem add_9 (c : Dev nD) : k1_off4 c 1#32 4#32 = ![rowLo (kOf 9) (rowV 9 c), 0] := by revert c; decide +kernel
theorem add_10 (c : Dev nD) : k1_off4 c 1#32 2#32 = ![rowLo (kOf 10) (rowV 10 c), 0] := by revert c; decide +kernel
theorem add_11 (c : Dev nD) : k1_off4 c 1#32 6#32 = ![rowLo (kOf 11) (rowV 11 c), 0] := by revert c; decide +kernel
theorem add_12 (c : Dev nD) : k1_off3 c 0#32 6#32 0#32 = ![rowLo (kOf 12) (rowV 12 c), 0] := by revert c; decide +kernel
theorem add_13 (c : Dev nD) : k1_off3 c 0#32 6#32 1#32 = ![rowLo (kOf 13) (rowV 13 c), 0] := by revert c; decide +kernel
theorem add_14 (c : Dev nD) : k1_off3 c 768#32 3#32 0#32 = ![rowLo (kOf 14) (rowV 14 c), 0] := by revert c; decide +kernel
theorem add_15 (c : Dev nD) : k1_off3 c 768#32 3#32 4#32 = ![rowLo (kOf 15) (rowV 15 c), 0] := by revert c; decide +kernel
theorem add_16 (c : Dev nD) : k1_off4 c 5#32 0#32 = ![rowLo (kOf 16) (rowV 16 c), 0] := by revert c; decide +kernel
theorem add_17 (c : Dev nD) : k1_off4 c 5#32 2#32 = ![rowLo (kOf 17) (rowV 17 c), 0] := by revert c; decide +kernel
theorem add_18 (c : Dev nD) : k1_off3 c 0#32 7#32 0#32 = ![rowLo (kOf 18) (rowV 18 c), 0] := by revert c; decide +kernel
theorem add_19 (c : Dev nD) : k1_off3 c 768#32 7#32 0#32 = ![rowLo (kOf 19) (rowV 19 c), 0] := by revert c; decide +kernel
theorem add_20 (c : Dev nD) : k1_off4 c 7#32 0#32 = ![rowLo (kOf 20) (rowV 20 c), 0] := by revert c; decide +kernel

end Cert.KernelIdeal.AR

end
-- ==== Proof.Machine.lean ====
/-
  The protocol's control state: which transfers have been issued, awaited and received, which blocks of
  the operand and of the result a device holds and how far each is summed; the event each step of the
  kernel is, its effect and what it needs; and that every device's events, in the kernel's order, always
  find what they need.
-/
module

public import proofs.«01_k».proof.Proof.Tables

@[expose] public section

noncomputable section

namespace Cert.KernelIdeal.AR

open Idealize.ShloMosaic Idealize.SL.Sem

/-- A block of rows: its part and its number. -/
abbrev Blk : Type := Fin 3 × Fin 8

/-- The block device `c` receives, and the one it sends, by transfer `s`. -/
def rB (s : Fin 42) (c : Dev nD) : Blk := (kOf s, rowV s c)
def sB (s : Fin 42) (c : Dev nD) : Blk := (kOf s, rowV s (pr s c))

/-- Control state of one device. `T s`: 0 not issued, 1 issued, 2 its source given back, 3 received,
    4 (adding transfers) the right to the other end's block used up. `PB`: operand blocks at hand.
    `OB`: result blocks: 0 not at hand, 1 at hand, 2 to 4 at hand holding so many terms' sum. -/
structure Cfg where
  nx : ℕ
  T : Fin 42 → Fin 5
  PB : Blk → Bool
  OB : Blk → Fin 5

inductive Ev where
  /-- issue: adding round 0, a later adding round, gathering -/
  | sendA (s : Fin 42) | sendB (s : Fin 42) | sendG (s : Fin 42)
  /-- wait for the source -/
  | doneA (s : Fin 42) | doneB (s : Fin 42) | doneG (s : Fin 42)
  /-- wait for the landing -/
  | recv (s : Fin 42) | recvG (s : Fin 42)
  /-- read both terms; store their sum -/
  | look (s : Fin 42) | put (s : Fin 42)

open Ev

/-- How many terms round `jOf s` finds summed, as a block's state. -/
def lev (s : Fin 42) : Fin 5 := ⟨(jOf s).val + 1, by omega⟩
def lev' (s : Fin 42) : Fin 5 := ⟨(jOf s).val + 2, by omega⟩

def step (c : Dev nD) (γ : Cfg) : Ev → Cfg
  | sendA s => ⟨γ.nx + 1, Function.update γ.T s 1, Function.update γ.PB (sB s c) false, γ.OB⟩
  | sendB s => ⟨γ.nx + 1, Function.update γ.T s 1, γ.PB, Function.update γ.OB (sB s c) 0⟩
  | sendG s => ⟨γ.nx + 1, Function.update (Function.update γ.T (rsOf s c) 4) s 1, γ.PB, Function.update γ.OB (sB s c) 0⟩
  | doneA s => ⟨γ.nx, Function.update γ.T s 2, Function.update γ.PB (sB s c) true, γ.OB⟩
  | doneB s => ⟨γ.nx, Function.update γ.T s 2, γ.PB, γ.OB⟩
  | doneG s => ⟨γ.nx, Function.update γ.T s 2, γ.PB, Function.update γ.OB (sB s c) 4⟩
  | recv s => ⟨γ.nx, Function.update γ.T s 3, γ.PB, γ.OB⟩
  | recvG s => ⟨γ.nx, Function.update γ.T s 3, γ.PB, Function.update γ.OB (rB s c) 4⟩
  | look _ => γ
  | put s => ⟨γ.nx, γ.T, γ.PB, Function.update γ.OB (rB s c) (lev' s)⟩

/-- What each event needs. -/
def ok (c : Dev nD) (γ : Cfg) : Ev → Bool
  | sendA s => γ.nx == s.val && γ.T s == 0 && γ.PB (sB s c) && s.val < 12
  | sendB s => γ.nx == s.val && γ.T s == 0 && γ.OB (sB s c) == lev s && 12 ≤ s.val && s.val < 21
  | sendG s => γ.nx == s.val && γ.T s == 0 && γ.OB (sB s c) == 4 && 21 ≤ s.val && γ.T (rsOf s c) == 3
      && rsOf s c != s && isRS (rsOf s c) && rB (rsOf s c) c == sB s c && pr (rsOf s c) c == pr s c
  | doneA s => γ.T s == 1 && s.val < 12 && γ.PB (sB s c) == false
  | doneB s => γ.T s == 1 && 12 ≤ s.val && s.val < 21
  | doneG s => γ.T s == 1 && 21 ≤ s.val && γ.OB (sB s c) == 0
  | recv s => γ.T s == 2 && s.val < 21 && s.val < γ.nx
  | recvG s => γ.T s == 2 && 21 ≤ s.val && s.val < γ.nx && γ.OB (rB s c) == 0
  | look s => γ.T s == 3 && s.val < 21 && γ.OB (rB s c) == lev s && (12 ≤ s.val || γ.PB (rB s c))
  | put s => s.val < 21 && γ.OB (rB s c) == lev s

def run (c : Dev nD) : Cfg → List Ev → Cfg
  | γ, [] => γ
  | γ, e :: es => run c (step c γ e) es
def okRun (c : Dev nD) : Cfg → List Ev → Bool
  | _, [] => true
  | γ, e :: es => ok c γ e && okRun c (step c γ e) es

theorem okRun_cons {c : Dev nD} {γ : Cfg} {e : Ev} {es : List Ev} (h : okRun c γ (e :: es) = true) :
    ok c γ e = true ∧ okRun c (step c γ e) es = true := by
  simpa only [okRun, Bool.and_eq_true] using h
theorem run_append (c : Dev nD) (γ : Cfg) (l l' : List Ev) : run c γ (l ++ l') = run c (run c γ l) l' := by
  induction l generalizing γ with
  | nil => rfl
  | cons e es ih => exact ih _
theorem okRun_append {c : Dev nD} {γ : Cfg} {l l' : List Ev} (h : okRun c γ (l ++ l') = true) :
    okRun c γ l = true ∧ okRun c (run c γ l) l' = true := by
  induction l generalizing γ with
  | nil => exact ⟨rfl, h⟩
  | cons e es ih =>
    obtain ⟨h1, h2⟩ := okRun_cons h
    obtain ⟨h3, h4⟩ := ih h2
    exact ⟨by simp only [okRun, h1, h3, Bool.and_self], h4⟩

/-- After the barrier: nothing issued, the operand at hand, and of the result the blocks the first
    adding round does not send. -/
def cfg0 (c : Dev nD) : Cfg where
  nx := 0
  T _ := 0
  PB _ := true
  OB b := if (lab c &&& mask b.1 0) == (b.2.val &&& mask b.1 0) then 1 else 0

def evs3 : List Ev := [sendA 0, sendA 1]
def evs4 : List Ev := [sendA 2, sendA 3, sendA 4]
def evs5 : List Ev := [sendA 5, sendA 6]
def evs6 : List Ev := [sendA 7, sendA 8]
def evs7 : List Ev := [sendA 9, sendA 10, sendA 11]
def evs8 : List Ev := [doneA 0, recv 0, look 0, put 0, doneA 1]
def evs9 : List Ev := [recv 1, look 1, put 1, doneA 2, recv 2, look 2]
def evs10 : List Ev := [put 2, doneA 3, recv 3, look 3, put 3]
def evs11 : List Ev := [sendB 12, sendB 13, doneA 4]
def evs12 : List Ev := [recv 4, look 4, put 4, doneA 5, recv 5, look 5]
def evs13 : List Ev := [put 5, doneA 6, recv 6, look 6, put 6, doneA 7]
def evs14 : List Ev := [recv 7, look 7, put 7, sendB 14]
def evs15 : List Ev := [sendB 15, doneA 8, recv 8, look 8]
def evs16 : List Ev := [put 8, doneA 9, recv 9, look 9, put 9, doneA 10]
def evs17 : List Ev := [recv 10, look 10, put 10, doneA 11, recv 11, look 11]
def evs18 : List Ev := [put 11, sendB 16, sendB 17]
def evs19 : List Ev := [doneB 12, recv 12, look 12, put 12, doneB 13]
def evs20 : List Ev := [recv 13, look 13, put 13, sendB 18]
def evs21 : List Ev := [doneB 14, recv 14, look 14, put 14, doneB 15]
def evs22 : List Ev := [recv 15, look 15, put 15, sendB 19]
def evs23 : List Ev := [doneB 16, recv 16, look 16, put 16, doneB 17, recv 17]
def evs24 : List Ev := [look 17, put 17, sendB 20, doneB 18]
def evs25 : List Ev := [recv 18, look 18, put 18, sendG 21, doneB 19]
def evs26 : List Ev := [recv 19, look 19, put 19, sendG 22]
def evs27 : List Ev := [doneB 20, recv 20, look 20, put 20, sendG 23]
def evs28 : List Ev := [doneG 21, recvG 21, sendG 24, sendG 25]
def evs29 : List Ev := [doneG 22, recvG 22, sendG 26]
def evs30 : List Ev := [sendG 27, doneG 23, recvG 23, sendG 28]
def evs31 : List Ev := [sendG 29, doneG 24, recvG 24, doneG 25, recvG 25]
def evs32 : List Ev := [sendG 30, sendG 31, sendG 32]
def evs33 : List Ev := [sendG 33, doneG 26, recvG 26, doneG 27]
def evs34 : List Ev := [recvG 27, sendG 34, sendG 35]
def evs35 : List Ev := [sendG 36, sendG 37, doneG 28, recvG 28]
def evs36 : List Ev := [doneG 29, recvG 29, sendG 38, sendG 39]
def evs37 : List Ev := [sendG 40, sendG 41, doneG 30]
def evs38 : List Ev := [recvG 30, doneG 31, recvG 31, doneG 32, recvG 32, doneG 33]
def evs39 : List Ev := [recvG 33, doneG 34, recvG 34, doneG 35, recvG 35]
def evs40 : List Ev := [doneG 36, recvG 36, doneG 37, recvG 37, doneG 38]
def evs41 : List Ev := [recvG 38, doneG 39, recvG 39, doneG 40, recvG 40]
def evs99 : List Ev := [doneG 41, recvG 41]

/-- Everything after the barrier. -/
def evs : List Ev :=
  evs3 ++ (evs4 ++ (evs5 ++ (evs6 ++ (evs7 ++ (evs8 ++ (evs9 ++ (evs10 ++ (evs11 ++ (evs12 ++ (evs13 ++ (evs14 ++ (evs15 ++ (evs16 ++ (evs17 ++ (evs18 ++ (evs19 ++ (evs20 ++ (evs21 ++ (evs22 ++ (evs23 ++ (evs24 ++ (evs25 ++ (evs26 ++ (evs27 ++ (evs28 ++ (evs29 ++ (evs30 ++ (evs31 ++ (evs32 ++ (evs33 ++ (evs34 ++ (evs35 ++ (evs36 ++ (evs37 ++ (evs38 ++ (evs39 ++ (evs40 ++ (evs41 ++ evs99))))))))))))))))))))))))))))))))))))))

theorem ok_evs : ∀ c : Dev nD, okRun c (cfg0 c) evs = true := by decide +kernel

/-- At the end everything is received, every right used, the operand back and every block of the result complete. -/
theorem run_evs_T : ∀ c : Dev nD, ∀ s : Fin 42, (run c (cfg0 c) evs).T s = if isRS s then 4 else 3 := by decide +kernel
theorem run_evs_PB : ∀ c : Dev nD, ∀ b : Blk, (run c (cfg0 c) evs).PB b = true := by decide +kernel
theorem run_evs_OB : ∀ c : Dev nD, ∀ b : Blk, (run c (cfg0 c) evs).OB b = 4 := by decide +kernel
theorem run_evs_nx : ∀ c : Dev nD, (run c (cfg0 c) evs).nx = 42 := by decide +kernel

end Cert.KernelIdeal.AR

end
-- ==== Proof.Schedule.lean ====
/-
  The all-reduce's protocol: what the buffers hold while the sums travel the cube, the semaphores'
  single round (who pays what into which cell, and what each payment hands over), and what is owed.
-/
module

public import proofs.«01_k».proof.Proof.Machine
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- The contents of a 2048 x 1024 buffer. -/
abbrev Big (F : FTy → Type) : Type := S2048x1024.Idx → F .bf16
abbrev Slots (F : FTy → Type) : Type := S1792x1024.Idx → F .bf16

/-- The part a row belongs to, and its block in the part. -/
def partOf (r : ℕ) : Fin 3 := if r < 768 then 0 else if r < 1536 then 1 else 2
def blkOf (r : ℕ) : ℕ := (r - base (partOf r)) / sub (partOf r)

/-- One adding round: every device adds, in each part, what the device across the round's edge has. -/
def accStep (j : Fin 3) (x : Dev nD → Big F) : Dev nD → Big F :=
  fun c i => FloatOps.addf (x c i) (x (par (mask (partOf (i 0)) j) c) i)
/-- What the devices have after `n` adding rounds. -/
def acc (P : Dev nD → Big F) : ℕ → Dev nD → Big F
  | 0 => P
  | n + 1 => accStep (Fin.ofNat 3 n) (acc P n)
/-- The result: each block as the device of its number has it after the three rounds. -/
def fin (P : Dev nD → Big F) : Big F := fun i => acc P 3 (dev (blkOf (i 0))) i

theorem acc_succ (P : Dev nD → Big F) (j : Fin 3) : acc P (j.val + 1) = accStep j (acc P j.val) := by
  show accStep (Fin.ofNat 3 j.val) _ = _
  congr 1; exact Fin.ext (Nat.mod_eq_of_lt j.isLt)

/-- What a block of the result holds in each of its states. -/
def oCont (P : Dev nD → Big F) (c : Dev nD) (n : Fin 5) : Big F :=
  if n = 4 then fin P else acc P (n.val - 1) c

/-! ## Buffers, blocks, cells -/

abbrev aM : Memref sig .tc .vmem S2048x1024 .bf16 := Memref.whole cc1_stg0_0
abbrev oM : Memref sig .tc .vmem S2048x1024 .bf16 := Memref.whole cc1_stg1_0
abbrev lM : Memref sig .tc .vmem S1792x1024 .bf16 := Memref.whole cc1_scratch0

/-- Rows `lo` to `lo + n`. -/
def rows (lo n : ℕ) : Finset S2048x1024.Idx := Finset.univ.filter fun i => lo ≤ (i 0).val ∧ (i 0).val < lo + n
def slotRows (lo n : ℕ) : Finset S1792x1024.Idx := Finset.univ.filter fun i => lo ≤ (i 0).val ∧ (i 0).val < lo + n
def blkRows (b : Blk) : Finset S2048x1024.Idx := rows (rowLo b.1 b.2) (sub b.1)
def landRows (s : Fin 42) : Finset S1792x1024.Idx := slotRows (slotLo s) (sub (kOf s))

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev aPts (c : Dev nD) (b : Blk) (f : Big F) : sProp 𝕄 := (aM.view.loc (c : Thread nD τ)) ↦[blkRows b]{fullShare} f
abbrev oPts (c : Dev nD) (b : Blk) (f : Big F) : sProp 𝕄 := (oM.view.loc (c : Thread nD τ)) ↦[blkRows b]{fullShare} f
abbrev lPts (c : Dev nD) (s : Fin 42) (f : Slots F) : sProp 𝕄 := (lM.view.loc (c : Thread nD τ)) ↦[landRows s]{fullShare} f

abbrev barS : Sem sig := ⟨0, by decide⟩
def sendS (s : Fin 42) : DmaSem sig := ⟨9 + s.val, by have := s.isLt; show 9 + s.val < 93; omega⟩
def recvS (s : Fin 42) : DmaSem sig := ⟨51 + s.val, by have := s.isLt; show 51 + s.val < 93; omega⟩

abbrev barC (c : Dev nD) : GSem nD τ sig := ((c : Thread nD τ), .reg barS)
abbrev sendC (c : Dev nD) (s : Fin 42) : GSem nD τ sig := ((c : Thread nD τ), .dma (sendS s))
abbrev recvC (c : Dev nD) (s : Fin 42) : GSem nD τ sig := ((c : Thread nD τ), .dma (recvS s))

/-- The transfer a copy's semaphore belongs to. -/
def xOf (q : DmaSem sig) : Fin 42 := ⟨(q.val - 9) % 42, Nat.mod_lt _ (by decide)⟩
theorem xOf_send (s : Fin 42) : xOf (sendS s) = s := by
  apply Fin.ext; show (9 + s.val - 9) % 42 = s.val; omega
theorem xOf_recv (s : Fin 42) : xOf (recvS s) = s := by
  apply Fin.ext; show (51 + s.val - 9) % 42 = s.val; omega

/-- The amount a transfer pays. -/
def amt (k : Fin 3) : ℕ := RefSig.tileCredit ⟨2, ![sub k, 1024]⟩ .bf16
theorem amt_pos (k : Fin 3) : 0 < amt k := by revert k; decide +kernel

/-! ## What each payment hands over -/

variable (P : Dev nD → Big F)

/-- Device `c`'s slot `s` holds the block its other end sent, as that end had it before round `jOf s`. -/
def Landed (s : Fin 42) (c : Dev nD) (g : Slots F) : Prop :=
  ∀ (i : S1792x1024.Idx) (x : S2048x1024.Idx), i ∈ landRows s →
    (x 0).val + slotLo s = (i 0).val + rowLo (kOf s) (rowV s c) → (x 1).val = (i 1).val →
    g i = acc P (jOf s).val (pr s c) x

/-- The right to the other end's block of the result that transfer `s` deals in. -/
def right (s : Fin 42) (c : Dev nD) : sProp 𝕄 := iprop(∃ f : Big F, oPts (pr s c) (rB s c) f)
/-- Any contents of the landing slot. -/
def slotAny (c : Dev nD) (s : Fin 42) : sProp 𝕄 := iprop(∃ f : Slots F, lPts c s f)

/-- A proposition's assertion, or nothing. -/
def whenB (b : Bool) (p : sProp 𝕄) : sProp 𝕄 := bif b then p else iprop(emp)

/-- What device `c` gets through the barrier for transfer `s`: that the other end's cell is open, its
    landing slot, and for round 0 the block of the result it will complete. -/
def entry (s : Fin 42) (c : Dev nD) : sProp 𝕄 :=
  iprop(reached ER (recvC (pr s c) s) 0 ∗ whenB (isRS s) (slotAny (pr s c) s) ∗ whenB (s.val < 12) (right s c))

/-- The edges, as exponents. -/
def edge (s : Fin 42) : Fin 3 := if mOf s = 1 then 0 else if mOf s = 2 then 1 else 2

def barPay (c : Dev nD) (x : Fin 3) : sProp 𝕄 := bigSep (Finset.univ.filter fun s => edge s = x) fun s => entry s c

/-- Adding transfers land their block in the slot (the block of the result it came from goes with it,
    from round 1 on); gathering ones land the complete block in place. -/
def recvPay (c : Dev nD) (s : Fin 42) : sProp 𝕄 :=
  bif isRS s then iprop((∃ g : Slots F, ⌜Landed P s c g⌝ ∗ lPts c s g) ∗ whenB (12 ≤ s.val) (right s c))
  else oPts c (rB s c) (fin P)
/-- The source given back: of the operand in round 0, of the result when gathering. -/
def sendPay (c : Dev nD) (s : Fin 42) : sProp 𝕄 :=
  bif isRS s then whenB (s.val < 12) (aPts c (sB s c) (P c)) else oPts c (sB s c) (fin P)

def arRd : Rounds.Schedule (GSem nD τ sig) (Fin 3) 𝕄 where
  duties g r := if r = 0 ∧ g.1.2 = .tc then (match g.2 with
    | .reg _ => Finset.univ
    | .dma q => if q.val < 9 then ∅ else {0}) else ∅
  unitless _ := False
  amount g _ _ := match g.2 with
    | .reg _ => 1
    | .dma q => amt (kOf (xOf q))
  payload g _ x := match g.2 with
    | .reg _ => barPay g.1.1 x
    | .dma q => if q.val < 51 then sendPay P g.1.1 (xOf q) else recvPay P g.1.1 (xOf q)
  amount_pos g _ _ _ := by
    rcases g with ⟨t, q | q⟩
    · exact Nat.one_pos
    · exact amt_pos _

instance right_storable (s : Fin 42) (c : Dev nD) : BI.Storable (upEmb : UEmb _ 𝕄) (right (F := F) s c) := by
  unfold right; infer_instance
instance slotAny_storable (c : Dev nD) (s : Fin 42) : BI.Storable (upEmb : UEmb _ 𝕄) (slotAny (F := F) c s) := by
  unfold slotAny; infer_instance
instance whenB_storable (b : Bool) (p : sProp 𝕄) [BI.Storable (upEmb : UEmb _ 𝕄) p] : BI.Storable (upEmb : UEmb _ 𝕄) (whenB b p) := by
  unfold whenB; cases b <;> (dsimp only [cond]; infer_instance)
instance entry_storable (s : Fin 42) (c : Dev nD) : BI.Storable (upEmb : UEmb _ 𝕄) (entry (F := F) s c) := by
  unfold entry; infer_instance
instance barPay_storable (c : Dev nD) (x : Fin 3) : BI.Storable (upEmb : UEmb _ 𝕄) (barPay (F := F) c x) := by
  unfold barPay; infer_instance
instance recvPay_storable (c : Dev nD) (s : Fin 42) : BI.Storable (upEmb : UEmb _ 𝕄) (recvPay P c s) := by
  unfold recvPay; cases isRS s <;> (dsimp only [cond]; infer_instance)
instance sendPay_storable (c : Dev nD) (s : Fin 42) : BI.Storable (upEmb : UEmb _ 𝕄) (sendPay P c s) := by
  unfold sendPay; cases isRS s <;> (dsimp only [cond]; infer_instance)
instance arRd_storable (g : GSem nD τ sig) (r : ℕ) (d : Fin 3) : BI.Storable (upEmb : UEmb _ 𝕄) ((arRd P).payload g r d) := by
  rcases g with ⟨t, q | q⟩
  · show BI.Storable upEmb (barPay t.1 d); infer_instance
  · show BI.Storable upEmb (if q.val < 51 then sendPay P t.1 (xOf q) else recvPay P t.1 (xOf q))
    split <;> infer_instance

section Sched
variable (c : Dev nD) (s : Fin 42)

theorem send_lt : ¬ (sendS s).val < 9 := by show ¬ 9 + s.val < 9; omega
theorem recv_lt : ¬ (recvS s).val < 9 := by show ¬ 51 + s.val < 9; omega
theorem send_lt' : (sendS s).val < 51 := by have := s.isLt; show 9 + s.val < 51; omega
theorem recv_lt' : ¬ (recvS s).val < 51 := by show ¬ 51 + s.val < 51; omega

theorem duties_bar : (arRd P).duties (barC c) 0 = Finset.univ := by dsimp only [arRd]; exact if_pos ⟨rfl, rfl⟩
theorem duties_send : (arRd P).duties (sendC c s) 0 = {0} := by
  dsimp only [arRd]; rw [if_pos ⟨rfl, rfl⟩, if_neg (send_lt s)]
theorem duties_recv : (arRd P).duties (recvC c s) 0 = {0} := by
  dsimp only [arRd]; rw [if_pos ⟨rfl, rfl⟩, if_neg (recv_lt s)]
theorem duties_later (g : GSem nD τ sig) : ∀ r, 1 ≤ r → (arRd P).duties g r = ∅ :=
  fun r hr => by dsimp only [arRd]; exact if_neg (fun h => by omega)
theorem amount_bar (x : Fin 3) : (arRd P).amount (barC c) 0 x = 1 := rfl
theorem amount_send (x : Fin 3) : (arRd P).amount (sendC c s) 0 x = amt (kOf s) := by
  show amt (kOf (xOf (sendS s))) = _; rw [xOf_send]
theorem amount_recv (x : Fin 3) : (arRd P).amount (recvC c s) 0 x = amt (kOf s) := by
  show amt (kOf (xOf (recvS s))) = _; rw [xOf_recv]
theorem expect_bar : (arRd P).expect (barC c) 0 = 3 := by
  unfold Schedule.expect Schedule.amountOf; rw [duties_bar]; rfl
theorem expect_send : (arRd P).expect (sendC c s) 0 = amt (kOf s) := by
  unfold Schedule.expect Schedule.amountOf; rw [duties_send, Finset.sum_singleton, amount_send]
theorem expect_recv : (arRd P).expect (recvC c s) 0 = amt (kOf s) := by
  unfold Schedule.expect Schedule.amountOf; rw [duties_recv, Finset.sum_singleton, amount_recv]
theorem payload_bar (x : Fin 3) : (arRd P).payload (barC c) 0 x = barPay c x := rfl
theorem payload_send (x : Fin 3) : (arRd P).payload (sendC c s) 0 x = sendPay P c s := by
  show (if (sendS s).val < 51 then sendPay P c (xOf (sendS s)) else recvPay P c (xOf (sendS s))) = _
  rw [if_pos (send_lt' s), xOf_send]
theorem payload_recv (x : Fin 3) : (arRd P).payload (recvC c s) 0 x = recvPay P c s := by
  show (if (recvS s).val < 51 then sendPay P c (xOf (recvS s)) else recvPay P c (xOf (recvS s))) = _
  rw [if_neg (recv_lt' s), xOf_recv]
theorem rest_bar : bigSep ((arRd P).duties (barC c) 0 \ ∅) (fun x => (arRd P).payload (barC c) 0 x)
    = bigSep Finset.univ fun x : Fin 3 => barPay c x := by
  rw [Finset.sdiff_empty, duties_bar]; rfl
theorem rest_send : bigSep ((arRd P).duties (sendC c s) 0 \ ∅) (fun x => (arRd P).payload (sendC c s) 0 x) = sendPay P c s := by
  rw [Finset.sdiff_empty, duties_send, bigSep_singleton, payload_send]
theorem rest_recv : bigSep ((arRd P).duties (recvC c s) 0 \ ∅) (fun x => (arRd P).payload (recvC c s) 0 x) = recvPay P c s := by
  rw [Finset.sdiff_empty, duties_recv, bigSep_singleton, payload_recv]

end Sched

/-! ## What is owed, and the order of waiting -/

/-- What device `c` owes once `n` transfers are issued. -/
def owedFrom (n : ℕ) (c : Dev nD) : CellTallies nD τ sig Unit :=
  ∑ s ∈ Finset.univ.filter (fun s : Fin 42 => n ≤ s.val), tallyAt (recvC (pr s c) s) () (amt (kOf s))

theorem owedFrom_step (s : Fin 42) (c : Dev nD) :
    owedFrom s.val c = owedFrom (s.val + 1) c + tallyAt (recvC (pr s c) s) () (amt (kOf s)) := by
  unfold owedFrom
  have : (Finset.univ.filter fun t : Fin 42 => s.val ≤ t.val)
      = insert s (Finset.univ.filter fun t : Fin 42 => s.val + 1 ≤ t.val) := by
    ext t; simp only [Finset.mem_filter, Finset.mem_univ, true_and, Finset.mem_insert, Fin.ext_iff]; omega
  rw [this, Finset.sum_insert (by simp), add_comm]

theorem owedFrom_end (c : Dev nD) : owedFrom 42 c = 0 := by
  unfold owedFrom
  rw [Finset.filter_false_of_mem (fun t _ => by have := t.isLt; omega)]; rfl

def L (g : GSem nD τ sig) : Finset Unit := if g.1.2 = .tc then {()} else ∅
/-- Barrier cells at 1, the receive cell of transfer `s` at `2 + s`, the rest at 0. -/
def lv (g : GSem nD τ sig) (_ : Unit) : ℕ := match g.2 with
  | .reg _ => 1
  | .dma q => if q.val < 51 then 0 else 2 + (q.val - 51)

theorem L_tc (c : Dev nD) (sm : SemLoc sig) : L ((c : Thread nD τ), sm) = {()} := if_pos rfl
theorem L_of_ne (g : GSem nD τ sig) (h : g.1.2 ≠ .tc) : L g = ∅ := if_neg h
theorem lv_recv (c : Dev nD) (s : Fin 42) (u : Unit) : lv (recvC c s) u = 2 + s.val := by
  show (if (recvS s).val < 51 then 0 else 2 + ((recvS s).val - 51)) = _
  rw [if_neg (recv_lt' s)]; show 2 + (51 + s.val - 51) = _; omega
theorem lv_send (c : Dev nD) (s : Fin 42) (u : Unit) : lv (sendC c s) u = 0 := if_pos (send_lt' s)

theorem owedFrom_pos {n : ℕ} {c : Dev nD} {g : GSem nD τ sig} {u : Unit} (h : 0 < owedFrom n c g u) :
    ∃ s : Fin 42, n ≤ s.val ∧ g = recvC (pr s c) s := by
  by_contra hne
  push Not at hne
  refine absurd h (Nat.not_lt.2 (Nat.le_of_eq ?_))
  unfold owedFrom
  rw [Finset.sum_apply, Finsupp.finset_sum_apply]
  refine Finset.sum_eq_zero fun s hs => ?_
  rw [tallyAt_apply]
  exact if_neg fun hh => hne s (Finset.mem_filter.mp hs).2 hh.1

/-- Waiting at a level below everything still owed. -/
theorem mayWait (n : ℕ) (c : Dev nD) (sm : SemLoc sig) (h : lv ((c : Thread nD τ), sm) () < 2 + n) :
    (levAts L lv : sProp 𝕄) ⊢ MayWait (c : Thread nD τ) sm () (owedFrom n c) :=
  MayOwe.of_cut (L := L) (lev := lv) (lv ((c : Thread nD τ), sm) ()) (fun p hp => by rw [Finset.mem_singleton.mp hp, L_tc]; exact Finset.mem_singleton_self _)
    (fun g u hg => by obtain ⟨s, -, rfl⟩ := owedFrom_pos hg; rw [L_tc]; exact Finset.mem_singleton_self _)
    (fun p hp => by rw [Finset.mem_singleton.mp hp])
    (fun g u hg => by obtain ⟨s, hs, rfl⟩ := owedFrom_pos hg; rw [lv_recv]; omega)

end Cert.KernelIdeal.AR

end
-- ==== Proof.Geometry.lean ====
/-
  Rows of the buffers the all-reduce works on, as the kernel's slices address them: which elements a slice
  is, what a load of it reads, what a store into it and a copy between two of them leave.
-/
module

public import proofs.«01_k».proof.Proof.Schedule

@[expose] public section

noncomputable section

namespace Cert.KernelIdeal.AR

open Idealize.ShloMosaic Idealize.ShloMosaic.TcCoe
open Idealize.SL.Sem

variable {F : FTy → Type}

/-- The rectangle of `n` whole rows from `lo` on. -/
abbrev bigR (lo n : ℕ) (inb : ∀ a, (![lo, 0] : Fin 2 → ℕ) a + (![n, 1024] : Fin 2 → ℕ) a ≤ S2048x1024.size a) : Rect S2048x1024 :=
  Rect.unit (s := S2048x1024) ![lo, 0] ![n, 1024] inb
abbrev slotR (lo n : ℕ) (inb : ∀ a, (![lo, 0] : Fin 2 → ℕ) a + (![n, 1024] : Fin 2 → ℕ) a ≤ S1792x1024.size a) : Rect S1792x1024 :=
  Rect.unit (s := S1792x1024) ![lo, 0] ![n, 1024] inb

theorem bigR_set {lo n : ℕ} (inb) : (bigR lo n inb).set = rows lo n := by
  ext i
  rw [Rect.mem_set_unit, rows, Finset.mem_filter]
  constructor
  · intro h; exact ⟨Finset.mem_univ _, h 0⟩
  · rintro ⟨-, h⟩ a
    match a with
    | 0 => exact h
    | 1 => exact ⟨Nat.zero_le _, by have := (i 1).isLt; show _ < 0 + 1024; rw [Nat.zero_add]; exact this⟩
theorem slotR_set {lo n : ℕ} (inb) : (slotR lo n inb).set = slotRows lo n := by
  ext i
  rw [Rect.mem_set_unit, slotRows, Finset.mem_filter]
  constructor
  · intro h; exact ⟨Finset.mem_univ _, h 0⟩
  · rintro ⟨-, h⟩ a
    match a with
    | 0 => exact h
    | 1 => exact ⟨Nat.zero_le _, by have := (i 1).isLt; show _ < 0 + 1024; rw [Nat.zero_add]; exact this⟩

theorem bigR_emb0 {lo n : ℕ} {inb} (j : (bigR lo n inb).shape.Idx) : ((bigR lo n inb).emb j 0).val = lo + (j 0).val := by
  show lo + 1 * (j 0).val = _; rw [Nat.one_mul]
theorem bigR_emb1 {lo n : ℕ} {inb} (j : (bigR lo n inb).shape.Idx) : ((bigR lo n inb).emb j 1).val = (j 1).val := by
  show 0 + 1 * (j 1).val = _; rw [Nat.one_mul, Nat.zero_add]
theorem slotR_emb0 {lo n : ℕ} {inb} (j : (slotR lo n inb).shape.Idx) : ((slotR lo n inb).emb j 0).val = lo + (j 0).val := by
  show lo + 1 * (j 0).val = _; rw [Nat.one_mul]
theorem slotR_emb1 {lo n : ℕ} {inb} (j : (slotR lo n inb).shape.Idx) : ((slotR lo n inb).emb j 1).val = (j 1).val := by
  show 0 + 1 * (j 1).val = _; rw [Nat.one_mul, Nat.zero_add]

theorem idx_ext {x y : S2048x1024.Idx} (h0 : (x 0).val = (y 0).val) (h1 : (x 1).val = (y 1).val) : x = y := by
  funext a
  match a with
  | 0 => exact Fin.ext h0
  | 1 => exact Fin.ext h1

theorem aSet {lo n : ℕ} (inb) (h) : (aM.slice (bigR lo n inb) h).view.set = rows lo n :=
  (View.set_slice_whole cc1_stg0_0 (bigR lo n inb)).trans (bigR_set inb)
theorem oSet {lo n : ℕ} (inb) (h) : (oM.slice (bigR lo n inb) h).view.set = rows lo n :=
  (View.set_slice_whole cc1_stg1_0 (bigR lo n inb)).trans (bigR_set inb)
theorem lSet {lo n : ℕ} (inb) (h) : (lM.slice (slotR lo n inb) h).view.set = slotRows lo n :=
  (View.set_slice_whole cc1_scratch0 (slotR lo n inb)).trans (slotR_set inb)
theorem aSet' {lo n : ℕ} (inb) : (aM.access (bigR lo n inb)).set = rows lo n :=
  (View.set_slice_whole cc1_stg0_0 (bigR lo n inb)).trans (bigR_set inb)
theorem oSet' {lo n : ℕ} (inb) : (oM.access (bigR lo n inb)).set = rows lo n :=
  (View.set_slice_whole cc1_stg1_0 (bigR lo n inb)).trans (bigR_set inb)
theorem lSet' {lo n : ℕ} (inb) : (lM.access (slotR lo n inb)).set = slotRows lo n :=
  (View.set_slice_whole cc1_scratch0 (slotR lo n inb)).trans (slotR_set inb)

/-- A copy of operand rows into a slot. -/
theorem copy_al {row lo n : ℕ} {inb inb' h h'} (fs : Big F) (fd : Slots F) {i : S1792x1024.Idx} {x : S2048x1024.Idx}
    (hi : i ∈ slotRows lo n) (h0 : (x 0).val + lo = (i 0).val + row) (h1 : (x 1).val = (i 1).val) :
    (lM.slice (slotR lo n inb) h).view.write (Elt F) fd ((aM.slice (bigR row n inb') h').view.read (Elt F) fs) Finset.univ i = fs x := by
  rw [← slotR_set inb, ← Rect.map_emb_univ] at hi
  obtain ⟨j, -, rfl⟩ := Finset.mem_map.mp hi
  refine (View.write_emb_of_mem (v := (lM.slice (slotR lo n inb) h).view) (Val := Elt F) fd ((aM.slice (bigR row n inb') h').view.read (Elt F) fs)
    (M := Finset.univ) (x := j) (Finset.mem_univ _)).trans ?_
  show fs ((bigR row n inb').emb j) = fs x
  congr 1
  rw [slotR_emb0] at h0; rw [slotR_emb1] at h1
  refine idx_ext ?_ ?_
  · rw [bigR_emb0 (lo := row)]; omega
  · rw [bigR_emb1 (lo := row)]; omega
/-- A copy of result rows into a slot. -/
theorem copy_ol {row lo n : ℕ} {inb inb' h h'} (fs : Big F) (fd : Slots F) {i : S1792x1024.Idx} {x : S2048x1024.Idx}
    (hi : i ∈ slotRows lo n) (h0 : (x 0).val + lo = (i 0).val + row) (h1 : (x 1).val = (i 1).val) :
    (lM.slice (slotR lo n inb) h).view.write (Elt F) fd ((oM.slice (bigR row n inb') h').view.read (Elt F) fs) Finset.univ i = fs x :=
  copy_al (inb := inb) (inb' := inb') (h := h) (h' := h') fs fd hi h0 h1
/-- A copy of result rows in place. -/
theorem copy_oo {lo n : ℕ} {inb inb' h h'} (fs fd : Big F) {i : S2048x1024.Idx} (hi : i ∈ rows lo n) :
    (oM.slice (bigR lo n inb) h).view.write (Elt F) fd ((oM.slice (bigR lo n inb') h').view.read (Elt F) fs) Finset.univ i = fs i := by
  rw [← bigR_set inb, ← Rect.map_emb_univ] at hi
  obtain ⟨j, -, rfl⟩ := Finset.mem_map.mp hi
  exact View.write_emb_of_mem (v := (oM.slice (bigR lo n inb) h).view) (Val := Elt F) fd ((oM.slice (bigR lo n inb') h').view.read (Elt F) fs)
    (M := Finset.univ) (x := j) (Finset.mem_univ _)
/-- A store into result rows. -/
theorem store_o {lo n : ℕ} {inb} (f : Big F) (w : (bigR lo n inb).shape.Idx → F .bf16) (j : (bigR lo n inb).shape.Idx) :
    (oM.access (bigR lo n inb)).write (Elt F) f w Finset.univ ((bigR lo n inb).emb j) = w j :=
  View.write_emb_of_mem (v := oM.access (bigR lo n inb)) (Val := Elt F) f w (M := Finset.univ) (x := j) (Finset.mem_univ _)
theorem load_a {lo n : ℕ} {inb} (f : Big F) (j : (bigR lo n inb).shape.Idx) :
    (aM.access (bigR lo n inb)).read (Elt F) f j = f ((bigR lo n inb).emb j) := rfl
theorem load_o {lo n : ℕ} {inb} (f : Big F) (j : (bigR lo n inb).shape.Idx) :
    (oM.access (bigR lo n inb)).read (Elt F) f j = f ((bigR lo n inb).emb j) := rfl
theorem load_l {lo n : ℕ} {inb} (f : Slots F) (j : (slotR lo n inb).shape.Idx) :
    (lM.access (slotR lo n inb)).read (Elt F) f j = f ((slotR lo n inb).emb j) := rfl

/-! ## Rows, parts and blocks -/

theorem sub_pos (k : Fin 3) : 0 < sub k := by revert k; decide
theorem row_in (k : Fin 3) (v : Fin 8) : rowLo k v + sub k ≤ 2048 := by revert k v; decide +kernel

theorem part_row (k : Fin 3) (v : Fin 8) {r : ℕ} (h1 : rowLo k v ≤ r) (h2 : r < rowLo k v + sub k) :
    partOf r = k ∧ blkOf r = v.val := by
  have hv := v.isLt
  have key : partOf r = k := by
    unfold partOf
    match k with
    | 0 => simp only [rowLo, base, sub, Fin.val_zero, List.getD_cons_zero] at h1 h2; rw [if_pos (by omega)]
    | 1 =>
      simp only [rowLo, base, sub, Fin.val_one, List.getD_cons_succ, List.getD_cons_zero] at h1 h2
      rw [if_neg (by omega), if_pos (by omega)]
    | 2 =>
      simp only [rowLo, base, sub, Fin.val_two, List.getD_cons_succ, List.getD_cons_zero] at h1 h2
      rw [if_neg (by omega), if_neg (by omega)]
  refine ⟨key, ?_⟩
  unfold blkOf; rw [key]
  unfold rowLo at h1 h2
  have hs : 0 < sub k := sub_pos k
  refine Nat.div_eq_of_lt_le ?_ ?_
  · omega
  · rw [Nat.succ_mul]; omega

theorem mem_blk {b : Blk} {i : S2048x1024.Idx} (h : i ∈ blkRows b) : partOf (i 0) = b.1 ∧ blkOf (i 0) = b.2.val := by
  obtain ⟨-, h1, h2⟩ := Finset.mem_filter.mp h
  exact part_row b.1 b.2 h1 h2

end Cert.KernelIdeal.AR

end
-- ==== Proof.State.lean ====
/-
  What a device holds at each control state of the all-reduce, and one lemma per event: a kernel step at a
  state that allows its event may be taken, and leaves the state after the event.
-/
module

public import proofs.«01_k».proof.Proof.Geometry

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Big F)

/-! ## The state -/

/-- What everybody knows: every cell's invariant, at the names `K`, and the levels. -/
def Inv (K : GSem nD τ sig → ℕ) : sProp 𝕄 :=
  iprop((bigSep Finset.univ fun d : Dev nD => cellInv ER (arRd P) (K (barC d)) (barC d))
    ∗ (bigSep Finset.univ fun x : Dev nD × Fin 42 => cellInv ER (arRd P) (K (sendC x.1 x.2)) (sendC x.1 x.2))
    ∗ (bigSep Finset.univ fun x : Dev nD × Fin 42 => cellInv ER (arRd P) (K (recvC x.1 x.2)) (recvC x.1 x.2))
    ∗ levAts L lv)

instance Inv_persistent (K : GSem nD τ sig → ℕ) : BI.Persistent (Inv P K) := by unfold Inv; infer_instance

theorem Inv_bar (K : GSem nD τ sig → ℕ) (d : Dev nD) : Inv P K ⊢ cellInv ER (arRd P) (K (barC d)) (barC d) := by
  unfold Inv; iintro ⟨H, -, -, -⟩
  have e : (bigSep Finset.univ fun d : Dev nD => cellInv ER (arRd P) (K (barC d)) (barC d) : sProp 𝕄)
    ⊢ cellInv ER (arRd P) (K (barC d)) (barC d) := bigSep_elim (Finset.mem_univ d)
  iapply e; iexact H
theorem Inv_send (K : GSem nD τ sig → ℕ) (d : Dev nD) (s : Fin 42) : Inv P K ⊢ cellInv ER (arRd P) (K (sendC d s)) (sendC d s) := by
  unfold Inv; iintro ⟨-, H, -, -⟩
  have e : (bigSep Finset.univ fun x : Dev nD × Fin 42 => cellInv ER (arRd P) (K (sendC x.1 x.2)) (sendC x.1 x.2) : sProp 𝕄)
    ⊢ cellInv ER (arRd P) (K (sendC d s)) (sendC d s) := bigSep_elim (Finset.mem_univ (d, s))
  iapply e; iexact H
theorem Inv_recv (K : GSem nD τ sig → ℕ) (d : Dev nD) (s : Fin 42) : Inv P K ⊢ cellInv ER (arRd P) (K (recvC d s)) (recvC d s) := by
  unfold Inv; iintro ⟨-, -, H, -⟩
  have e : (bigSep Finset.univ fun x : Dev nD × Fin 42 => cellInv ER (arRd P) (K (recvC x.1 x.2)) (recvC x.1 x.2) : sProp 𝕄)
    ⊢ cellInv ER (arRd P) (K (recvC d s)) (recvC d s) := bigSep_elim (Finset.mem_univ (d, s))
  iapply e; iexact H
theorem Inv_lev (K : GSem nD τ sig → ℕ) : Inv P K ⊢ levAts L lv := by
  unfold Inv; iintro ⟨-, -, -, H⟩; iexact H

def landedSlot (s : Fin 42) (c : Dev nD) : sProp 𝕄 := iprop(∃ g : Slots F, ⌜Landed P s c g⌝ ∗ lPts c s g)
def crd (g : GSem nD τ sig) (s : Fin 42) : sProp 𝕄 := cred (tallyAt g () (amt (kOf s)))

/-- What device `c` holds of transfer `s`: before issuing it, with it in flight, with its source back, with its
    block received, and with the right that came with the block spent. -/
def tI0 (c : Dev nD) (s : Fin 42) : sProp 𝕄 :=
  iprop(dutyTok ER (sendC c s) 0 0 ∗ reached ER (sendC c s) 0 ∗ dutyTok ER (recvC (pr s c) s) 0 0
      ∗ atPos ER (sendC c s) 0 ∅ 0 ∗ atPos ER (recvC c s) 0 ∅ 0 ∗ crd (recvC c s) s ∗ entry s c)
def tI1 (c : Dev nD) (s : Fin 42) : sProp 𝕄 :=
  iprop(crd (sendC c s) s ∗ atPos ER (sendC c s) 0 ∅ 0 ∗ atPos ER (recvC c s) 0 ∅ 0 ∗ crd (recvC c s) s ∗ whenB (s.val < 12) (right s c))
def tI2 (c : Dev nD) (s : Fin 42) : sProp 𝕄 :=
  iprop(atPos ER (sendC c s) (0 + 1) ∅ 0 ∗ atPos ER (recvC c s) 0 ∅ 0 ∗ crd (recvC c s) s ∗ whenB (s.val < 12) (right s c))
def tI3 (c : Dev nD) (s : Fin 42) : sProp 𝕄 :=
  iprop(atPos ER (sendC c s) (0 + 1) ∅ 0 ∗ atPos ER (recvC c s) (0 + 1) ∅ 0 ∗ whenB (isRS s) (iprop(landedSlot P s c ∗ right s c)))
def tI4 (c : Dev nD) (s : Fin 42) : sProp 𝕄 :=
  iprop(atPos ER (sendC c s) (0 + 1) ∅ 0 ∗ atPos ER (recvC c s) (0 + 1) ∅ 0 ∗ slotAny c s)
def tItem (c : Dev nD) (s : Fin 42) (n : Fin 5) : sProp 𝕄 := match n with
  | 0 => tI0 c s
  | 1 => tI1 c s
  | 2 => tI2 c s
  | 3 => tI3 P c s
  | 4 => tI4 c s
def pItem (c : Dev nD) (b : Blk) (x : Bool) : sProp 𝕄 := whenB x (aPts c b (P c))
def oItem (c : Dev nD) (b : Blk) (n : Fin 5) : sProp 𝕄 := match n with
  | 0 => iprop(emp)
  | 1 => iprop(∃ f : Big F, oPts c b f)
  | n => oPts c b (oCont P c n)

def TT (c : Dev nD) (T : Fin 42 → Fin 5) : sProp 𝕄 := bigSep Finset.univ fun s => tItem P c s (T s)
def PP (c : Dev nD) (f : Blk → Bool) : sProp 𝕄 := bigSep Finset.univ fun b => pItem P c b (f b)
def OO (c : Dev nD) (f : Blk → Fin 5) : sProp 𝕄 := bigSep Finset.univ fun b => oItem P c b (f b)
def Ow (n : ℕ) (c : Dev nD) : sProp 𝕄 := iprop(∃ W, owes (c : Thread nD τ) (owedFrom n c) W)

/-- Device `c`'s holdings at control state `γ`, beside `R`. -/
def St (K : GSem nD τ sig → ℕ) (R : sProp 𝕄) (c : Dev nD) (γ : Cfg) : sProp 𝕄 :=
  iprop(Inv P K ∗ Ow γ.nx c ∗ TT P c γ.T ∗ PP P c γ.PB ∗ OO P c γ.OB ∗ R)

theorem TT_take {c : Dev nD} {T : Fin 42 → Fin 5} (s : Fin 42) {n : Fin 5} (h : T s = n) {X : sProp 𝕄} (hX : tItem P c s n = X) :
    TT P c T ⊢ iprop(X ∗ ∀ m, tItem P c s m -∗ TT P c (Function.update T s m)) := by
  subst h hX; exact bigSep_univ_turn (fun s n => tItem P c s n) T s
theorem PP_take {c : Dev nD} {f : Blk → Bool} (b : Blk) {n : Bool} (h : f b = n) {X : sProp 𝕄} (hX : pItem P c b n = X) :
    PP P c f ⊢ iprop(X ∗ ∀ m, pItem P c b m -∗ PP P c (Function.update f b m)) := by
  subst h hX; exact bigSep_univ_turn (fun s n => pItem P c s n) f b
theorem OO_take {c : Dev nD} {f : Blk → Fin 5} (b : Blk) {n : Fin 5} (h : f b = n) {X : sProp 𝕄} (hX : oItem P c b n = X) :
    OO P c f ⊢ iprop(X ∗ ∀ m, oItem P c b m -∗ OO P c (Function.update f b m)) := by
  subst h hX; exact bigSep_univ_turn (fun s n => oItem P c s n) f b

theorem whenB_true {b : Bool} (p : sProp 𝕄) (h : b = true) : whenB b p = p := by subst h; rfl
theorem whenB_false {b : Bool} (p : sProp 𝕄) (h : b = false) : whenB b p = iprop(emp) := by subst h; rfl

theorem oItem_hold {c : Dev nD} {b : Blk} {n : Fin 5} (h : 2 ≤ n.val) : oItem P c b n = oPts c b (oCont P c n) := by
  match n, h with
  | 2, _ => rfl
  | 3, _ => rfl
  | 4, _ => rfl

theorem pr_sB (s : Fin 42) (c : Dev nD) : rB s (pr s c) = sB s c := rfl
theorem pr_rB (s : Fin 42) (c : Dev nD) : sB s (pr s c) = rB s c := by unfold sB rB; rw [pr_pr]

variable {Λ : Labels} (defs : Defs nD τ sig (Elt F) Λ) {α : Type} (K : GSem nD τ sig → ℕ) (c : Dev nD) (γ : Cfg)
variable (k : PUnit → Prog (TpuEff nD τ sig (Elt F) Λ (c : Thread nD τ).2) α)

theorem mem_send (s : Fin 42) : (0 : Fin 3) ∈ (arRd P).duties (sendC c s) 0 := by
  rw [duties_send]; exact Finset.mem_singleton_self _
theorem mem_recv (s : Fin 42) : (0 : Fin 3) ∈ (arRd P).duties (recvC c s) 0 := by
  rw [duties_recv]; exact Finset.mem_singleton_self _

theorem jOf_A (s : Fin 42) (h : s.val < 12) : jOf s = 0 := by revert h; revert s; decide +kernel
theorem jOf_B (s : Fin 42) (h : 12 ≤ s.val) (h' : s.val < 21) : jOf s ≠ 0 := by revert h h'; revert s; decide +kernel
theorem rowV_last (s : Fin 42) (c : Dev nD) (h : s.val < 21) (hj : jOf s = 2) : (rowV s c).val = lab c := by
  revert h hj; revert s c; decide +kernel
theorem isRS_true {s : Fin 42} (h : s.val < 21) : isRS s = true := decide_eq_true h
theorem isRS_false {s : Fin 42} (h : 21 ≤ s.val) : isRS s = false := decide_eq_false (by omega)

theorem oCont_lev (s : Fin 42) (c : Dev nD) : oCont P c (lev s) = acc P (jOf s).val c := by
  unfold oCont lev
  rw [if_neg (fun h => by have := congrArg Fin.val h; have := (jOf s).isLt; simp only [] at *; omega)]; rfl

/-- After round `jOf s`'s addition the block holds what its state says. -/
theorem oCont_lev' (s : Fin 42) (c : Dev nD) (hs : s.val < 21) {x : S2048x1024.Idx} (hx : x ∈ blkRows (rB s c)) :
    oCont P c (lev' s) x = acc P ((jOf s).val + 1) c x := by
  unfold oCont
  by_cases hj : jOf s = 2
  · have h4 : lev' s = 4 := Fin.ext (show (jOf s).val + 2 = 4 by rw [hj]; rfl)
    rw [if_pos h4]
    show acc P 3 (dev (blkOf (x 0))) x = _
    rw [(mem_blk hx).2]
    show acc P 3 (dev (rowV s c).val) x = _
    rw [rowV_last s c hs hj, dev_lab, hj]; rfl
  · have h4 : lev' s ≠ 4 := fun h => by
      have h1 := congrArg Fin.val h
      have h2 := (jOf s).isLt
      have h3 : (jOf s).val ≠ 2 := fun e => hj (Fin.ext e)
      have h5 : (lev' s).val = (jOf s).val + 2 := rfl
      have h6 : ((4 : Fin 5)).val = 4 := rfl
      omega
    rw [if_neg h4]; rfl

/-! ## Issuing -/

set_option maxHeartbeats 1000000 in
theorem st_sendA (R : sProp 𝕄) (Q : α → sProp 𝕄) (s : Fin 42) {n : ℕ} (hn : n = sub (kOf s)) {off off' : Fin 2 → ℕ} {inb inb' h h'}
    (hoff : off = ![rowLo (kOf s) (rowV s (pr s c)), 0]) (hoff' : off' = ![slotLo s, 0])
    {d : Dev nD} (hd : d = pr s c) {q q' : DmaSem sig} (hq : q = sendS s) (hq' : q' = recvS s) {hsc hsrc hdst hsem}
    (hk : St P K R c (step c γ (.sendA s)) ⊢ wp frame (wpE defs 𝒱₀ (c : Thread nD τ) none) Set.univ (k ⟨⟩) Q)
    (hok : ok c γ (.sendA s) = true) :
    St P K R c γ ⊢ wp frame (wpE defs 𝒱₀ (c : Thread nD τ) none) Set.univ
      (.op (.enqueueDma (aM.slice (Rect.unit (s := S2048x1024) off ![n, 1024] inb) h)
        (.remote (Dev.tc d) (lM.slice (Rect.unit (s := S1792x1024) off' ![n, 1024] inb') h') (.dma q) hsc) (.dma q') hsrc hdst hsem) k) Q := by
  subst hn hoff hoff' hd hq hq'
  simp only [ok, Bool.and_eq_true, beq_iff_eq, decide_eq_true_eq] at hok
  obtain ⟨⟨⟨hnx, hT⟩, hPB⟩, hs⟩ := hok
  have hrs : isRS s = true := by unfold isRS; exact decide_eq_true (by omega)
  have hs12 : decide (s.val < 12) = true := decide_eq_true hs
  have hs12' : decide (12 ≤ s.val) = false := decide_eq_false (by omega)
  unfold St Ow
  iintro ⟨#HI, ⟨%W, HO⟩, HT, HP, HB, HR⟩
  ihave ⟨Hs, HTk⟩ := (TT_take P s hT (X := tI0 c s) rfl) $$ HT
  ihave ⟨Ha, HPk⟩ := (PP_take P (sB s c) hPB (X := aPts c (sB s c) (P c)) rfl) $$ HP
  unfold tI0 entry
  rw [whenB_true _ hrs, whenB_true _ hs12]
  unfold slotAny
  icases Hs with ⟨HtS, #HrS, HtN, HaS, HaR, HcR, ⟨#HrN, ⟨%fd, Hl⟩, Hright⟩⟩
  have hO : owedFrom γ.nx c = owedFrom (s.val + 1) c + tallyAt (recvC (pr s c) s) () (amt (kOf s)) := by
    rw [hnx]; exact owedFrom_step s c
  have hN : (lM.slice (Rect.unit (s := S1792x1024) ![slotLo s, 0] ![sub (kOf s), 1024] inb') h').view.amount (.dma (recvS s)) = amt (kOf s) := rfl
  have hr : τ.routes (c : Thread nD τ) (pr s c : Thread nD τ) = true := by routes
  iapply (Rounds.wp_send_pointsTo 𝒱₀ ER (arRd P) (c : Thread nD τ) none (c' := (pr s c : Thread nD τ))
      (sS := .dma (sendS s)) (sem := .dma (recvS s)) (q := fullShare) (fs := P c) (fd := fd) (κ₁ := K (sendC c s)) (κ₂ := K (recvC (pr s c) s))
      (r₁ := 0) (r₂ := 0) (d₁ := 0) (d₂ := 0)
      (mem_send P c s) (mem_recv P (pr s c) s)
      () () (amt (kOf s)) hN (amount_send P c s 0) (amount_recv P (pr s c) s 0) (owedFrom (s.val + 1) c) hO (W := W)
      ?_ ?_ (hr := hr)) $$ [Ha Hl HO HtS HtN]
  · rw [payload_send, sendPay, hrs, aSet]
    exact Entails.of_eq (whenB_true (aPts c (sB s c) (P c)) hs12).symm
  · rw [payload_recv, recvPay, hrs]
    dsimp only [cond]
    rw [whenB_false _ hs12', lSet inb' h']
    iintro H
    isplitl; swap; · iempintro
    iexists _
    isplitr; swap; · iexact H
    ipureintro
    intro i x hi h0 h1
    refine (copy_al (row := rowLo (kOf s) (rowV s (pr s c))) (inb := inb') (inb' := inb) (h := h') (h' := h) (P c) fd hi h0 h1).trans ?_
    · rw [pr_pr]
      rw [jOf_A s hs]; rfl
  · isplitr; · iapply (Inv_send P K c s); iexact HI
    isplitr; · iapply (Inv_recv P K (pr s c) s); iexact HI
    isplitl [Ha]
    · rw [aSet]; iexact Ha
    isplitl [Hl]
    · rw [lSet]; iexact Hl
    isplitl [HO]; · iexact HO
    isplitl [HtS]; · iexact HtS
    isplitr; · iexact HrS
    isplitl [HtN]; · iexact HtN
    iexact HrN
  iintro ⟨HcS, HO⟩
  iapply hk
  unfold St Ow
  dsimp only [step]
  isplitr; · iexact HI
  isplitl [HO]; · iexists W; rw [hnx]; iexact HO
  isplitl [HTk HcS HaS HaR HcR Hright]
  · iapply HTk; iapply (Entails.of_eq (show tI1 c s = tItem P c s 1 from rfl)); unfold tI1 crd
    rw [whenB_true _ hs12]
    isplitl [HcS]; · iexact HcS
    isplitl [HaS]; · iexact HaS
    isplitl [HaR]; · iexact HaR
    isplitl [HcR]; · iexact HcR
    iexact Hright
  isplitl [HPk]
  · iapply HPk; iapply (Entails.of_eq (show iprop(emp) = pItem P c (sB s c) false from rfl)); iempintro
  isplitl [HB]; · iexact HB
  iexact HR

set_option maxHeartbeats 1000000 in
theorem st_sendB (R : sProp 𝕄) (Q : α → sProp 𝕄) (s : Fin 42) {n : ℕ} (hn : n = sub (kOf s)) {off off' : Fin 2 → ℕ} {inb inb' h h'}
    (hoff : off = ![rowLo (kOf s) (rowV s (pr s c)), 0]) (hoff' : off' = ![slotLo s, 0])
    {d : Dev nD} (hd : d = pr s c) {q q' : DmaSem sig} (hq : q = sendS s) (hq' : q' = recvS s) {hsc hsrc hdst hsem}
    (hk : St P K R c (step c γ (.sendB s)) ⊢ wp frame (wpE defs 𝒱₀ (c : Thread nD τ) none) Set.univ (k ⟨⟩) Q)
    (hok : ok c γ (.sendB s) = true) :
    St P K R c γ ⊢ wp frame (wpE defs 𝒱₀ (c : Thread nD τ) none) Set.univ
      (.op (.enqueueDma (oM.slice (Rect.unit (s := S2048x1024) off ![n, 1024] inb) h)
        (.remote (Dev.tc d) (lM.slice (Rect.unit (s := S1792x1024) off' ![n, 1024] inb') h') (.dma q) hsc) (.dma q') hsrc hdst hsem) k) Q := by
  subst hn hoff hoff' hd hq hq'
  simp only [ok, Bool.and_eq_true, beq_iff_eq, decide_eq_true_eq] at hok
  obtain ⟨⟨⟨⟨hnx, hT⟩, hOB⟩, hs'⟩, hs⟩ := hok
  have hrs : isRS s = true := isRS_true hs
  have hs12 : decide (s.val < 12) = false := decide_eq_false (by omega)
  have hs12' : decide (12 ≤ s.val) = true := decide_eq_true hs'
  have hl2 : 2 ≤ (lev s).val := by
    have := jOf_B s hs' hs
    have h0 : (jOf s).val ≠ 0 := fun e => this (Fin.ext e)
    have h1 : (lev s).val = (jOf s).val + 1 := rfl
    omega
  unfold St Ow
  iintro ⟨#HI, ⟨%W, HO⟩, HT, HP, HB, HR⟩
  ihave ⟨Hs, HTk⟩ := (TT_take P s hT (X := tI0 c s) rfl) $$ HT
  ihave ⟨Ha, HBk⟩ := (OO_take P (sB s c) hOB (X := oPts c (sB s c) (acc P (jOf s).val c))
    (by rw [oItem_hold P hl2, oCont_lev])) $$ HB
  unfold tI0 entry
  rw [whenB_true _ hrs, whenB_false _ hs12]
  unfold slotAny
  icases Hs with ⟨HtS, #HrS, HtN, HaS, HaR, HcR, ⟨#HrN, ⟨%fd, Hl⟩, -⟩⟩
  have hN : (lM.slice (Rect.unit (s := S1792x1024) ![slotLo s, 0] ![sub (kOf s), 1024] inb') h').view.amount (.dma (recvS s)) = amt (kOf s) := rfl
  have hr : τ.routes (c : Thread nD τ) (pr s c : Thread nD τ) = true := by routes
  have hO : owedFrom γ.nx c = owedFrom (s.val + 1) c + tallyAt (recvC (pr s c) s) () (amt (kOf s)) := by
    rw [hnx]; exact owedFrom_step s c
  iapply (Rounds.wp_send_landing_pointsTo 𝒱₀ ER (arRd P) (c : Thread nD τ) none (c' := (pr s c : Thread nD τ))
      (sS := .dma (sendS s)) (sem := .dma (recvS s)) (q := fullShare) (fs := acc P (jOf s).val c) (fd := fd) (κ₁ := K (sendC c s)) (κ₂ := K (recvC (pr s c) s))
      (r₁ := 0) (r₂ := 0) (d₁ := 0) (d₂ := 0) (mem_send P c s) (mem_recv P (pr s c) s)
      () () (amt (kOf s)) hN (amount_send P c s 0) (amount_recv P (pr s c) s 0) (owedFrom (s.val + 1) c) hO (W := W)
      ?_ ?_ (hr := hr)) $$ [Ha Hl HO HtS HtN]
  · rw [payload_send, sendPay, hrs]
    exact Entails.of_eq (whenB_false (aPts c (sB s c) (P c)) hs12).symm
  · rw [payload_recv, recvPay, hrs]
    dsimp only [cond]
    rw [whenB_true _ hs12', lSet inb' h', oSet inb h]
    iintro ⟨H, Ho⟩
    isplitl [H]
    · iexists _
      isplitr; swap; · iexact H
      ipureintro
      intro i x hi h0 h1
      refine (copy_ol (row := rowLo (kOf s) (rowV s (pr s c))) (inb := inb') (inb' := inb) (h := h') (h' := h) (acc P (jOf s).val c) fd hi h0 h1).trans ?_
      rw [pr_pr]
    · unfold right
      rw [pr_pr]
      iexists _; iexact Ho
  · isplitr; · iapply (Inv_send P K c s); iexact HI
    isplitr; · iapply (Inv_recv P K (pr s c) s); iexact HI
    isplitl [Ha]
    · rw [oSet]; iexact Ha
    isplitl [Hl]
    · rw [lSet]; iexact Hl
    isplitl [HO]; · iexact HO
    isplitl [HtS]; · iexact HtS
    isplitr; · iexact HrS
    isplitl [HtN]; · iexact HtN
    iexact HrN
  iintro ⟨HcS, HO⟩
  iapply hk
  unfold St Ow
  dsimp only [step]
  isplitr; · iexact HI
  isplitl [HO]; · iexists W; rw [hnx]; iexact HO
  isplitl [HTk HcS HaS HaR HcR]
  · iapply HTk; iapply (Entails.of_eq (show tI1 c s = tItem P c s 1 from rfl)); unfold tI1 crd
    rw [whenB_false _ hs12]
    isplitl [HcS]; · iexact HcS
    isplitl [HaS]; · iexact HaS
    isplitl [HaR]; · iexact HaR
    isplitl [HcR]; · iexact HcR
    iempintro
  isplitl [HP]; · iexact HP
  isplitl [HBk]
  · iapply HBk; iapply (Entails.of_eq (show iprop(emp) = oItem P c (sB s c) 0 from rfl)); iempintro
  iexact HR

set_option maxHeartbeats 1000000 in
theorem st_sendG (R : sProp 𝕄) (Q : α → sProp 𝕄) (s : Fin 42) {n : ℕ} (hn : n = sub (kOf s)) {off : Fin 2 → ℕ} {inb inb' h h'}
    (hoff : off = ![rowLo (kOf s) (rowV s (pr s c)), 0])
    {d : Dev nD} (hd : d = pr s c) {q q' : DmaSem sig} (hq : q = sendS s) (hq' : q' = recvS s) {hsc hsrc hdst hsem}
    (hk : St P K R c (step c γ (.sendG s)) ⊢ wp frame (wpE defs 𝒱₀ (c : Thread nD τ) none) Set.univ (k ⟨⟩) Q)
    (hok : ok c γ (.sendG s) = true) :
    St P K R c γ ⊢ wp frame (wpE defs 𝒱₀ (c : Thread nD τ) none) Set.univ
      (.op (.enqueueDma (oM.slice (Rect.unit (s := S2048x1024) off ![n, 1024] inb) h)
        (.remote (Dev.tc d) (oM.slice (Rect.unit (s := S2048x1024) off ![n, 1024] inb') h') (.dma q) hsc) (.dma q') hsrc hdst hsem) k) Q := by
  subst hn hoff hd hq hq'
  simp only [ok, Bool.and_eq_true, beq_iff_eq, decide_eq_true_eq, bne_iff_ne] at hok
  obtain ⟨⟨⟨⟨⟨⟨⟨⟨hnx, hT⟩, hOB⟩, hs⟩, hTr⟩, hne⟩, hrr⟩, hb⟩, hp⟩ := hok
  have hrs : isRS s = false := isRS_false hs
  have hs12 : decide (s.val < 12) = false := decide_eq_false (by omega)
  have hT' : Function.update γ.T (rsOf s c) 4 s = 0 := by rw [Function.update_of_ne (Ne.symm hne)]; exact hT
  unfold St Ow
  iintro ⟨#HI, ⟨%W, HO⟩, HT, HP, HB, HR⟩
  ihave ⟨Hq, HTk⟩ := (TT_take P (rsOf s c) hTr (X := tI3 P c (rsOf s c)) rfl) $$ HT
  unfold tI3
  rw [whenB_true _ hrr]
  unfold landedSlot right
  rw [hb, hp]
  icases Hq with ⟨Haq, Haq', ⟨⟨%g, -, Hg⟩, ⟨%fd, Hd⟩⟩⟩
  ihave HT := HTk $$ [Haq Haq' Hg]
  · iapply (Entails.of_eq (show tI4 c (rsOf s c) = tItem P c (rsOf s c) 4 from rfl)); unfold tI4 slotAny
    isplitl [Haq]; · iexact Haq
    isplitl [Haq']; · iexact Haq'
    iexists g; iexact Hg
  ihave ⟨Hs, HTk⟩ := (TT_take P s hT' (X := tI0 c s) rfl) $$ HT
  ihave ⟨Ha, HBk⟩ := (OO_take P (sB s c) hOB (X := oPts c (sB s c) (fin P)) rfl) $$ HB
  unfold tI0 entry
  rw [whenB_false _ hrs, whenB_false _ hs12]
  icases Hs with ⟨HtS, #HrS, HtN, HaS, HaR, HcR, ⟨#HrN, -, -⟩⟩
  have hN : (oM.slice (Rect.unit (s := S2048x1024) ![rowLo (kOf s) (rowV s (pr s c)), 0] ![sub (kOf s), 1024] inb') h').view.amount (.dma (recvS s)) = amt (kOf s) := rfl
  have hr : τ.routes (c : Thread nD τ) (pr s c : Thread nD τ) = true := by routes
  have hO : owedFrom γ.nx c = owedFrom (s.val + 1) c + tallyAt (recvC (pr s c) s) () (amt (kOf s)) := by
    rw [hnx]; exact owedFrom_step s c
  iapply (Rounds.wp_send_pointsTo 𝒱₀ ER (arRd P) (c : Thread nD τ) none (c' := (pr s c : Thread nD τ))
      (sS := .dma (sendS s)) (sem := .dma (recvS s)) (q := fullShare) (fs := fin P) (fd := fd) (κ₁ := K (sendC c s)) (κ₂ := K (recvC (pr s c) s))
      (r₁ := 0) (r₂ := 0) (d₁ := 0) (d₂ := 0) (mem_send P c s) (mem_recv P (pr s c) s)
      () () (amt (kOf s)) hN (amount_send P c s 0) (amount_recv P (pr s c) s 0) (owedFrom (s.val + 1) c) hO (W := W)
      ?_ ?_ (hr := hr)) $$ [Ha Hd HO HtS HtN]
  · rw [payload_send, sendPay, hrs, oSet]
    exact BI.Entails.refl _
  · rw [payload_recv, recvPay, hrs, oSet]
    exact Entails.of_eq (pointsTo_congr fun i hi => copy_oo (inb := inb') (inb' := inb) (h := h') (h' := h) (fin P) fd hi)
  · isplitr; · iapply (Inv_send P K c s); iexact HI
    isplitr; · iapply (Inv_recv P K (pr s c) s); iexact HI
    isplitl [Ha]
    · rw [oSet]; iexact Ha
    isplitl [Hd]
    · rw [oSet]; iexact Hd
    isplitl [HO]; · iexact HO
    isplitl [HtS]; · iexact HtS
    isplitr; · iexact HrS
    isplitl [HtN]; · iexact HtN
    iexact HrN
  iintro ⟨HcS, HO⟩
  iapply hk
  unfold St Ow
  dsimp only [step]
  isplitr; · iexact HI
  isplitl [HO]; · iexists W; rw [hnx]; iexact HO
  isplitl [HTk HcS HaS HaR HcR]
  · iapply HTk; iapply (Entails.of_eq (show tI1 c s = tItem P c s 1 from rfl)); unfold tI1 crd
    rw [whenB_false _ hs12]
    isplitl [HcS]; · iexact HcS
    isplitl [HaS]; · iexact HaS
    isplitl [HaR]; · iexact HaR
    isplitl [HcR]; · iexact HcR
    iempintro
  isplitl [HP]; · iexact HP
  isplitl [HBk]
  · iapply HBk; iapply (Entails.of_eq (show iprop(emp) = oItem P c (sB s c) 0 from rfl)); iempintro
  iexact HR

/-! ## Waiting -/

theorem right_either (s : Fin 42) (c : Dev nD) :
    iprop(whenB (s.val < 12) (right s c) ∗ whenB (12 ≤ s.val) (right s c)) ⊢ (right s c : sProp 𝕄) := by
  by_cases h : s.val < 12
  · rw [whenB_true _ (decide_eq_true h), whenB_false _ (decide_eq_false (by omega))]
    iintro ⟨H, -⟩; iexact H
  · rw [whenB_false _ (decide_eq_false h), whenB_true _ (decide_eq_true (by omega))]
    iintro ⟨-, H⟩; iexact H

set_option maxHeartbeats 1000000 in
theorem st_doneA (R : sProp 𝕄) (Q : α → sProp 𝕄) (s : Fin 42) {q : DmaSem sig} (hq : q = sendS s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt (kOf s))
    (hk : St P K R c (step c γ (.doneA s)) ⊢ wp frame (wpE defs 𝒱₀ (c : Thread nD τ) none) Set.univ (k ⟨⟩) Q)
    (hok : ok c γ (.doneA s) = true) :
    St P K R c γ ⊢ wp frame (wpE defs 𝒱₀ (c : Thread nD τ) none) Set.univ
      (.op (.waitDma2 q src dst hsrc hdst) k) Q := by
  subst hq
  simp only [ok, Bool.and_eq_true, beq_iff_eq, decide_eq_true_eq] at hok
  obtain ⟨⟨hT, hs⟩, hPB⟩ := hok
  have hrs : isRS s = true := isRS_true (by omega)
  have hs12 : decide (s.val < 12) = true := decide_eq_true hs
  unfold St Ow
  iintro ⟨#HI, ⟨%W, HO⟩, HT, HP, HB, HR⟩
  ihave ⟨Hs, HTk⟩ := (TT_take P s hT (X := tI1 c s) rfl) $$ HT
  ihave ⟨-, HPk⟩ := (PP_take P (sB s c) hPB (X := iprop(emp)) rfl) $$ HP
  unfold tI1 crd
  icases Hs with ⟨HcS, HaS, HaR, HcR, Hw⟩
  iapply (Rounds.wp_wait_rest_token 𝒱₀ ER (arRd P) (c : Thread nD τ) none (κ := K (sendC c s))
      (wpE_waitDma2_eq (src := src) (dst := dst) (hsrc := hsrc) (hdst := hdst) 𝒱₀ (c : Thread nD τ) none Set.univ) (Set.mem_univ _) () (O := owedFrom γ.nx c) (W := W) (R := 0) (m := 0) (T := ∅)
      ((Nat.zero_add _).trans (hN.trans (expect_send P c s).symm))) $$ [HcS HO HaS]
  · isplitr; · iapply (Inv_send P K c s); iexact HI
    isplitl [HcS]; · rw [hN]; iexact HcS
    isplitl [HO]; · iexact HO
    isplitr; · iapply (mayWait γ.nx c (.dma (sendS s)) (by rw [lv_send]; omega)); iapply (Inv_lev P K); iexact HI
    iexact HaS
  iintro ⟨HO, HaS, -, Hpay⟩
  ihave Hpay := (Entails.of_eq (rest_send P c s)) $$ Hpay
  ihave Hpay := (Entails.of_eq (show sendPay P c s = aPts c (sB s c) (P c) by rw [sendPay, hrs]; exact whenB_true _ hs12)) $$ Hpay
  iapply hk
  unfold St Ow
  dsimp only [step]
  isplitr; · iexact HI
  isplitl [HO]; · iexists _; iexact HO
  isplitl [HTk HaS HaR HcR Hw]
  · iapply HTk; iapply (Entails.of_eq (show tI2 c s = tItem P c s 2 from rfl)); unfold tI2 crd
    isplitl [HaS]; · iexact HaS
    isplitl [HaR]; · iexact HaR
    isplitl [HcR]; · iexact HcR
    iexact Hw
  isplitl [HPk Hpay]
  · iapply HPk; iapply (Entails.of_eq (show aPts c (sB s c) (P c) = pItem P c (sB s c) true from rfl)); iexact Hpay
  isplitl [HB]; · iexact HB
  iexact HR

set_option maxHeartbeats 1000000 in
theorem st_doneB (R : sProp 𝕄) (Q : α → sProp 𝕄) (s : Fin 42) {q : DmaSem sig} (hq : q = sendS s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt (kOf s))
    (hk : St P K R c (step c γ (.doneB s)) ⊢ wp frame (wpE defs 𝒱₀ (c : Thread nD τ) none) Set.univ (k ⟨⟩) Q)
    (hok : ok c γ (.doneB s) = true) :
    St P K R c γ ⊢ wp frame (wpE defs 𝒱₀ (c : Thread nD τ) none) Set.univ
      (.op (.waitDma2 q src dst hsrc hdst) k) Q := by
  subst hq
  simp only [ok, Bool.and_eq_true, beq_iff_eq, decide_eq_true_eq] at hok
  obtain ⟨⟨hT, hs'⟩, hs⟩ := hok
  unfold St Ow
  iintro ⟨#HI, ⟨%W, HO⟩, HT, HP, HB, HR⟩
  ihave ⟨Hs, HTk⟩ := (TT_take P s hT (X := tI1 c s) rfl) $$ HT
  unfold tI1 crd
  icases Hs with ⟨HcS, HaS, HaR, HcR, Hw⟩
  iapply (Rounds.wp_wait_rest_token 𝒱₀ ER (arRd P) (c : Thread nD τ) none (κ := K (sendC c s))
      (wpE_waitDma2_eq (src := src) (dst := dst) (hsrc := hsrc) (hdst := hdst) 𝒱₀ (c : Thread nD τ) none Set.univ) (Set.mem_univ _) () (O := owedFrom γ.nx c) (W := W) (R := 0) (m := 0) (T := ∅)
      ((Nat.zero_add _).trans (hN.trans (expect_send P c s).symm))) $$ [HcS HO HaS]
  · isplitr; · iapply (Inv_send P K c s); iexact HI
    isplitl [HcS]; · rw [hN]; iexact HcS
    isplitl [HO]; · iexact HO
    isplitr; · iapply (mayWait γ.nx c (.dma (sendS s)) (by rw [lv_send]; omega)); iapply (Inv_lev P K); iexact HI
    iexact HaS
  iintro ⟨HO, HaS, -, Hpay⟩
  ihave Hpay := (Entails.of_eq (rest_send P c s)) $$ Hpay
  iclear Hpay
  iapply hk
  unfold St Ow
  dsimp only [step]
  isplitr; · iexact HI
  isplitl [HO]; · iexists _; iexact HO
  isplitl [HTk HaS HaR HcR Hw]
  · iapply HTk; iapply (Entails.of_eq (show tI2 c s = tItem P c s 2 from rfl)); unfold tI2 crd
    isplitl [HaS]; · iexact HaS
    isplitl [HaR]; · iexact HaR
    isplitl [HcR]; · iexact HcR
    iexact Hw
  isplitl [HP]; · iexact HP
  isplitl [HB]; · iexact HB
  iexact HR

set_option maxHeartbeats 1000000 in
theorem st_doneG (R : sProp 𝕄) (Q : α → sProp 𝕄) (s : Fin 42) {q : DmaSem sig} (hq : q = sendS s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt (kOf s))
    (hk : St P K R c (step c γ (.doneG s)) ⊢ wp frame (wpE defs 𝒱₀ (c : Thread nD τ) none) Set.univ (k ⟨⟩) Q)
    (hok : ok c γ (.doneG s) = true) :
    St P K R c γ ⊢ wp frame (wpE defs 𝒱₀ (c : Thread nD τ) none) Set.univ
      (.op (.waitDma2 q src dst hsrc hdst) k) Q := by
  subst hq
  simp only [ok, Bool.and_eq_true, beq_iff_eq, decide_eq_true_eq] at hok
  obtain ⟨⟨hT, hs⟩, hOB⟩ := hok
  have hrs : isRS s = false := isRS_false hs
  unfold St Ow
  iintro ⟨#HI, ⟨%W, HO⟩, HT, HP, HB, HR⟩
  ihave ⟨Hs, HTk⟩ := (TT_take P s hT (X := tI1 c s) rfl) $$ HT
  ihave ⟨-, HBk⟩ := (OO_take P (sB s c) hOB (X := iprop(emp)) rfl) $$ HB
  unfold tI1 crd
  icases Hs with ⟨HcS, HaS, HaR, HcR, Hw⟩
  iapply (Rounds.wp_wait_rest_token 𝒱₀ ER (arRd P) (c : Thread nD τ) none (κ := K (sendC c s))
      (wpE_waitDma2_eq (src := src) (dst := dst) (hsrc := hsrc) (hdst := hdst) 𝒱₀ (c : Thread nD τ) none Set.univ) (Set.mem_univ _) () (O := owedFrom γ.nx c) (W := W) (R := 0) (m := 0) (T := ∅)
      ((Nat.zero_add _).trans (hN.trans (expect_send P c s).symm))) $$ [HcS HO HaS]
  · isplitr; · iapply (Inv_send P K c s); iexact HI
    isplitl [HcS]; · rw [hN]; iexact HcS
    isplitl [HO]; · iexact HO
    isplitr; · iapply (mayWait γ.nx c (.dma (sendS s)) (by rw [lv_send]; omega)); iapply (Inv_lev P K); iexact HI
    iexact HaS
  iintro ⟨HO, HaS, -, Hpay⟩
  ihave Hpay := (Entails.of_eq (rest_send P c s)) $$ Hpay
  ihave Hpay := (Entails.of_eq (show sendPay P c s = oPts c (sB s c) (fin P) by rw [sendPay, hrs]; rfl)) $$ Hpay
  iapply hk
  unfold St Ow
  dsimp only [step]
  isplitr; · iexact HI
  isplitl [HO]; · iexists _; iexact HO
  isplitl [HTk HaS HaR HcR Hw]
  · iapply HTk; iapply (Entails.of_eq (show tI2 c s = tItem P c s 2 from rfl)); unfold tI2 crd
    isplitl [HaS]; · iexact HaS
    isplitl [HaR]; · iexact HaR
    isplitl [HcR]; · iexact HcR
    iexact Hw
  isplitl [HP]; · iexact HP
  isplitl [HBk Hpay]
  · iapply HBk; iapply (Entails.of_eq (show oPts c (sB s c) (fin P) = oItem P c (sB s c) 4 from rfl)); iexact Hpay
  iexact HR

set_option maxHeartbeats 1000000 in
theorem st_recv (R : sProp 𝕄) (Q : α → sProp 𝕄) (s : Fin 42) {q : DmaSem sig} (hq : q = recvS s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt (kOf s))
    (hk : St P K R c (step c γ (.recv s)) ⊢ wp frame (wpE defs 𝒱₀ (c : Thread nD τ) none) Set.univ (k ⟨⟩) Q)
    (hok : ok c γ (.recv s) = true) :
    St P K R c γ ⊢ wp frame (wpE defs 𝒱₀ (c : Thread nD τ) none) Set.univ
      (.op (.waitDma2 q src dst hsrc hdst) k) Q := by
  subst hq
  simp only [ok, Bool.and_eq_true, beq_iff_eq, decide_eq_true_eq] at hok
  obtain ⟨⟨hT, hs⟩, hn⟩ := hok
  have hrs : isRS s = true := isRS_true hs
  unfold St Ow
  iintro ⟨#HI, ⟨%W, HO⟩, HT, HP, HB, HR⟩
  ihave ⟨Hs, HTk⟩ := (TT_take P s hT (X := tI2 c s) rfl) $$ HT
  unfold tI2 crd
  icases Hs with ⟨HaS, HaR, HcR, Hw⟩
  iapply (Rounds.wp_wait_rest_token 𝒱₀ ER (arRd P) (c : Thread nD τ) none (κ := K (recvC c s))
      (wpE_waitDma2_eq (src := src) (dst := dst) (hsrc := hsrc) (hdst := hdst) 𝒱₀ (c : Thread nD τ) none Set.univ) (Set.mem_univ _) () (O := owedFrom γ.nx c) (W := W) (R := 0) (m := 0) (T := ∅)
      ((Nat.zero_add _).trans (hN.trans (expect_recv P c s).symm))) $$ [HcR HO HaR]
  · isplitr; · iapply (Inv_recv P K c s); iexact HI
    isplitl [HcR]; · rw [hN]; iexact HcR
    isplitl [HO]; · iexact HO
    isplitr; · iapply (mayWait γ.nx c (.dma (recvS s)) (by rw [lv_recv]; omega)); iapply (Inv_lev P K); iexact HI
    iexact HaR
  iintro ⟨HO, HaR, -, Hpay⟩
  ihave Hpay := (Entails.of_eq (rest_recv P c s)) $$ Hpay
  ihave Hpay := (Entails.of_eq (show recvPay P c s = iprop(landedSlot P s c ∗ whenB (12 ≤ s.val) (right s c)) by rw [recvPay, hrs]; rfl)) $$ Hpay
  icases Hpay with ⟨Hl, Hw'⟩
  iapply hk
  unfold St Ow
  dsimp only [step]
  isplitr; · iexact HI
  isplitl [HO]; · iexists _; iexact HO
  isplitl [HTk HaS HaR Hw Hw' Hl]
  · iapply HTk; iapply (Entails.of_eq (show tI3 P c s = tItem P c s 3 from rfl)); unfold tI3
    rw [whenB_true _ hrs]
    isplitl [HaS]; · iexact HaS
    isplitl [HaR]; · iexact HaR
    isplitl [Hl]; · iexact Hl
    iapply (right_either s c)
    isplitl [Hw]; · iexact Hw
    iexact Hw'
  isplitl [HP]; · iexact HP
  isplitl [HB]; · iexact HB
  iexact HR

set_option maxHeartbeats 1000000 in
theorem st_recvG (R : sProp 𝕄) (Q : α → sProp 𝕄) (s : Fin 42) {q : DmaSem sig} (hq : q = recvS s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt (kOf s))
    (hk : St P K R c (step c γ (.recvG s)) ⊢ wp frame (wpE defs 𝒱₀ (c : Thread nD τ) none) Set.univ (k ⟨⟩) Q)
    (hok : ok c γ (.recvG s) = true) :
    St P K R c γ ⊢ wp frame (wpE defs 𝒱₀ (c : Thread nD τ) none) Set.univ
      (.op (.waitDma2 q src dst hsrc hdst) k) Q := by
  subst hq
  simp only [ok, Bool.and_eq_true, beq_iff_eq, decide_eq_true_eq] at hok
  obtain ⟨⟨⟨hT, hs⟩, hn⟩, hOB⟩ := hok
  have hrs : isRS s = false := isRS_false hs
  unfold St Ow
  iintro ⟨#HI, ⟨%W, HO⟩, HT, HP, HB, HR⟩
  ihave ⟨Hs, HTk⟩ := (TT_take P s hT (X := tI2 c s) rfl) $$ HT
  ihave ⟨-, HBk⟩ := (OO_take P (rB s c) hOB (X := iprop(emp)) rfl) $$ HB
  unfold tI2 crd
  icases Hs with ⟨HaS, HaR, HcR, Hw⟩
  iapply (Rounds.wp_wait_rest_token 𝒱₀ ER (arRd P) (c : Thread nD τ) none (κ := K (recvC c s))
      (wpE_waitDma2_eq (src := src) (dst := dst) (hsrc := hsrc) (hdst := hdst) 𝒱₀ (c : Thread nD τ) none Set.univ) (Set.mem_univ _) () (O := owedFrom γ.nx c) (W := W) (R := 0) (m := 0) (T := ∅)
      ((Nat.zero_add _).trans (hN.trans (expect_recv P c s).symm))) $$ [HcR HO HaR]
  · isplitr; · iapply (Inv_recv P K c s); iexact HI
    isplitl [HcR]; · rw [hN]; iexact HcR
    isplitl [HO]; · iexact HO
    isplitr; · iapply (mayWait γ.nx c (.dma (recvS s)) (by rw [lv_recv]; omega)); iapply (Inv_lev P K); iexact HI
    iexact HaR
  iintro ⟨HO, HaR, -, Hpay⟩
  ihave Hpay := (Entails.of_eq (rest_recv P c s)) $$ Hpay
  ihave Hpay := (Entails.of_eq (show recvPay P c s = oPts c (rB s c) (fin P) by rw [recvPay, hrs]; rfl)) $$ Hpay
  iapply hk
  unfold St Ow
  dsimp only [step]
  isplitr; · iexact HI
  isplitl [HO]; · iexists _; iexact HO
  isplitl [HTk HaS HaR]
  · iapply HTk; iapply (Entails.of_eq (show tI3 P c s = tItem P c s 3 from rfl)); unfold tI3
    rw [whenB_false _ hrs]
    isplitl [HaS]; · iexact HaS
    isplitl [HaR]; · iexact HaR
    iempintro
  isplitl [HP]; · iexact HP
  isplitl [HBk Hpay]
  · iapply HBk; iapply (Entails.of_eq (show oPts c (rB s c) (fin P) = oItem P c (rB s c) 4 from rfl)); iexact Hpay
  iexact HR

/-! ## Adding -/

/-- `v` is block `rB s c` of what device `c` has after round `jOf s`. -/
def AccOK (c : Dev nD) (s : Fin 42) (n : ℕ) (v : FVec F ⟨2, ![n, 1024]⟩ .bf16) : Prop :=
  ∀ (j : (⟨2, ![n, 1024]⟩ : Shape).Idx) (x : S2048x1024.Idx), x ∈ blkRows (rB s c) →
    (x 0).val = rowLo (kOf s) (rowV s c) + (j 0).val → (x 1).val = (j 1).val → v j = acc P ((jOf s).val + 1) c x

theorem acc_add (s : Fin 42) {x : S2048x1024.Idx} (hx : x ∈ blkRows (rB s c)) :
    acc P ((jOf s).val + 1) c x = FloatOps.addf (acc P (jOf s).val c x) (acc P (jOf s).val (pr s c) x) := by
  rw [acc_succ]; unfold accStep; rw [(mem_blk hx).1]; rfl

theorem mem_blkRows {s : Fin 42} {n : ℕ} (hn : n = sub (kOf s)) {x : S2048x1024.Idx} (j : (⟨2, ![n, 1024]⟩ : Shape).Idx)
    (h : (x 0).val = rowLo (kOf s) (rowV s c) + (j 0).val) : x ∈ blkRows (rB s c) := by
  subst hn
  have hj : (j 0).val < sub (kOf s) := (j 0).isLt
  refine Finset.mem_filter.mpr ⟨Finset.mem_univ _, ?_, ?_⟩
  · show rowLo (kOf s) (rowV s c) ≤ _; omega
  · show _ < rowLo (kOf s) (rowV s c) + sub (kOf s); omega

theorem look_ok (s : Fin 42) {g : Slots F} (hg : Landed P s c g) {inb} {u : FVec F ⟨2, ![sub (kOf s), 1024]⟩ .bf16}
    (hu : ∀ (j : (⟨2, ![sub (kOf s), 1024]⟩ : Shape).Idx) (x : S2048x1024.Idx), x ∈ blkRows (rB s c) →
      (x 0).val = rowLo (kOf s) (rowV s c) + (j 0).val → (x 1).val = (j 1).val → u j = acc P (jOf s).val c x) :
    AccOK P c s (sub (kOf s)) (addf u ((lM.access (slotR (slotLo s) (sub (kOf s)) inb)).read (Elt F) g)) := by
  intro j x hx h0 h1
  rw [acc_add P c s hx, ← hu j x hx h0 h1]
  refine congrArg (FloatOps.addf (u j)) ?_
  rw [load_l]
  refine hg _ x ?_ ?_ ?_
  · refine Finset.mem_filter.mpr ⟨Finset.mem_univ _, ?_, ?_⟩
    · rw [slotR_emb0 (lo := slotLo s)]; omega
    · rw [slotR_emb0 (lo := slotLo s)]; have : (j 0).val < sub (kOf s) := (j 0).isLt; omega
  · rw [slotR_emb0 (lo := slotLo s)]; omega
  · rw [slotR_emb1 (lo := slotLo s)]; exact h1

theorem put_ok (s : Fin 42) (hs : s.val < 21) {v : FVec F ⟨2, ![sub (kOf s), 1024]⟩ .bf16} (hv : AccOK P c s (sub (kOf s)) v) {inb} (f : Big F) :
    ∀ i ∈ blkRows (rB s c), (oM.access (bigR (rowLo (kOf s) (rowV s c)) (sub (kOf s)) inb)).write (Elt F) f v Finset.univ i = oCont P c (lev' s) i := by
  intro i hi
  rw [oCont_lev' P s c hs hi]
  have hi' : i ∈ rows (rowLo (kOf s) (rowV s c)) (sub (kOf s)) := hi
  rw [← bigR_set inb, ← Rect.map_emb_univ] at hi'
  obtain ⟨j, -, rfl⟩ := Finset.mem_map.mp hi'
  refine (store_o f v j).trans (hv j _ hi ?_ ?_)
  · exact bigR_emb0 (lo := rowLo (kOf s) (rowV s c)) j
  · exact bigR_emb1 (lo := rowLo (kOf s) (rowV s c)) j

theorem oItem_some (b : Blk) {n : Fin 5} (h : 1 ≤ n.val) : oItem P c b n ⊢ iprop(∃ f : Big F, oPts c b f) := by
  match n, h with
  | 1, _ => exact BI.Entails.refl _
  | 2, _ => exact exists_intro (Φ := fun f : Big F => oPts c b f) (oCont P c 2)
  | 3, _ => exact exists_intro (Φ := fun f : Big F => oPts c b f) (oCont P c 3)
  | 4, _ => exact exists_intro (Φ := fun f : Big F => oPts c b f) (oCont P c 4)

set_option maxHeartbeats 1000000 in
theorem st_lookA (R : sProp 𝕄) (Q : α → sProp 𝕄) (s : Fin 42) (hs' : s.val < 12) {n : ℕ} (hn : n = sub (kOf s)) {off off' : Fin 2 → ℕ} {inb inb' hl hl'}
    (hoff : off = ![slotLo s, 0]) (hoff' : off' = ![rowLo (kOf s) (rowV s c), 0])
    {k : FVec F ⟨2, ![n, 1024]⟩ .bf16 → FVec F ⟨2, ![n, 1024]⟩ .bf16 → Prog (TpuEff nD τ sig (Elt F) Λ (c : Thread nD τ).2) α}
    (hk : ∀ w u, AccOK P c s n (addf u w) → St P K R c (step c γ (.look s)) ⊢ wp frame (wpE defs 𝒱₀ (c : Thread nD τ) none) Set.univ (k w u) Q)
    (hok : ok c γ (.look s) = true) :
    St P K R c γ ⊢ wp frame (wpE defs 𝒱₀ (c : Thread nD τ) none) Set.univ
      (.op (.load (e := .bf16) lM (Rect.unit (s := S1792x1024) off ![n, 1024] inb).toLoadRect hl) fun (w : FVec F ⟨2, ![n, 1024]⟩ .bf16) =>
        .op (.load (e := .bf16) aM (Rect.unit (s := S2048x1024) off' ![n, 1024] inb').toLoadRect hl') fun (u : FVec F ⟨2, ![n, 1024]⟩ .bf16) => k w u) Q := by
  subst hn hoff hoff'
  simp only [ok, Bool.and_eq_true, beq_iff_eq, decide_eq_true_eq, Bool.or_eq_true] at hok
  obtain ⟨⟨⟨hT, hs⟩, hOB⟩, hPB⟩ := hok
  have hPB : γ.PB (rB s c) = true := hPB.resolve_left (by omega)
  unfold St
  iintro ⟨#HI, HO, HT, HP, HB, HR⟩
  ihave ⟨Hs, HTk⟩ := (TT_take P s hT (X := tI3 P c s) rfl) $$ HT
  ihave ⟨Ha, HPk⟩ := (PP_take P (rB s c) hPB (X := aPts c (rB s c) (P c)) rfl) $$ HP
  unfold tI3 landedSlot
  rw [whenB_true _ (isRS_true hs)]
  icases Hs with ⟨HaS, HaR, ⟨%g, %hg, Hg⟩, Hw⟩
  iapply (wp_load_rect 𝒱₀ (c : Thread nD τ) none Set.univ (m := lM) (r := slotR (slotLo s) (sub (kOf s)) inb) (S := slotRows (slotLo s) (sub (kOf s))) (lSet' inb).subset) $$ [Hg]
  · iexact Hg
  iintro Hg
  iapply (wp_load_rect 𝒱₀ (c : Thread nD τ) none Set.univ (m := aM) (r := bigR (rowLo (kOf s) (rowV s c)) (sub (kOf s)) inb') (S := blkRows (rB s c)) (aSet' inb').subset) $$ [Ha]
  · iexact Ha
  iintro Ha
  iapply (hk _ _ (look_ok P c s hg (fun j x _ h0 h1 => ?_)))
  · rw [load_a]
    refine (congrArg (P c) (idx_ext ?_ ?_)).trans (by rw [jOf_A s hs']; rfl)
    · rw [bigR_emb0 (lo := rowLo (kOf s) (rowV s c))]; exact h0.symm
    · rw [bigR_emb1 (lo := rowLo (kOf s) (rowV s c))]; exact h1.symm
  unfold St
  dsimp only [step]
  isplitr; · iexact HI
  isplitl [HO]; · iexact HO
  isplitl [HTk HaS HaR Hg Hw]
  · have e : Function.update γ.T s 3 = γ.T := by rw [← hT]; exact Function.update_eq_self s γ.T
    iapply (Entails.of_eq (congrArg (TT P c) e))
    iapply HTk; iapply (Entails.of_eq (show tI3 P c s = tItem P c s 3 from rfl)); unfold tI3 landedSlot
    rw [whenB_true _ (isRS_true hs)]
    isplitl [HaS]; · iexact HaS
    isplitl [HaR]; · iexact HaR
    isplitl [Hg]
    · iexists g
      isplitr; · ipureintro; exact hg
      iexact Hg
    iexact Hw
  isplitl [HPk Ha]
  · have e : Function.update γ.PB (rB s c) true = γ.PB := by rw [← hPB]; exact Function.update_eq_self _ γ.PB
    iapply (Entails.of_eq (congrArg (PP P c) e))
    iapply HPk; iapply (Entails.of_eq (show aPts c (rB s c) (P c) = pItem P c (rB s c) true from rfl)); iexact Ha
  isplitl [HB]; · iexact HB
  iexact HR

set_option maxHeartbeats 1000000 in
theorem st_lookB (R : sProp 𝕄) (Q : α → sProp 𝕄) (s : Fin 42) (hs' : 12 ≤ s.val) {n : ℕ} (hn : n = sub (kOf s)) {off off' : Fin 2 → ℕ} {inb inb' hl hl'}
    (hoff : off = ![slotLo s, 0]) (hoff' : off' = ![rowLo (kOf s) (rowV s c), 0])
    {k : FVec F ⟨2, ![n, 1024]⟩ .bf16 → FVec F ⟨2, ![n, 1024]⟩ .bf16 → Prog (TpuEff nD τ sig (Elt F) Λ (c : Thread nD τ).2) α}
    (hk : ∀ w u, AccOK P c s n (addf u w) → St P K R c (step c γ (.look s)) ⊢ wp frame (wpE defs 𝒱₀ (c : Thread nD τ) none) Set.univ (k w u) Q)
    (hok : ok c γ (.look s) = true) :
    St P K R c γ ⊢ wp frame (wpE defs 𝒱₀ (c : Thread nD τ) none) Set.univ
      (.op (.load (e := .bf16) lM (Rect.unit (s := S1792x1024) off ![n, 1024] inb).toLoadRect hl) fun (w : FVec F ⟨2, ![n, 1024]⟩ .bf16) =>
        .op (.load (e := .bf16) oM (Rect.unit (s := S2048x1024) off' ![n, 1024] inb').toLoadRect hl') fun (u : FVec F ⟨2, ![n, 1024]⟩ .bf16) => k w u) Q := by
  subst hn hoff hoff'
  simp only [ok, Bool.and_eq_true, beq_iff_eq, decide_eq_true_eq, Bool.or_eq_true] at hok
  obtain ⟨⟨⟨hT, hs⟩, hOB⟩, hPB⟩ := hok
  have hl2 : 2 ≤ (lev s).val := by
    have := jOf_B s hs' hs
    have h0 : (jOf s).val ≠ 0 := fun e => this (Fin.ext e)
    have h1 : (lev s).val = (jOf s).val + 1 := rfl
    omega
  unfold St
  iintro ⟨#HI, HO, HT, HP, HB, HR⟩
  ihave ⟨Hs, HTk⟩ := (TT_take P s hT (X := tI3 P c s) rfl) $$ HT
  ihave ⟨Ha, HBk⟩ := (OO_take P (rB s c) hOB (X := oPts c (rB s c) (acc P (jOf s).val c))
    (by rw [oItem_hold P hl2, oCont_lev])) $$ HB
  unfold tI3 landedSlot
  rw [whenB_true _ (isRS_true hs)]
  icases Hs with ⟨HaS, HaR, ⟨%g, %hg, Hg⟩, Hw⟩
  iapply (wp_load_rect 𝒱₀ (c : Thread nD τ) none Set.univ (m := lM) (r := slotR (slotLo s) (sub (kOf s)) inb) (S := slotRows (slotLo s) (sub (kOf s))) (lSet' inb).subset) $$ [Hg]
  · iexact Hg
  iintro Hg
  iapply (wp_load_rect 𝒱₀ (c : Thread nD τ) none Set.univ (m := oM) (r := bigR (rowLo (kOf s) (rowV s c)) (sub (kOf s)) inb') (S := blkRows (rB s c)) (oSet' inb').subset) $$ [Ha]
  · iexact Ha
  iintro Ha
  iapply (hk _ _ (look_ok P c s hg (fun j x _ h0 h1 => ?_)))
  · rw [load_o]
    refine congrArg (acc P (jOf s).val c) (idx_ext ?_ ?_)
    · rw [bigR_emb0 (lo := rowLo (kOf s) (rowV s c))]; exact h0.symm
    · rw [bigR_emb1 (lo := rowLo (kOf s) (rowV s c))]; exact h1.symm
  unfold St
  dsimp only [step]
  isplitr; · iexact HI
  isplitl [HO]; · iexact HO
  isplitl [HTk HaS HaR Hg Hw]
  · have e : Function.update γ.T s 3 = γ.T := by rw [← hT]; exact Function.update_eq_self s γ.T
    iapply (Entails.of_eq (congrArg (TT P c) e))
    iapply HTk; iapply (Entails.of_eq (show tI3 P c s = tItem P c s 3 from rfl)); unfold tI3 landedSlot
    rw [whenB_true _ (isRS_true hs)]
    isplitl [HaS]; · iexact HaS
    isplitl [HaR]; · iexact HaR
    isplitl [Hg]
    · iexists g
      isplitr; · ipureintro; exact hg
      iexact Hg
    iexact Hw
  isplitl [HP]; · iexact HP
  isplitl [HBk Ha]
  · have e : Function.update γ.OB (rB s c) (lev s) = γ.OB := by rw [← hOB]; exact Function.update_eq_self _ γ.OB
    iapply (Entails.of_eq (congrArg (OO P c) e))
    iapply HBk
    iapply (Entails.of_eq (show oPts c (rB s c) (acc P (jOf s).val c) = oItem P c (rB s c) (lev s) by rw [oItem_hold P hl2, oCont_lev])); iexact Ha
  iexact HR

set_option maxHeartbeats 1000000 in
theorem st_put (R : sProp 𝕄) (Q : α → sProp 𝕄) (s : Fin 42) {n : ℕ} (hn : n = sub (kOf s)) {off : Fin 2 → ℕ} {inb inb' hl hx hm}
    (hoff : off = ![rowLo (kOf s) (rowV s c), 0]) {v : FVec F ⟨2, ![n, 1024]⟩ .bf16} (hv : AccOK P c s n v)
    (hk : St P K R c (step c γ (.put s)) ⊢ wp frame (wpE defs 𝒱₀ (c : Thread nD τ) none) Set.univ (k ⟨⟩) Q)
    (hok : ok c γ (.put s) = true) :
    St P K R c γ ⊢ wp frame (wpE defs 𝒱₀ (c : Thread nD τ) none) Set.univ
      (.op (.load oM (Rect.unit (s := S2048x1024) off ![n, 1024] inb).toLoadRect hl) fun _ =>
        .op (.store oM (Rect.unit (s := S2048x1024) off ![n, 1024] inb') v Finset.univ hx hm) k) Q := by
  subst hn hoff
  simp only [ok, Bool.and_eq_true, beq_iff_eq, decide_eq_true_eq] at hok
  obtain ⟨hs, hOB⟩ := hok
  unfold St
  iintro ⟨#HI, HO, HT, HP, HB, HR⟩
  ihave ⟨Ha, HBk⟩ := (OO_take P (rB s c) hOB (X := oItem P c (rB s c) (lev s)) rfl) $$ HB
  ihave Ha := (oItem_some P c (rB s c) (Nat.le_add_left 1 _ : 1 ≤ (lev s).val)) $$ Ha
  icases Ha with ⟨%f, Ha⟩
  iapply (wp_load_rect 𝒱₀ (c : Thread nD τ) none Set.univ (m := oM) (r := bigR (rowLo (kOf s) (rowV s c)) (sub (kOf s)) inb) (S := blkRows (rB s c)) (oSet' inb).subset) $$ [Ha]
  · iexact Ha
  iintro Ha
  iapply (wp_store 𝒱₀ (c : Thread nD τ) none Set.univ (m := oM) (r := bigR (rowLo (kOf s) (rowV s c)) (sub (kOf s)) inb') (Mk := Finset.univ) (S := blkRows (rB s c))
    ((View.setOn_univ _).trans (oSet' inb')).subset) $$ [Ha]
  · iexact Ha
  iintro Ha
  iapply hk
  unfold St
  dsimp only [step]
  isplitr; · iexact HI
  isplitl [HO]; · iexact HO
  isplitl [HT]; · iexact HT
  isplitl [HP]; · iexact HP
  isplitl [HBk Ha]
  · iapply HBk
    iapply (Entails.of_eq (show oPts c (rB s c) (oCont P c (lev' s)) = oItem P c (rB s c) (lev' s) from
      (oItem_hold P (Nat.le_add_left 2 _ : 2 ≤ (lev' s).val)).symm))
    iapply (Entails.of_eq (pointsTo_congr (put_ok P c s hs hv (inb := inb') f)))
    iexact Ha
  iexact HR

end Cert.KernelIdeal.AR

end
-- ==== Proof.Whole.lean ====
/-
  Loads and stores on a view owned at named contents: a load of all of it reads the contents, a load
  of a rectangle reads their part there, a store of all of it leaves what was stored, a store to a
  rectangle leaves the contents overlaid.
-/
module

public import proofs.«01_k».proof.Proof.State

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {Λ : Labels} {defs : Defs nD τ sig (Elt F) Λ} {α : Type}

/-- The view `m` of core `c`'s, all of it, read as `X`. -/
abbrev has (c : Dev nD) {s : Shape} {e : EltTy} (m : Memref sig .tc .vmem s e) (X : s.Idx → Elt F e) : sProp 𝕄 :=
  owns (c : Thread nD τ) m fullShare X

variable {c : Dev nD} {s : Shape} {e : EltTy} {m : Memref sig .tc .vmem s e}

theorem full_emb {off : Fin s.rank → ℕ} (h0 : ∀ a, off a = 0) (inb : ∀ a, off a + s.size a ≤ s.size a) (j : s.Idx) :
    (Rect.unit (s := s) off s.size inb).emb j = j := by
  funext a
  exact Fin.ext (show off a + 1 * (j a).val = (j a).val by rw [h0]; omega)

theorem load_rect {r : Rect s} {hl : m.view.LoadsAt r.toLoadRect} {X : s.Idx → Elt F e}
    {k : (r.shape.Idx → Elt F e) → Prog (TpuEff nD τ sig (Elt F) Λ .tc) α} {Q : α → sProp 𝕄} :
    iprop(has c m X ∗ (has c m X -∗ wp frame (wpE defs 𝒱₀ (c : Thread nD τ) none) Set.univ (k fun i => X (r.emb i)) Q))
      ⊢ wp frame (wpE defs 𝒱₀ (c : Thread nD τ) none) Set.univ (.op (.load m r.toLoadRect hl) k) Q := by
  unfold has owns
  iintro ⟨⟨%f, %hf, H⟩, HK⟩
  subst hf
  iapply (wp_load_rect (defs := defs) 𝒱₀ (c : Thread nD τ) none Set.univ (Q := Q) (m := m) (r := r) (hl := hl) (k := k) (q := fullShare)
    (S := m.view.set) (f := f) (m.view.set_slice_subset r)) $$ [H]
  · iexact H
  iintro H
  iapply HK
  iexists f
  isplitr; · ipureintro; rfl
  iexact H

theorem load_full {off : Fin s.rank → ℕ} {inb : ∀ a, off a + s.size a ≤ s.size a} (h0 : ∀ a, off a = 0)
    {hl : m.view.LoadsAt (Rect.unit (s := s) off s.size inb).toLoadRect} {X : s.Idx → Elt F e}
    {k : (s.Idx → Elt F e) → Prog (TpuEff nD τ sig (Elt F) Λ .tc) α} {Q : α → sProp 𝕄} :
    iprop(has c m X ∗ (has c m X -∗ wp frame (wpE defs 𝒱₀ (c : Thread nD τ) none) Set.univ (k X) Q))
      ⊢ wp frame (wpE defs 𝒱₀ (c : Thread nD τ) none) Set.univ (.op (.load m (Rect.unit (s := s) off s.size inb).toLoadRect hl) k) Q := by
  have h := load_rect (defs := defs) (Q := Q) (c := c) (m := m) (r := Rect.unit (s := s) off s.size inb) (hl := hl) (X := X) (k := k)
  have e : (fun i => X ((Rect.unit (s := s) off s.size inb).emb i)) = X := funext fun i => congrArg X (full_emb h0 inb i)
  rw [e] at h
  exact h

theorem store_rect {r : Rect s} {w : r.shape.Idx → Elt F e} {hx : (m.access r).Stores Finset.univ} {hm}
    {X : s.Idx → Elt F e} {k : PUnit → Prog (TpuEff nD τ sig (Elt F) Λ .tc) α} {Q : α → sProp 𝕄} :
    iprop(has c m X ∗ (has c m (r.overlay X w) -∗ wp frame (wpE defs 𝒱₀ (c : Thread nD τ) none) Set.univ (k ⟨⟩) Q))
      ⊢ wp frame (wpE defs 𝒱₀ (c : Thread nD τ) none) Set.univ (.op (.store m r w Finset.univ hx hm) k) Q := by
  unfold has owns
  iintro ⟨⟨%f, %hf, H⟩, HK⟩
  subst hf
  iapply (wp_store (defs := defs) 𝒱₀ (c : Thread nD τ) none Set.univ (Q := Q) (m := m) (r := r) (w := w) (hx := hx) (hm := hm) (k := k)
    (S := m.view.set) (f := f) (m.view.set_slice_subset r)) $$ [H]
  · iexact H
  iintro H
  iapply HK
  iexists (m.access r).write (Elt F) f w Finset.univ
  isplitr
  · ipureintro
    funext j
    by_cases hj : j ∈ Finset.univ.map r.emb
    · obtain ⟨i, -, rfl⟩ := Finset.mem_map.mp hj
      rw [Rect.overlay_emb]
      exact m.view.read_slice_write_emb (Val := Elt F) r f w (Finset.mem_univ _)
    · rw [Rect.overlay_of_not_mem _ _ _ (by rwa [Rect.map_emb_univ] at hj)]
      exact m.view.read_slice_write_of_not_mem (Val := Elt F) r f w _ hj
  iexact H

theorem store_full {off : Fin s.rank → ℕ} {inb : ∀ a, off a + s.size a ≤ s.size a} (h0 : ∀ a, off a = 0)
    {w : s.Idx → Elt F e} {hx : (m.access (Rect.unit (s := s) off s.size inb)).Stores Finset.univ} {hm}
    {X : s.Idx → Elt F e} {k : PUnit → Prog (TpuEff nD τ sig (Elt F) Λ .tc) α} {Q : α → sProp 𝕄} :
    iprop(has c m X ∗ (has c m w -∗ wp frame (wpE defs 𝒱₀ (c : Thread nD τ) none) Set.univ (k ⟨⟩) Q))
      ⊢ wp frame (wpE defs 𝒱₀ (c : Thread nD τ) none) Set.univ
        (.op (.store m (Rect.unit (s := s) off s.size inb) w Finset.univ hx hm) k) Q := by
  have h := store_rect (defs := defs) (Q := Q) (c := c) (m := m) (r := Rect.unit (s := s) off s.size inb) (w := w) (hx := hx) (hm := hm) (X := X) (k := k)
  have e : (Rect.unit (s := s) off s.size inb).overlay X w = w := funext fun j => by
    have hj := Rect.overlay_emb (Rect.unit (s := s) off s.size inb) X w j
    rwa [full_emb h0 inb j] at hj
  rw [e] at h
  exact h

end Cert.KernelIdeal.AR

end
-- ==== Proof.Compute.lean ====
/-
  One grid point of the products' kernel: what it leaves in the gate, in the cast operand, in the sum and
  in the result, as functions of what it finds.
-/
module

public import proofs.«01_k».proof.Proof.Whole
public import proofs.«01_k».proof.Proof.Gen.KernelIdeal.Skeleton
public import proofs.«01_k».proof.Proof.Gen.KernelIdeal.Launch
public import Idealize.ShloMosaic.Lib.Pipeline.Value

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

theorem off_inb (d : Dev nD) : ∀ a, (k0_off1 d) a + S256x1024.size a ≤ S2048x1024.size a :=
  k0_off1_inb (grid0.coords t0_0) d (by decide)

/-- A device's own rows. -/
abbrev ownRows (d : Dev nD) : Rect S2048x1024 := Rect.unit (s := S2048x1024) (k0_off1 d) S256x1024.size (off_inb d)

/-- The sum before the first expert: the shared product in the device's own rows, nothing elsewhere. -/
def sumStart (d : Dev nD) (x : Vec F S2048x1024 .f32) (sw : Vec F S1024x1024 .f32) : Vec F S2048x1024 .f32 :=
  (ownRows d).overlay (k0_pay6 (F := F)) (k0_pay1 (F := F) (fun j => k0_pay5 (F := F) x ((ownRows d).emb j)) sw)

theorem z2 : ∀ a : Fin 2, (![0, 0] : Fin 2 → ℕ) a = 0 := by decide
theorem z3 : ∀ a : Fin 3, (![0, 0, 0] : Fin 3 → ℕ) a = 0 := by decide

section Body

variable (defs : Defs nD τ sig (Elt F) Λ₀) {c : Dev nD} {i : grid0.Coords}
  {a1 : Memref sig .tc .vmem S2048x1024 .f32} {w1 : a1.IsWhole} {a2 : Memref sig .tc .vmem S1024x64 .f32} {w2 : a2.IsWhole}
  {a3 : Memref sig .tc .vmem S2048x1 .i32} {w3 : a3.IsWhole} {a4 : Memref sig .tc .vmem S1x1024x1024 .f32} {w4 : a4.IsWhole}
  {a5 : Memref sig .tc .vmem S1024x1024 .f32} {w5 : a5.IsWhole} {a6 : Memref sig .tc .vmem S2048x1024 .bf16} {w6 : a6.IsWhole}
  {a7 : Memref sig .tc .vmem S2048x1 .f32} {w7 : a7.IsWhole} {a8 : Memref sig .tc .vmem S2048x1024 .bf16} {w8 : a8.IsWhole}
  {a9 : Memref sig .tc .vmem S2048x1024 .f32} {w9 : a9.IsWhole}
  (x : Vec F S2048x1024 .f32) (rw' : Vec F S1024x64 .f32) (ix : Vec F S2048x1 .i32) (ew : Vec F S1x1024x1024 .f32)
  (sw : Vec F S1024x1024 .f32)

/-- The first point: the gate, the cast operand and the sum's start are made, then the first product added. -/
theorem first_run (g : Vec F S2048x1 .f32) (b : Vec F S2048x1024 .bf16) (s : Vec F S2048x1024 .f32) (Q : PUnit → sProp 𝕄)
    (h1 : k0_cond1 i = 1#1) (h2 : k0_cond2 i ≠ 1#1) :
    iprop((has c a1 x ∗ has c a2 rw' ∗ has c a3 ix ∗ has c a4 ew ∗ has c a5 sw ∗ has c a7 g ∗ has c a8 b ∗ has c a9 s)
        ∗ ((has c a1 x ∗ has c a2 rw' ∗ has c a3 ix ∗ has c a4 ew ∗ has c a5 sw ∗ has c a7 (k0_pay4 (F := F) x rw' ix)
            ∗ has c a8 (k0_pay5 (F := F) x)
            ∗ has c a9 (k0_pay2 (F := F) i c ix (k0_pay4 (F := F) x rw' ix) (k0_pay5 (F := F) x) ew (sumStart c x sw)))
          -∗ Q ⟨⟩))
      ⊢ wp frame (wpE defs 𝒱₀ (c : Thread nD τ) none) Set.univ
        (cc0__compute_body i a1 w1 a2 w2 a3 w3 a4 w4 a5 w5 a6 w6 a7 w7 a8 w8 a9 w9) Q := by
  rw [cc0__compute_body_eq_skeleton]; unfold cc0__compute_body_skel
  rw [k0_part1_eq_skeleton]; unfold k0_part1_skel
  simp only [Prog.lift, Prog.bind_op, Prog.bind_ret, Prog.pure_eq_ret, wp_deviceId, dif_pos h1, dif_neg h2]
  iintro ⟨⟨H1, H2, H3, H4, H5, H7, H8, H9⟩, HQ⟩
  iapply (load_full z2); isplitl [H1]; · iexact H1
  iintro H1
  iapply (load_full z2); isplitl [H2]; · iexact H2
  iintro H2
  iapply (load_full z2); isplitl [H3]; · iexact H3
  iintro H3
  iapply (load_full z2); isplitl [H7]; · iexact H7
  iintro H7
  iapply (store_full z2); isplitl [H7]; · iexact H7
  iintro H7
  iapply (load_full z2); isplitl [H1]; · iexact H1
  iintro H1
  iapply (load_full z2); isplitl [H8]; · iexact H8
  iintro H8
  iapply (store_full z2); isplitl [H8]; · iexact H8
  iintro H8
  iapply (load_full z2); isplitl [H9]; · iexact H9
  iintro H9
  iapply (store_full z2); isplitl [H9]; · iexact H9
  iintro H9
  iapply (load_rect (r := ownRows c)); isplitl [H8]; · iexact H8
  iintro H8
  iapply (load_full z2); isplitl [H5]; · iexact H5
  iintro H5
  iapply (load_rect (r := ownRows c)); isplitl [H9]; · iexact H9
  iintro H9
  iapply (store_rect (r := ownRows c)); isplitl [H9]; · iexact H9
  iintro H9
  iapply (load_full z2); isplitl [H3]; · iexact H3
  iintro H3
  iapply (load_full z2); isplitl [H7]; · iexact H7
  iintro H7
  iapply (load_full z2); isplitl [H8]; · iexact H8
  iintro H8
  iapply (load_full z3); isplitl [H4]; · iexact H4
  iintro H4
  iapply (load_full z2); isplitl [H9]; · iexact H9
  iintro H9
  iapply (load_full z2); isplitl [H9]; · iexact H9
  iintro H9
  iapply (store_full z2); isplitl [H9]; · iexact H9
  iintro H9
  rw [wp_ret]; imodintro
  iapply HQ
  isplitl [H1]; · iexact H1
  isplitl [H2]; · iexact H2
  isplitl [H3]; · iexact H3
  isplitl [H4]; · iexact H4
  isplitl [H5]; · iexact H5
  isplitl [H7]; · iexact H7
  isplitl [H8]; · iexact H8
  iexact H9

/-- A point between: its product is added. -/
theorem mid_run (g : Vec F S2048x1 .f32) (b : Vec F S2048x1024 .bf16) (s : Vec F S2048x1024 .f32) (Q : PUnit → sProp 𝕄)
    (h1 : k0_cond1 i ≠ 1#1) (h2 : k0_cond2 i ≠ 1#1) :
    iprop((has c a3 ix ∗ has c a4 ew ∗ has c a7 g ∗ has c a8 b ∗ has c a9 s)
        ∗ ((has c a3 ix ∗ has c a4 ew ∗ has c a7 g ∗ has c a8 b ∗ has c a9 (k0_pay2 (F := F) i c ix g b ew s)) -∗ Q ⟨⟩))
      ⊢ wp frame (wpE defs 𝒱₀ (c : Thread nD τ) none) Set.univ
        (cc0__compute_body i a1 w1 a2 w2 a3 w3 a4 w4 a5 w5 a6 w6 a7 w7 a8 w8 a9 w9) Q := by
  rw [cc0__compute_body_eq_skeleton]; unfold cc0__compute_body_skel
  simp only [Prog.lift, Prog.bind_op, Prog.bind_ret, Prog.pure_eq_ret, wp_deviceId, dif_neg h1, dif_neg h2]
  iintro ⟨⟨H3, H4, H7, H8, H9⟩, HQ⟩
  iapply (load_full z2); isplitl [H3]; · iexact H3
  iintro H3
  iapply (load_full z2); isplitl [H7]; · iexact H7
  iintro H7
  iapply (load_full z2); isplitl [H8]; · iexact H8
  iintro H8
  iapply (load_full z3); isplitl [H4]; · iexact H4
  iintro H4
  iapply (load_full z2); isplitl [H9]; · iexact H9
  iintro H9
  iapply (load_full z2); isplitl [H9]; · iexact H9
  iintro H9
  iapply (store_full z2); isplitl [H9]; · iexact H9
  iintro H9
  rw [wp_ret]; imodintro
  iapply HQ
  isplitl [H3]; · iexact H3
  isplitl [H4]; · iexact H4
  isplitl [H7]; · iexact H7
  isplitl [H8]; · iexact H8
  iexact H9

/-- The last point: its product is added and the sum stored. -/
theorem last_run (g : Vec F S2048x1 .f32) (b : Vec F S2048x1024 .bf16) (s : Vec F S2048x1024 .f32) (o : Vec F S2048x1024 .bf16)
    (Q : PUnit → sProp 𝕄) (h1 : k0_cond1 i ≠ 1#1) (h2 : k0_cond2 i = 1#1) :
    iprop((has c a3 ix ∗ has c a4 ew ∗ has c a6 o ∗ has c a7 g ∗ has c a8 b ∗ has c a9 s)
        ∗ ((has c a3 ix ∗ has c a4 ew ∗ has c a6 (k0_pay3 (F := F) (k0_pay2 (F := F) i c ix g b ew s)) ∗ has c a7 g ∗ has c a8 b
            ∗ has c a9 (k0_pay2 (F := F) i c ix g b ew s)) -∗ Q ⟨⟩))
      ⊢ wp frame (wpE defs 𝒱₀ (c : Thread nD τ) none) Set.univ
        (cc0__compute_body i a1 w1 a2 w2 a3 w3 a4 w4 a5 w5 a6 w6 a7 w7 a8 w8 a9 w9) Q := by
  rw [cc0__compute_body_eq_skeleton]; unfold cc0__compute_body_skel
  simp only [Prog.lift, Prog.bind_op, Prog.bind_ret, Prog.pure_eq_ret, wp_deviceId, dif_neg h1, dif_pos h2]
  iintro ⟨⟨H3, H4, H6, H7, H8, H9⟩, HQ⟩
  iapply (load_full z2); isplitl [H3]; · iexact H3
  iintro H3
  iapply (load_full z2); isplitl [H7]; · iexact H7
  iintro H7
  iapply (load_full z2); isplitl [H8]; · iexact H8
  iintro H8
  iapply (load_full z3); isplitl [H4]; · iexact H4
  iintro H4
  iapply (load_full z2); isplitl [H9]; · iexact H9
  iintro H9
  iapply (load_full z2); isplitl [H9]; · iexact H9
  iintro H9
  iapply (store_full z2); isplitl [H9]; · iexact H9
  iintro H9
  iapply (load_full z2); isplitl [H9]; · iexact H9
  iintro H9
  iapply (load_full z2); isplitl [H6]; · iexact H6
  iintro H6
  iapply (store_full z2); isplitl [H6]; · iexact H6
  iintro H6
  rw [wp_ret]; imodintro
  iapply HQ
  isplitl [H3]; · iexact H3
  isplitl [H4]; · iexact H4
  isplitl [H6]; · iexact H6
  isplitl [H7]; · iexact H7
  isplitl [H8]; · iexact H8
  iexact H9

end Body

end Cert.KernelIdeal.AR

end
-- ==== Proof.Contents.lean ====
/-
  What the products' kernel computes on each device from the launch memory: the gate, the cast operand,
  the sum after each expert, and the device's operand of the exchange.
-/
module

public import proofs.«01_k».proof.Proof.Compute
public import proofs.«01_k».proof.Proof.Gen.KernelIdeal.Points
public import proofs.«01_k».proof.Proof.Gen.KernelIdeal.Regions

@[expose] public section

noncomputable section

namespace Cert.KernelIdeal.AR

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The arrays at launch, by what they are. -/
def xArr (c : Dev nD) : Vec F S2048x1024 .f32 := V0 m c main_arg0
def rwArr (c : Dev nD) : Vec F S1024x64 .f32 := V0 m c main_arg1
def ixArr (c : Dev nD) : Vec F S2048x1 .i32 := V0 m c main_arg2
def swArr (c : Dev nD) : Vec F S1024x1024 .f32 := V0 m c main_arg4

/-- Point `n` of the grid, the points repeating after eight. -/
def ptOf (n : ℕ) : Fin grid0.N := ⟨n % 8, by rw [N_0]; exact Nat.mod_lt _ (by decide)⟩

/-- The expert's matrix point `t` reads. -/
def ewAt (c : Dev nD) (t : Fin grid0.N) : Vec F S1x1024x1024 .f32 := (win0_3.blk t).view.read (Elt F) (V0 m c main_arg3)

def gateOf (c : Dev nD) : Vec F S2048x1 .f32 := k0_pay4 (F := F) (xArr m c) (rwArr m c) (ixArr m c)
def castOf (c : Dev nD) : Vec F S2048x1024 .bf16 := k0_pay5 (F := F) (xArr m c)

/-- The sum after `n` experts. -/
def sumAt (c : Dev nD) : ℕ → Vec F S2048x1024 .f32
  | 0 => sumStart c (xArr m c) (swArr m c)
  | n + 1 => k0_pay2 (F := F) (grid0.coords (ptOf n)) c (ixArr m c) (gateOf m c) (castOf m c) (ewAt m c (ptOf n)) (sumAt c n)

/-- The device's operand of the exchange. -/
def outOf (c : Dev nD) : Big F := k0_pay3 (F := F) (sumAt m c 8)

theorem ptOf_val (t : Fin grid0.N) : ptOf t.val = t := Fin.ext (Nat.mod_eq_of_lt (lt_of_lt_of_eq t.isLt N_0))

theorem sumAt_succ (c : Dev nD) (t : Fin grid0.N) :
    sumAt m c (t.val + 1) = k0_pay2 (F := F) (grid0.coords t) c (ixArr m c) (gateOf m c) (castOf m c) (ewAt m c t) (sumAt m c t.val) := by
  show k0_pay2 (F := F) (grid0.coords (ptOf t.val)) c _ _ _ (ewAt m c (ptOf t.val)) _ = _
  rw [ptOf_val]

theorem cond1_iff : ∀ t : Fin grid0.N, k0_cond1 (grid0.coords t) = 1#1 ↔ t.val = 0 := by decide +kernel
theorem cond2_iff : ∀ t : Fin grid0.N, k0_cond2 (grid0.coords t) = 1#1 ↔ t.val = 7 := by decide +kernel

/-- The windows that read a whole array at every point read it. -/
theorem blk0_0 (t : Fin grid0.N) (f : Vec F S2048x1024 .f32) : (win0_0.blk t).view.read (Elt F) f = f :=
  funext fun j => congrArg f (funext fun a => Fin.ext (by fin_cases a <;> exact (Nat.zero_add _).trans (Nat.one_mul _)))
theorem blk0_1 (t : Fin grid0.N) (f : Vec F S1024x64 .f32) : (win0_1.blk t).view.read (Elt F) f = f :=
  funext fun j => congrArg f (funext fun a => Fin.ext (by fin_cases a <;> exact (Nat.zero_add _).trans (Nat.one_mul _)))
theorem blk0_2 (t : Fin grid0.N) (f : Vec F S2048x1 .i32) : (win0_2.blk t).view.read (Elt F) f = f :=
  funext fun j => congrArg f (funext fun a => Fin.ext (by fin_cases a <;> exact (Nat.zero_add _).trans (Nat.one_mul _)))
theorem blk0_4 (t : Fin grid0.N) (f : Vec F S1024x1024 .f32) : (win0_4.blk t).view.read (Elt F) f = f :=
  funext fun j => congrArg f (funext fun a => Fin.ext (by fin_cases a <;> exact (Nat.zero_add _).trans (Nat.one_mul _)))

end Cert.KernelIdeal.AR

end
-- ==== Proof.Barrier.lean ====
/-
  The barrier that opens the exchange: each device tells its three neighbours that its landing slots are open,
  handing over the slots and the blocks of the result each transfer will want, and waits for their three words.
-/
module

public import proofs.«01_k».proof.Proof.State
public import proofs.«01_k».proof.Proof.Gen.KernelIdeal.Skeleton

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Two families over everything, as one family of pairs, and back. -/
theorem both {ι : Type} [Fintype ι] (Φ Ψ : ι → sProp 𝕄) :
    iprop(bigSep Finset.univ Φ ∗ bigSep Finset.univ Ψ) ⊢ bigSep Finset.univ (fun c => iprop(Φ c ∗ Ψ c)) :=
  Entails.of_eq (bigSep_sep _ _ _).symm
theorem apart {ι : Type} [Fintype ι] (Φ Ψ : ι → sProp 𝕄) :
    bigSep Finset.univ (fun c => iprop(Φ c ∗ Ψ c)) ⊢ iprop(bigSep Finset.univ Φ ∗ bigSep Finset.univ Ψ) :=
  Entails.of_eq (bigSep_sep _ _ _)

/-- What device `c` gives its other end for transfer `s`. -/
def give (c : Dev nD) (s : Fin 42) : sProp 𝕄 :=
  iprop(reached ER (recvC c s) 0 ∗ whenB (isRS s) (slotAny c s) ∗ whenB (s.val < 12) (iprop(∃ f : Big F, oPts c (sB s c) f)))

/-- The neighbour across edge `x`. -/
def nb (x : Fin 3) (c : Dev nD) : Dev nD := par (2 ^ x.val) c
theorem nb_nb : ∀ (x : Fin 3) (c : Dev nD), nb x (nb x c) = c := by decide +kernel
theorem nb_edge : ∀ (s : Fin 42) (c : Dev nD), nb (edge s) c = pr s c := by decide +kernel
theorem image_edge : (Finset.univ : Finset (Fin 42)).image edge = Finset.univ := by decide +kernel

theorem entry_give (c : Dev nD) (s : Fin 42) : (entry s (pr s c) : sProp 𝕄) = give c s := by
  unfold entry give right
  rw [pr_pr]; rfl

theorem barPay_give (x : Fin 3) (c : Dev nD) :
    (barPay (nb x c) x : sProp 𝕄) = bigSep (Finset.univ.filter fun s => edge s = x) fun s => give c s := by
  unfold barPay
  refine bigSep_congr fun s hs => ?_
  obtain ⟨-, h⟩ := Finset.mem_filter.mp hs
  rw [← h, nb_edge, entry_give]

theorem fin3 (Φ : Fin 3 → sProp 𝕄) : bigSep Finset.univ Φ = iprop(Φ 0 ∗ Φ 1 ∗ Φ 2) :=
  bigSep_univ_eq_bigSepL [0, 1, 2] (by decide) (by decide) Φ

theorem give_all (c : Dev nD) : (bigSep Finset.univ fun s => give c s : sProp 𝕄)
    = iprop(barPay (nb 0 c) 0 ∗ barPay (nb 1 c) 1 ∗ barPay (nb 2 c) 2) := by
  rw [bigSep_fiberwise _ edge, image_edge, fin3, barPay_give, barPay_give, barPay_give]
theorem get_all (c : Dev nD) : (bigSep Finset.univ fun x : Fin 3 => barPay c x : sProp 𝕄)
    = bigSep Finset.univ fun s => entry s c := by
  rw [bigSep_fiberwise (Finset.univ : Finset (Fin 42)) edge, image_edge]; rfl

/-- What device `c` holds of transfer `s` before the barrier. -/
def pre1 (c : Dev nD) (s : Fin 42) : sProp 𝕄 :=
  iprop(dutyTok ER (sendC c s) 0 0 ∗ reached ER (sendC c s) 0 ∗ dutyTok ER (recvC (pr s c) s) 0 0
      ∗ atPos ER (sendC c s) 0 ∅ 0 ∗ atPos ER (recvC c s) 0 ∅ 0 ∗ crd (recvC c s) s)

theorem pre_entry (P : Dev nD → Big F) (c : Dev nD) :
    (bigSep Finset.univ (fun s => iprop(pre1 c s ∗ entry s c)) : sProp 𝕄) ⊢ TT P c (fun _ => 0) := by
  refine bigSep_mono fun s _ => ?_
  refine (show _ ⊢ tI0 c s from ?_)
  unfold pre1 tI0
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H6] <;> iassumption

/-- What device `c` owes at the start: a word to each neighbour, and all its transfers. -/
def O₀ (c : Dev nD) : CellTallies nD τ sig Unit :=
  ((owedFrom 0 c + tallyAt (barC (nb 2 c)) () 1) + tallyAt (barC (nb 1 c)) () 1) + tallyAt (barC (nb 0 c)) () 1

/-- A device's holdings of the barrier. -/
def barHold (c : Dev nD) : sProp 𝕄 :=
  iprop((dutyTok ER (barC (nb 0 c)) 0 0 ∗ dutyTok ER (barC (nb 1 c)) 0 1 ∗ dutyTok ER (barC (nb 2 c)) 0 2)
    ∗ (reached ER (barC (nb 0 c)) 0 ∗ reached ER (barC (nb 1 c)) 0 ∗ reached ER (barC (nb 2 c)) 0)
    ∗ atPos ER (barC c) 0 ∅ 0 ∗ cred (tallyAt (barC c) () 3))

variable (P : Dev nD → Big F) (defs : Defs nD τ sig (Elt F) Λ₀) (K : GSem nD τ sig → ℕ) (c : Dev nD)

def Pre (R : sProp 𝕄) : sProp 𝕄 :=
  iprop(Inv P K ∗ (∃ W, owes (c : Thread nD τ) (O₀ c) W) ∗ barHold c ∗ (bigSep Finset.univ fun s => pre1 c s)
    ∗ (bigSep Finset.univ fun s => give c s) ∗ PP P c (cfg0 c).PB ∗ OO P c (cfg0 c).OB ∗ R)

theorem mem_bar (d : Dev nD) (x : Fin 3) : x ∈ (arRd P).duties (barC d) 0 := by rw [duties_bar]; exact Finset.mem_univ _

set_option maxHeartbeats 1000000 in
theorem part2_run (R : sProp 𝕄) (v13 v24 v26 v28 v31 v32 : BitVec 32)
    (Q : (Σ' (v35 : BitVec 32) (v46 : BitVec 32) (v57 : BitVec 32), BitVec 32) → sProp 𝕄) {h0 h1 h2}
    (hQ : ∀ r, St P K (iprop(atPos ER (barC c) (0 + 1) ∅ 0 ∗ R)) c (cfg0 c) ⊢ Q r) :
    Pre P K c R ⊢ wp frame (wpE defs 𝒱₀ (c : Thread nD τ) none) Set.univ
      (k1_part2 aM h0 oM h1 lM h2 cc1_scratch1 cc1_scratch2 c v13 v24 v26 v28 v31 v32) Q := by
  rw [k1_part2_eq_skeleton]; unfold k1_part2_skel
  simp only [semSignalWord, semWaitWord, Prog.lift, Prog.bind_op, Prog.bind_ret, Prog.pure_eq_ret, dev_bar0, dev_bar1, dev_bar2]
  rw [show (1#32 : BitVec 32).toInt = ((1 : ℕ) : ℤ) from rfl, show (3#32 : BitVec 32).toInt = ((3 : ℕ) : ℤ) from rfl]
  unfold Pre barHold O₀
  rw [give_all]
  iintro ⟨#HI, ⟨%W, HO⟩, ⟨⟨Ht0, Ht1, Ht2⟩, ⟨#Hr0, #Hr1, #Hr2⟩, Hat, Hcr⟩, Hpre, ⟨Hg0, Hg1, Hg2⟩, HP, HB, HR⟩
  iapply (Rounds.wp_signal 𝒱₀ ER (arRd P) (c : Thread nD τ) none (dst := (nb 0 c : Thread nD τ)) (sem := barS) (r := 0) (d := 0)
    (κ := K (barC (nb 0 c))) (mem_bar P _ 0) (amount_bar P (nb 0 c) 0) () _ rfl) $$ [HO Ht0 Hg0]
  · isplitr; · iapply (Inv_bar P K (nb 0 c)); iexact HI
    isplitl [HO]; · iexact HO
    isplitl [Ht0]; · iexact Ht0
    isplitl [Hg0]; · iapply (Entails.of_eq (payload_bar P (nb 0 c) 0).symm) $$ Hg0
    iexact Hr0
  iintro HO
  iapply (Rounds.wp_signal 𝒱₀ ER (arRd P) (c : Thread nD τ) none (dst := (nb 1 c : Thread nD τ)) (sem := barS) (r := 0) (d := 1)
    (κ := K (barC (nb 1 c))) (mem_bar P _ 1) (amount_bar P (nb 1 c) 1) () _ rfl) $$ [HO Ht1 Hg1]
  · isplitr; · iapply (Inv_bar P K (nb 1 c)); iexact HI
    isplitl [HO]; · iexact HO
    isplitl [Ht1]; · iexact Ht1
    isplitl [Hg1]; · iapply (Entails.of_eq (payload_bar P (nb 1 c) 1).symm) $$ Hg1
    iexact Hr1
  iintro HO
  iapply (Rounds.wp_signal 𝒱₀ ER (arRd P) (c : Thread nD τ) none (dst := (nb 2 c : Thread nD τ)) (sem := barS) (r := 0) (d := 2)
    (κ := K (barC (nb 2 c))) (mem_bar P _ 2) (amount_bar P (nb 2 c) 2) () _ rfl) $$ [HO Ht2 Hg2]
  · isplitr; · iapply (Inv_bar P K (nb 2 c)); iexact HI
    isplitl [HO]; · iexact HO
    isplitl [Ht2]; · iexact Ht2
    isplitl [Hg2]; · iapply (Entails.of_eq (payload_bar P (nb 2 c) 2).symm) $$ Hg2
    iexact Hr2
  iintro HO
  iapply (Rounds.wp_wait_rest_token 𝒱₀ ER (arRd P) (c : Thread nD τ) none (κ := K (barC c))
    (wpE_semWait_eq 𝒱₀ (c : Thread nD τ) none Set.univ) (Set.mem_univ _) () (O := owedFrom 0 c) (W := W) (R := 0) (m := 0) (T := ∅)
    ((Nat.zero_add 3).trans (expect_bar P c).symm)) $$ [HO Hcr Hat]
  · isplitr; · iapply (Inv_bar P K c); iexact HI
    isplitl [Hcr]; · iexact Hcr
    isplitl [HO]; · iexact HO
    isplitr; · iapply (mayWait 0 c (.reg barS) (by show 1 < 2 + 0; decide)); iapply (Inv_lev P K); iexact HI
    iexact Hat
  iintro ⟨HO, Hat, -, Hpay⟩
  ihave Hp := (Entails.of_eq ((rest_bar P c).trans (get_all c))) $$ Hpay
  rw [wp_ret]; imodintro
  iapply (hQ _)
  unfold St Ow
  isplitr; · iexact HI
  isplitl [HO]; · iexists _; iexact HO
  isplitl [Hpre Hp]
  · iapply (pre_entry P c)
    iapply (both _ _)
    isplitl [Hpre] <;> iassumption
  isplitl [HP]; · iexact HP
  isplitl [HB]; · iexact HB
  isplitl [Hat] <;> iassumption

end Cert.KernelIdeal.AR

end
-- ==== Proof.Region0.lean ====
/-
  The products' kernel as a region of the program: its proof data, its body at every point, and the
  region entered with the arrays at launch and left with the device's operand of the exchange stored.
-/
module

public import proofs.«01_k».proof.Proof.Contents
public import proofs.«01_k».proof.Proof.Barrier
public import Idealize.ShloMosaic.Lib.Pipeline.FrameBody
public import Idealize.ShloMosaic.Lib.Pipeline.RegionArrays

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.AR
open Idealize.ShloMosaic.Pipeline (Dat BodyObligation BodyObligationLoose)

variable {F : FTy → Type} [FloatOps F]

local notation "𝕄" => MT nD τ sig Unit (Elt F) ℕ UU ℕ

/-- The scoped buffers neither staged nor used here. -/
def idle0Rest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f))

variable (m : (ℓ : Loc nD τ sig) → Buf (Elt F) ℓ)

/-- What the kernel carries from point to point: nothing before the first; then the gate, the cast operand and the sum so far. -/
def carried (c : Dev nD) (n : ℕ) : sProp 𝕄 :=
  iprop(∃ g b s, ⌜n ≠ 0 → g = gateOf m c ∧ b = castOf m c ∧ s = sumAt m c n⌝
    ∗ has c (Memref.whole cc0_scratch0) g ∗ has c (Memref.whole cc0_scratch1) b ∗ has c (Memref.whole cc0_scratch2) s)

def dat0 (c : Dev nD) : Dat τ (Elt F) Unit ℕ UU ℕ cfg0 c where
  A w := V0 m c (Proc.devRef .tc (Pipeline.arrRef spec0 w))
  after w t := match w with
    | ⟨0, _⟩ => xArr m c
    | ⟨1, _⟩ => rwArr m c
    | ⟨2, _⟩ => ixArr m c
    | ⟨3, _⟩ => ewAt m c t
    | ⟨4, _⟩ => swArr m c
    | ⟨5, _⟩ => outOf m c
  Φ t := iprop(carried m c t.val ∗ idle0Rest c)
  q _ := fullShare
  owed _ := O₀ c

theorem before0_0 (c : Dev nD) (t : Fin cfg0.N) (d) : (dat0 m c).before 0 t d = xArr m c :=
  ((dat0 m c).before_in_eq_fetched 0 rfl (fun _ => rfl) (fun _ _ _ => rfl) (fun t => (blk0_0 t (xArr m c)).symm) t d).trans (blk0_0 t (xArr m c))
theorem before0_1 (c : Dev nD) (t : Fin cfg0.N) (d) : (dat0 m c).before 1 t d = rwArr m c :=
  ((dat0 m c).before_in_eq_fetched 1 rfl (fun _ => rfl) (fun _ _ _ => rfl) (fun t => (blk0_1 t (rwArr m c)).symm) t d).trans (blk0_1 t (rwArr m c))
theorem before0_2 (c : Dev nD) (t : Fin cfg0.N) (d) : (dat0 m c).before 2 t d = ixArr m c :=
  ((dat0 m c).before_in_eq_fetched 2 rfl (fun _ => rfl) (fun _ _ _ => rfl) (fun t => (blk0_2 t (ixArr m c)).symm) t d).trans (blk0_2 t (ixArr m c))
theorem before0_3 (c : Dev nD) (t : Fin cfg0.N) (d) : (dat0 m c).before 3 t d = ewAt m c t :=
  (dat0 m c).before_in_eq_fetched 3 rfl (fun _ => rfl) (fun _ _ _ => rfl) (fun t => rfl) t d
theorem before0_4 (c : Dev nD) (t : Fin cfg0.N) (d) : (dat0 m c).before 4 t d = swArr m c :=
  ((dat0 m c).before_in_eq_fetched 4 rfl (fun _ => rfl) (fun _ _ _ => rfl) (fun t => (blk0_4 t (swArr m c)).symm) t d).trans (blk0_4 t (swArr m c))

abbrev before5 (c : Dev nD) (t : Fin cfg0.N) : sProp 𝕄 := iprop(∃ d, has c (st0_5 t) ((dat0 m c).before 5 t d))

/-- Where the result's buffer is left alone it goes back as found. -/
theorem leaves5_idle (c : Dev nD) (t : Fin cfg0.N) (h : t.val ≠ 7) : before5 m c t ⊢ (dat0 m c).leavesExact 5 t := by
  have hi : cfg0.idle 5 (cfg0.grid.coords t) = true := by
    have h2 : k0_cond2 (grid0.coords t) ≠ 1#1 := fun e => h ((cond2_iff t).mp e)
    show (!(k0_cond2 (grid0.coords t) == 1#1)) = true
    rw [beq_eq_false_iff_ne.mpr h2]; rfl
  have hf : (cfg0.win 5).flush t = false := by
    rw [Bool.eq_false_iff]; intro e
    have h8 : t.val < 8 := lt_of_lt_of_eq t.isLt N_0
    have := (flush0_5 t).mp e; omega
  unfold Dat.leavesExact
  rw [hi]; dsimp only
  rw [hf]

theorem leaves5_last (c : Dev nD) (t : Fin cfg0.N) (h : t.val = 7) : has c (st0_5 t) (outOf m c) ⊢ (dat0 m c).leavesExact 5 t := by
  have hi : cfg0.idle 5 (cfg0.grid.coords t) = false := by
    show (!(k0_cond2 (grid0.coords t) == 1#1)) = false
    rw [(cond2_iff t).mpr h]; rfl
  unfold Dat.leavesExact
  rw [hi]
  exact BI.Entails.refl _

/-- The windows as the body finds them and as it leaves them. -/
theorem found0 (c : Dev nD) (t : Fin cfg0.N) :
    (bigSep Finset.univ fun w : Fin cfg0.W => iprop(∃ d, owns (c : Thread nD τ) ((cfg0.win w).stage (cfg0.slots t w)) fullShare ((dat0 m c).before w t d)) : sProp 𝕄)
      ⊢ iprop(has c (st0_0 t) (xArr m c) ∗ has c (st0_1 t) (rwArr m c) ∗ has c (st0_2 t) (ixArr m c) ∗ has c (st0_3 t) (ewAt m c t)
        ∗ has c (st0_4 t) (swArr m c) ∗ before5 m c t) := by
  rw [bigSep_W0]
  simp only [before0_0, before0_1, before0_2, before0_3, before0_4]
  iintro ⟨⟨%_, H0⟩, ⟨%_, H1⟩, ⟨%_, H2⟩, ⟨%_, H3⟩, ⟨%_, H4⟩, H5⟩
  isplitl [H0]; · iexact H0
  isplitl [H1]; · iexact H1
  isplitl [H2]; · iexact H2
  isplitl [H3]; · iexact H3
  isplitl [H4]; · iexact H4
  iexact H5

theorem left0 (c : Dev nD) (t : Fin cfg0.N) :
    iprop(has c (st0_0 t) (xArr m c) ∗ has c (st0_1 t) (rwArr m c) ∗ has c (st0_2 t) (ixArr m c) ∗ has c (st0_3 t) (ewAt m c t)
        ∗ has c (st0_4 t) (swArr m c) ∗ (dat0 m c).leavesExact 5 t)
      ⊢ (bigSep Finset.univ fun w : Fin cfg0.W => (dat0 m c).leavesExact w t : sProp 𝕄) := by
  rw [bigSep_W0]
  exact BI.Entails.refl _

/-- One point, whichever it is. -/
theorem point0 (c : Dev nD) (t : Fin cfg0.N) :
    iprop(carried m c t.val ∗ has c (st0_0 t) (xArr m c) ∗ has c (st0_1 t) (rwArr m c) ∗ has c (st0_2 t) (ixArr m c) ∗ has c (st0_3 t) (ewAt m c t)
        ∗ has c (st0_4 t) (swArr m c) ∗ before5 m c t)
      ⊢ wp frame (wpE defs₀ 𝒱₀ (c : Thread nD τ) none) Set.univ (bodyAt0 (F := F) t) fun _ =>
        iprop(carried m c (t.val + 1) ∗ has c (st0_0 t) (xArr m c) ∗ has c (st0_1 t) (rwArr m c) ∗ has c (st0_2 t) (ixArr m c)
          ∗ has c (st0_3 t) (ewAt m c t) ∗ has c (st0_4 t) (swArr m c) ∗ (dat0 m c).leavesExact 5 t) := by
  unfold carried
  rw [sumAt_succ]
  iintro ⟨⟨%g, %b, %s, %hc, H7, H8, H9⟩, H1, H2, H3, H4, H5, H6⟩
  by_cases h0 : t.val = 0
  · have h1 : k0_cond1 (grid0.coords t) = 1#1 := (cond1_iff t).mpr h0
    have h2 : k0_cond2 (grid0.coords t) ≠ 1#1 := fun e => by have := (cond2_iff t).mp e; omega
    iapply (first_run defs₀ (xArr m c) (rwArr m c) (ixArr m c) (ewAt m c t) (swArr m c) g b s _ h1 h2)
    isplitr [H6]
    · isplitl [H1]; · iexact H1
      isplitl [H2]; · iexact H2
      isplitl [H3]; · iexact H3
      isplitl [H4]; · iexact H4
      isplitl [H5]; · iexact H5
      isplitl [H7]; · iexact H7
      isplitl [H8] <;> iassumption
    iintro ⟨H1, H2, H3, H4, H5, H7, H8, H9⟩
    isplitl [H7 H8 H9]
    · iexists _, _, _
      isplitr; swap
      · isplitl [H7]; · iexact H7
        isplitl [H8] <;> iassumption
      ipureintro
      intro _
      rw [h0]
      exact ⟨rfl, rfl, rfl⟩
    isplitl [H1]; · iexact H1
    isplitl [H2]; · iexact H2
    isplitl [H3]; · iexact H3
    isplitl [H4]; · iexact H4
    isplitl [H5]; · iexact H5
    iapply (leaves5_idle m c t (by omega)); iexact H6
  obtain ⟨rfl, rfl, rfl⟩ := hc h0
  have h1 : k0_cond1 (grid0.coords t) ≠ 1#1 := fun e => h0 ((cond1_iff t).mp e)
  by_cases h7 : t.val = 7
  · have h2 : k0_cond2 (grid0.coords t) = 1#1 := (cond2_iff t).mpr h7
    icases H6 with ⟨%o, H6⟩
    iapply (last_run defs₀ (ixArr m c) (ewAt m c t) (gateOf m c) (castOf m c) (sumAt m c t.val) _ _ h1 h2)
    isplitr [H1 H2 H5]
    · isplitl [H3]; · iexact H3
      isplitl [H4]; · iexact H4
      isplitl [H6]; · iexact H6
      isplitl [H7]; · iexact H7
      isplitl [H8] <;> iassumption
    iintro ⟨H3, H4, H6, H7, H8, H9⟩
    isplitl [H7 H8 H9]
    · iexists _, _, _
      isplitr; swap
      · isplitl [H7]; · iexact H7
        isplitl [H8] <;> iassumption
      ipureintro
      exact fun _ => ⟨rfl, rfl, rfl⟩
    isplitl [H1]; · iexact H1
    isplitl [H2]; · iexact H2
    isplitl [H3]; · iexact H3
    isplitl [H4]; · iexact H4
    isplitl [H5]; · iexact H5
    iapply (leaves5_last m c t h7)
    ihave H6 := (Entails.of_eq (show has c (st0_5 t) (k0_pay3 (F := F) (k0_pay2 (F := F) (grid0.coords t) c (ixArr m c) (gateOf m c) (castOf m c) (ewAt m c t) (sumAt m c t.val)))
      = has c (st0_5 t) (outOf m c) from by rw [← sumAt_succ, h7]; rfl)) $$ H6
    iexact H6
  · have h2 : k0_cond2 (grid0.coords t) ≠ 1#1 := fun e => h7 ((cond2_iff t).mp e)
    iapply (mid_run defs₀ (ixArr m c) (ewAt m c t) (gateOf m c) (castOf m c) (sumAt m c t.val) _ h1 h2)
    isplitr [H1 H2 H5 H6]
    · isplitl [H3]; · iexact H3
      isplitl [H4]; · iexact H4
      isplitl [H7]; · iexact H7
      isplitl [H8] <;> iassumption
    iintro ⟨H3, H4, H7, H8, H9⟩
    isplitl [H7 H8 H9]
    · iexists _, _, _
      isplitr; swap
      · isplitl [H7]; · iexact H7
        isplitl [H8] <;> iassumption
      ipureintro
      exact fun _ => ⟨rfl, rfl, rfl⟩
    isplitl [H1]; · iexact H1
    isplitl [H2]; · iexact H2
    isplitl [H3]; · iexact H3
    isplitl [H4]; · iexact H4
    isplitl [H5]; · iexact H5
    iapply (leaves5_idle m c t h7); iexact H6

theorem body0 (c : Dev nD) : BodyObligation (dat0 m c) defs₀ 𝒱₀ () Set.univ := fun t => by
  have hw : (dat0 m c).owesAt () t.castSucc = (dat0 m c).owesAt () t.succ := rfl
  have e : iprop((dat0 m c).Φ t.castSucc ∗ (dat0 m c).owesAt () t.castSucc
        ∗ bigSep Finset.univ fun w : Fin cfg0.W => iprop(∃ d, owns (c : Thread nD τ) ((cfg0.win w).stage (cfg0.slots t w)) fullShare ((dat0 m c).before w t d)))
      ⊢ (iprop((carried m c t.val ∗ has c (st0_0 t) (xArr m c) ∗ has c (st0_1 t) (rwArr m c) ∗ has c (st0_2 t) (ixArr m c) ∗ has c (st0_3 t) (ewAt m c t)
        ∗ has c (st0_4 t) (swArr m c) ∗ before5 m c t) ∗ (idle0Rest c ∗ (dat0 m c).owesAt () t.castSucc)) : sProp 𝕄) := by
    show iprop((carried m c t.val ∗ idle0Rest c) ∗ _ ∗ _) ⊢ _
    iintro ⟨⟨Hc, Hi⟩, HO, HW⟩
    ihave HW := (found0 m c t) $$ HW
    isplitl [Hc HW]
    · isplitl [Hc] <;> iassumption
    isplitl [Hi] <;> iassumption
  refine e.trans ((sep_mono_left (point0 m c t)).trans ((wp_frame_r _ _ _).trans (wp_mono _ _ _ fun _ => ?_)))
  show _ ⊢ iprop((carried m c (t.val + 1) ∗ idle0Rest c) ∗ (dat0 m c).owesAt () t.castSucc ∗ bigSep Finset.univ fun w : Fin cfg0.W => (dat0 m c).leavesExact w t)
  iintro ⟨⟨Hc, HW⟩, Hi, HO⟩
  isplitl [Hc Hi]
  · isplitl [Hc] <;> iassumption
  isplitl [HO]; · iexact HO
  iapply (left0 m c t); iexact HW

end Cert.KernelIdeal.Run

end
-- ==== Proof.PartsA.lean ====
/-
  The parts of the exchange's body, each a run of its events over the device's holdings: the first transfers and additions.
-/
module

public import proofs.«01_k».proof.Proof.State
public import proofs.«01_k».proof.Proof.Gen.KernelIdeal.Skeleton
public import Idealize.ShloMosaic.Lib.Pipeline.Value

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (P : Dev nD → Big F) (defs : Defs nD τ sig (Elt F) Λ₀) (K : GSem nD τ sig → ℕ) {c : Dev nD} {γ : Cfg}

theorem part3_run (R : sProp 𝕄) (Q : (Σ' (v70 : BitVec 32), BitVec 32) → sProp 𝕄) (v46 : BitVec 32) (v57 : BitVec 32) (v58 : BitVec 32) {h0 h1 h2}
    (hok : okRun c γ evs3 = true) (hQ : ∀ r, St P K R c (run c γ evs3) ⊢ Q r) :
    St P K R c γ ⊢ wp frame (wpE defs 𝒱₀ (c : Thread nD τ) none) Set.univ
      (k1_part3 aM h0 oM h1 lM h2 cc1_scratch1 cc1_scratch2 c v46 v57 v58) Q := by
  obtain ⟨o0, hok⟩ := okRun_cons hok
  obtain ⟨o1, hok⟩ := okRun_cons hok
  rw [k1_part3_eq_skeleton]; unfold k1_part3_skel
  simp only [Prog.lift, Prog.bind_op, Prog.bind_ret, Prog.pure_eq_ret]
  refine st_sendA P defs K c _ _ R Q 0 (n := 96) rfl (src_0 c) rfl (dev_0 c _) rfl rfl ?_ o0
  refine st_sendA P defs K c _ _ R Q 1 (n := 96) rfl (src_1 c) rfl (dev_1 c _) rfl rfl ?_ o1
  exact (hQ _).trans fupd_intro

theorem part4_run (R : sProp 𝕄) (Q : (Σ' (v94 : BitVec 32) (v106 : BitVec 32) (v110 : BitVec 32), BitVec 32) → sProp 𝕄) (v13 : BitVec 32) (v35 : BitVec 32) (v46 : BitVec 32) (v57 : BitVec 32) (v58 : BitVec 32) {h0 h1 h2}
    (hok : okRun c γ evs4 = true) (hQ : ∀ r, St P K R c (run c γ evs4) ⊢ Q r) :
    St P K R c γ ⊢ wp frame (wpE defs 𝒱₀ (c : Thread nD τ) none) Set.univ
      (k1_part4 aM h0 oM h1 lM h2 cc1_scratch1 cc1_scratch2 c v13 v35 v46 v57 v58) Q := by
  obtain ⟨o0, hok⟩ := okRun_cons hok
  obtain ⟨o1, hok⟩ := okRun_cons hok
  obtain ⟨o2, hok⟩ := okRun_cons hok
  rw [k1_part4_eq_skeleton]; unfold k1_part4_skel
  simp only [Prog.lift, Prog.bind_op, Prog.bind_ret, Prog.pure_eq_ret]
  refine st_sendA P defs K c _ _ R Q 2 (n := 96) rfl (src_2 c) rfl (dev_2 c _) rfl rfl ?_ o0
  refine st_sendA P defs K c _ _ R Q 3 (n := 96) rfl (src_3 c) rfl (dev_3 c _) rfl rfl ?_ o1
  refine st_sendA P defs K c _ _ R Q 4 (n := 96) rfl (src_4 c) rfl (dev_4 c _) rfl rfl ?_ o2
  exact (hQ _).trans fupd_intro

theorem part5_run (R : sProp 𝕄) (Q : (Σ' (v123 : BitVec 32) (v135 : BitVec 32) (v147 : BitVec 32), BitVec 32) → sProp 𝕄) (v35 : BitVec 32) (v110 : BitVec 32) (v111 : BitVec 32) {h0 h1 h2}
    (hok : okRun c γ evs5 = true) (hQ : ∀ r, St P K R c (run c γ evs5) ⊢ Q r) :
    St P K R c γ ⊢ wp frame (wpE defs 𝒱₀ (c : Thread nD τ) none) Set.univ
      (k1_part5 aM h0 oM h1 lM h2 cc1_scratch1 cc1_scratch2 c v35 v110 v111) Q := by
  obtain ⟨o0, hok⟩ := okRun_cons hok
  obtain ⟨o1, hok⟩ := okRun_cons hok
  rw [k1_part5_eq_skeleton]; unfold k1_part5_skel
  simp only [Prog.lift, Prog.bind_op, Prog.bind_ret, Prog.pure_eq_ret]
  refine st_sendA P defs K c _ _ R Q 5 (n := 96) rfl (src_5 c) rfl (dev_5 c _) rfl rfl ?_ o0
  refine st_sendA P defs K c _ _ R Q 6 (n := 96) rfl (src_6 c) rfl (dev_6 c _) rfl rfl ?_ o1
  exact (hQ _).trans fupd_intro

theorem part6_run (R : sProp 𝕄) (Q : (Σ' (v159 : BitVec 32) (v163 : BitVec 32) (v164 : BitVec 32), BitVec 32) → sProp 𝕄) (v13 : BitVec 32) (v24 : BitVec 32) (v111 : BitVec 32) (v151 : BitVec 32) {h0 h1 h2}
    (hok : okRun c γ evs6 = true) (hQ : ∀ r, St P K R c (run c γ evs6) ⊢ Q r) :
    St P K R c γ ⊢ wp frame (wpE defs 𝒱₀ (c : Thread nD τ) none) Set.univ
      (k1_part6 aM h0 oM h1 lM h2 cc1_scratch1 cc1_scratch2 c v13 v24 v111 v151) Q := by
  obtain ⟨o0, hok⟩ := okRun_cons hok
  obtain ⟨o1, hok⟩ := okRun_cons hok
  rw [k1_part6_eq_skeleton]; unfold k1_part6_skel
  simp only [Prog.lift, Prog.bind_op, Prog.bind_ret, Prog.pure_eq_ret]
  refine st_sendA P defs K c _ _ R Q 7 (n := 96) rfl (src_7 c) rfl (dev_7 c _) rfl rfl ?_ o0
  refine st_sendA P defs K c _ _ R Q 8 (n := 64) rfl (src_8 c) rfl (dev_8 c _) rfl rfl ?_ o1
  exact (hQ _).trans fupd_intro

theorem part7_run (R : sProp 𝕄) (Q : (Σ' (v188 : BitVec 32) (v200 : BitVec 32), BitVec 32) → sProp 𝕄) (v24 : BitVec 32) (v163 : BitVec 32) (v164 : BitVec 32) {h0 h1 h2}
    (hok : okRun c γ evs7 = true) (hQ : ∀ r, St P K R c (run c γ evs7) ⊢ Q r) :
    St P K R c γ ⊢ wp frame (wpE defs 𝒱₀ (c : Thread nD τ) none) Set.univ
      (k1_part7 aM h0 oM h1 lM h2 cc1_scratch1 cc1_scratch2 c v24 v163 v164) Q := by
  obtain ⟨o0, hok⟩ := okRun_cons hok
  obtain ⟨o1, hok⟩ := okRun_cons hok
  obtain ⟨o2, hok⟩ := okRun_cons hok
  rw [k1_part7_eq_skeleton]; unfold k1_part7_skel
  simp only [Prog.lift, Prog.bind_op, Prog.bind_ret, Prog.pure_eq_ret]
  refine st_sendA P defs K c _ _ R Q 9 (n := 64) rfl (src_9 c) rfl (dev_9 c _) rfl rfl ?_ o0
  refine st_sendA P defs K c _ _ R Q 10 (n := 64) rfl (src_10 c) rfl (dev_10 c _) rfl rfl ?_ o1
  refine st_sendA P defs K c _ _ R Q 11 (n := 64) rfl (src_11 c) rfl (dev_11 c _) rfl rfl ?_ o2
  exact (hQ _).trans fupd_intro

theorem part8_run (R : sProp 𝕄) (Q : (PUnit) → sProp 𝕄) (v46 : BitVec 32) (v70 : BitVec 32) {h0 h1 h2}
    (hok : okRun c γ evs8 = true) (hQ : ∀ r, St P K R c (run c γ evs8) ⊢ Q r) :
    St P K R c γ ⊢ wp frame (wpE defs 𝒱₀ (c : Thread nD τ) none) Set.univ
      (k1_part8 aM h0 oM h1 lM h2 cc1_scratch1 cc1_scratch2 c v46 v70) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part8_eq_skeleton]; unfold k1_part8_skel
  simp only [Prog.lift, Prog.bind_op, Prog.bind_ret, Prog.pure_eq_ret]
  refine st_doneA P defs K c _ _ R Q 0 rfl rfl ?_ o0
  refine st_recv P defs K c _ _ R Q 0 rfl rfl ?_ o1
  refine st_lookA P defs K c _ R Q 0 (by decide) (n := 96) rfl rfl (add_0 c) (fun w2 u2 a2 => ?_) o2
  refine st_put P defs K c _ _ R Q 0 (n := 96) rfl (add_0 c) (v := k1_pay1 w2 u2) (by unfold k1_pay1; rw [shapeCast_self]; exact a2) ?_ o3
  refine st_doneA P defs K c _ _ R Q 1 rfl rfl ?_ o4
  exact (hQ _).trans fupd_intro

theorem part9_run (R : sProp 𝕄) (Q : (FVec F S96x1024 .bf16) → sProp 𝕄) (v46 : BitVec 32) (v82 : BitVec 32) (v94 : BitVec 32) {h0 h1 h2}
    (hok : okRun c γ evs9 = true) (hQ : ∀ r, AccOK P c 2 96 r → St P K R c (run c γ evs9) ⊢ Q r) :
    St P K R c γ ⊢ wp frame (wpE defs 𝒱₀ (c : Thread nD τ) none) Set.univ
      (k1_part9 aM h0 oM h1 lM h2 cc1_scratch1 cc1_scratch2 c v46 v82 v94) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part9_eq_skeleton]; unfold k1_part9_skel
  simp only [Prog.lift, Prog.bind_op, Prog.bind_ret, Prog.pure_eq_ret]
  refine st_recv P defs K c _ _ R Q 1 rfl rfl ?_ o0
  refine st_lookA P defs K c _ R Q 1 (by decide) (n := 96) rfl rfl (add_1 c) (fun w1 u1 a1 => ?_) o1
  refine st_put P defs K c _ _ R Q 1 (n := 96) rfl (add_1 c) (v := k1_pay2 w1 u1) (by unfold k1_pay2; rw [shapeCast_self]; exact a1) ?_ o2
  refine st_doneA P defs K c _ _ R Q 2 rfl rfl ?_ o3
  refine st_recv P defs K c _ _ R Q 2 rfl rfl ?_ o4
  refine st_lookA P defs K c _ R Q 2 (by decide) (n := 96) rfl rfl (add_2 c) (fun w5 u5 a5 => ?_) o5
  exact (hQ _ (by unfold k1_pay3; rw [shapeCast_self]; exact a5)).trans fupd_intro

theorem part10_run (R : sProp 𝕄) (Q : (Σ' (v292 : BitVec 32), BitVec 32) → sProp 𝕄) (v13 : BitVec 32) (v46 : BitVec 32) (v106 : BitVec 32) (v267 : FVec F S96x1024 .bf16) {h0 h1 h2}
    (hok : okRun c γ evs10 = true) (hv : AccOK P c 2 96 v267) (hQ : ∀ r, St P K R c (run c γ evs10) ⊢ Q r) :
    St P K R c γ ⊢ wp frame (wpE defs 𝒱₀ (c : Thread nD τ) none) Set.univ
      (k1_part10 aM h0 oM h1 lM h2 cc1_scratch1 cc1_scratch2 c v13 v46 v106 v267) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part10_eq_skeleton]; unfold k1_part10_skel
  simp only [Prog.lift, Prog.bind_op, Prog.bind_ret, Prog.pure_eq_ret]
  refine st_put P defs K c _ _ R Q 2 (n := 96) rfl (add_2 c) hv ?_ o0
  refine st_doneA P defs K c _ _ R Q 3 rfl rfl ?_ o1
  refine st_recv P defs K c _ _ R Q 3 rfl rfl ?_ o2
  refine st_lookA P defs K c _ R Q 3 (by decide) (n := 96) rfl rfl (add_3 c) (fun w3 u3 a3 => ?_) o3
  refine st_put P defs K c _ _ R Q 3 (n := 96) rfl (add_3 c) (v := k1_pay4 w3 u3) (by unfold k1_pay4; rw [shapeCast_self]; exact a3) ?_ o4
  exact (hQ _).trans fupd_intro

theorem part11_run (R : sProp 𝕄) (Q : (Σ' (v305 : BitVec 32), BitVec 32) → sProp 𝕄) (v35 : BitVec 32) (v292 : BitVec 32) (v293 : BitVec 32) {h0 h1 h2}
    (hok : okRun c γ evs11 = true) (hQ : ∀ r, St P K R c (run c γ evs11) ⊢ Q r) :
    St P K R c γ ⊢ wp frame (wpE defs 𝒱₀ (c : Thread nD τ) none) Set.univ
      (k1_part11 aM h0 oM h1 lM h2 cc1_scratch1 cc1_scratch2 c v35 v292 v293) Q := by
  obtain ⟨o0, hok⟩ := okRun_cons hok
  obtain ⟨o1, hok⟩ := okRun_cons hok
  obtain ⟨o2, hok⟩ := okRun_cons hok
  rw [k1_part11_eq_skeleton]; unfold k1_part11_skel
  simp only [Prog.lift, Prog.bind_op, Prog.bind_ret, Prog.pure_eq_ret]
  refine st_sendB P defs K c _ _ R Q 12 (n := 96) rfl (src_12 c) rfl (dev_12 c _) rfl rfl ?_ o0
  refine st_sendB P defs K c _ _ R Q 13 (n := 96) rfl (src_13 c) rfl (dev_13 c _) rfl rfl ?_ o1
  refine st_doneA P defs K c _ _ R Q 4 rfl rfl ?_ o2
  exact (hQ _).trans fupd_intro

theorem part12_run (R : sProp 𝕄) (Q : (FVec F S96x1024 .bf16) → sProp 𝕄) (v35 : BitVec 32) (v123 : BitVec 32) (v135 : BitVec 32) {h0 h1 h2}
    (hok : okRun c γ evs12 = true) (hQ : ∀ r, AccOK P c 5 96 r → St P K R c (run c γ evs12) ⊢ Q r) :
    St P K R c γ ⊢ wp frame (wpE defs 𝒱₀ (c : Thread nD τ) none) Set.univ
      (k1_part12 aM h0 oM h1 lM h2 cc1_scratch1 cc1_scratch2 c v35 v123 v135) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part12_eq_skeleton]; unfold k1_part12_skel
  simp only [Prog.lift, Prog.bind_op, Prog.bind_ret, Prog.pure_eq_ret]
  refine st_recv P defs K c _ _ R Q 4 rfl rfl ?_ o0
  refine st_lookA P defs K c _ R Q 4 (by decide) (n := 96) rfl rfl (add_4 c) (fun w1 u1 a1 => ?_) o1
  refine st_put P defs K c _ _ R Q 4 (n := 96) rfl (add_4 c) (v := k1_pay5 w1 u1) (by unfold k1_pay5; rw [shapeCast_self]; exact a1) ?_ o2
  refine st_doneA P defs K c _ _ R Q 5 rfl rfl ?_ o3
  refine st_recv P defs K c _ _ R Q 5 rfl rfl ?_ o4
  refine st_lookA P defs K c _ R Q 5 (by decide) (n := 96) rfl rfl (add_5 c) (fun w5 u5 a5 => ?_) o5
  exact (hQ _ (by unfold k1_pay6; rw [shapeCast_self]; exact a5)).trans fupd_intro

theorem part13_run (R : sProp 𝕄) (Q : (PUnit) → sProp 𝕄) (v35 : BitVec 32) (v147 : BitVec 32) (v353 : FVec F S96x1024 .bf16) {h0 h1 h2}
    (hok : okRun c γ evs13 = true) (hv : AccOK P c 5 96 v353) (hQ : ∀ r, St P K R c (run c γ evs13) ⊢ Q r) :
    St P K R c γ ⊢ wp frame (wpE defs 𝒱₀ (c : Thread nD τ) none) Set.univ
      (k1_part13 aM h0 oM h1 lM h2 cc1_scratch1 cc1_scratch2 c v35 v147 v353) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part13_eq_skeleton]; unfold k1_part13_skel
  simp only [Prog.lift, Prog.bind_op, Prog.bind_ret, Prog.pure_eq_ret]
  refine st_put P defs K c _ _ R Q 5 (n := 96) rfl (add_5 c) hv ?_ o0
  refine st_doneA P defs K c _ _ R Q 6 rfl rfl ?_ o1
  refine st_recv P defs K c _ _ R Q 6 rfl rfl ?_ o2
  refine st_lookA P defs K c _ R Q 6 (by decide) (n := 96) rfl rfl (add_6 c) (fun w3 u3 a3 => ?_) o3
  refine st_put P defs K c _ _ R Q 6 (n := 96) rfl (add_6 c) (v := k1_pay7 w3 u3) (by unfold k1_pay7; rw [shapeCast_self]; exact a3) ?_ o4
  refine st_doneA P defs K c _ _ R Q 7 rfl rfl ?_ o5
  exact (hQ _).trans fupd_intro

theorem part14_run (R : sProp 𝕄) (Q : (Σ' (v398 : BitVec 32) (v410 : BitVec 32) (v411 : BitVec 32), BitVec 32) → sProp 𝕄) (v13 : BitVec 32) (v24 : BitVec 32) (v159 : BitVec 32) {h0 h1 h2}
    (hok : okRun c γ evs14 = true) (hQ : ∀ r, St P K R c (run c γ evs14) ⊢ Q r) :
    St P K R c γ ⊢ wp frame (wpE defs 𝒱₀ (c : Thread nD τ) none) Set.univ
      (k1_part14 aM h0 oM h1 lM h2 cc1_scratch1 cc1_scratch2 c v13 v24 v159) Q := by
  obtain ⟨o0, hok⟩ := okRun_cons hok
  obtain ⟨o1, hok⟩ := okRun_cons hok
  obtain ⟨o2, hok⟩ := okRun_cons hok
  obtain ⟨o3, hok⟩ := okRun_cons hok
  rw [k1_part14_eq_skeleton]; unfold k1_part14_skel
  simp only [Prog.lift, Prog.bind_op, Prog.bind_ret, Prog.pure_eq_ret]
  refine st_recv P defs K c _ _ R Q 7 rfl rfl ?_ o0
  refine st_lookA P defs K c _ R Q 7 (by decide) (n := 96) rfl rfl (add_7 c) (fun w1 u1 a1 => ?_) o1
  refine st_put P defs K c _ _ R Q 7 (n := 96) rfl (add_7 c) (v := k1_pay8 w1 u1) (by unfold k1_pay8; rw [shapeCast_self]; exact a1) ?_ o2
  refine st_sendB P defs K c _ _ R Q 14 (n := 96) rfl (src_14 c) rfl (dev_14 c _) rfl rfl ?_ o3
  exact (hQ _).trans fupd_intro

theorem part15_run (R : sProp 𝕄) (Q : (Σ' (v422 : BitVec 32), FVec F S64x1024 .bf16) → sProp 𝕄) (v24 : BitVec 32) (v176 : BitVec 32) (v398 : BitVec 32) (v411 : BitVec 32) (c96_i32_344 : BitVec 32) {h0 h1 h2}
    (hok : okRun c γ evs15 = true) (hQ : ∀ v w, AccOK P c 8 64 w → St P K R c (run c γ evs15) ⊢ Q ⟨v, w⟩) :
    St P K R c γ ⊢ wp frame (wpE defs 𝒱₀ (c : Thread nD τ) none) Set.univ
      (k1_part15 aM h0 oM h1 lM h2 cc1_scratch1 cc1_scratch2 c v24 v176 v398 v411 c96_i32_344) Q := by
  obtain ⟨o0, hok⟩ := okRun_cons hok
  obtain ⟨o1, hok⟩ := okRun_cons hok
  obtain ⟨o2, hok⟩ := okRun_cons hok
  obtain ⟨o3, hok⟩ := okRun_cons hok
  rw [k1_part15_eq_skeleton]; unfold k1_part15_skel
  simp only [Prog.lift, Prog.bind_op, Prog.bind_ret, Prog.pure_eq_ret]
  refine st_sendB P defs K c _ _ R Q 15 (n := 96) rfl (src_15 c) rfl (dev_15 c _) rfl rfl ?_ o0
  refine st_doneA P defs K c _ _ R Q 8 rfl rfl ?_ o1
  refine st_recv P defs K c _ _ R Q 8 rfl rfl ?_ o2
  refine st_lookA P defs K c _ R Q 8 (by decide) (n := 64) rfl rfl (add_8 c) (fun w3 u3 a3 => ?_) o3
  exact (hQ _ _ (by unfold k1_pay9; rw [shapeCast_self]; exact a3)).trans fupd_intro

theorem part16_run (R : sProp 𝕄) (Q : (PUnit) → sProp 𝕄) (v24 : BitVec 32) (v188 : BitVec 32) (v439 : FVec F S64x1024 .bf16) {h0 h1 h2}
    (hok : okRun c γ evs16 = true) (hv : AccOK P c 8 64 v439) (hQ : ∀ r, St P K R c (run c γ evs16) ⊢ Q r) :
    St P K R c γ ⊢ wp frame (wpE defs 𝒱₀ (c : Thread nD τ) none) Set.univ
      (k1_part16 aM h0 oM h1 lM h2 cc1_scratch1 cc1_scratch2 c v24 v188 v439) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part16_eq_skeleton]; unfold k1_part16_skel
  simp only [Prog.lift, Prog.bind_op, Prog.bind_ret, Prog.pure_eq_ret]
  refine st_put P defs K c _ _ R Q 8 (n := 64) rfl (add_8 c) hv ?_ o0
  refine st_doneA P defs K c _ _ R Q 9 rfl rfl ?_ o1
  refine st_recv P defs K c _ _ R Q 9 rfl rfl ?_ o2
  refine st_lookA P defs K c _ R Q 9 (by decide) (n := 64) rfl rfl (add_9 c) (fun w3 u3 a3 => ?_) o3
  refine st_put P defs K c _ _ R Q 9 (n := 64) rfl (add_9 c) (v := k1_pay10 w3 u3) (by unfold k1_pay10; rw [shapeCast_self]; exact a3) ?_ o4
  refine st_doneA P defs K c _ _ R Q 10 rfl rfl ?_ o5
  exact (hQ _).trans fupd_intro

theorem part17_run (R : sProp 𝕄) (Q : (Σ' (v491 : BitVec 32) (v492 : Vec F S64x1024 .bf16), FVec F S64x1024 .bf16) → sProp 𝕄) (v24 : BitVec 32) (v200 : BitVec 32) (v212 : BitVec 32) {h0 h1 h2}
    (hok : okRun c γ evs17 = true) (hQ : ∀ v w u, AccOK P c 11 64 (k1_pay13 w u) → St P K R c (run c γ evs17) ⊢ Q ⟨v, w, u⟩) :
    St P K R c γ ⊢ wp frame (wpE defs 𝒱₀ (c : Thread nD τ) none) Set.univ
      (k1_part17 aM h0 oM h1 lM h2 cc1_scratch1 cc1_scratch2 c v24 v200 v212) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part17_eq_skeleton]; unfold k1_part17_skel
  simp only [Prog.lift, Prog.bind_op, Prog.bind_ret, Prog.pure_eq_ret]
  refine st_recv P defs K c _ _ R Q 10 rfl rfl ?_ o0
  refine st_lookA P defs K c _ R Q 10 (by decide) (n := 64) rfl rfl (add_10 c) (fun w1 u1 a1 => ?_) o1
  refine st_put P defs K c _ _ R Q 10 (n := 64) rfl (add_10 c) (v := k1_pay11 w1 u1) (by unfold k1_pay11; rw [shapeCast_self]; exact a1) ?_ o2
  refine st_doneA P defs K c _ _ R Q 11 rfl rfl ?_ o3
  refine st_recv P defs K c _ _ R Q 11 rfl rfl ?_ o4
  refine st_lookA P defs K c _ R Q 11 (by decide) (n := 64) rfl rfl (add_11 c) (fun w5 u5 a5 => ?_) o5
  exact (hQ _ _ _ (by unfold k1_pay12 k1_pay13; rw [shapeCast_self]; exact a5)).trans fupd_intro

theorem part18_run (R : sProp 𝕄) (Q : (Σ' (v503 : BitVec 32), BitVec 32) → sProp 𝕄) (v13 : BitVec 32) (v46 : BitVec 32) (v491 : BitVec 32) (v492 : Vec F S64x1024 .bf16) (v495 : FVec F S64x1024 .bf16) {h0 h1 h2}
    (hok : okRun c γ evs18 = true) (hv : AccOK P c 11 64 (k1_pay13 v492 v495)) (hQ : ∀ r, St P K R c (run c γ evs18) ⊢ Q r) :
    St P K R c γ ⊢ wp frame (wpE defs 𝒱₀ (c : Thread nD τ) none) Set.univ
      (k1_part18 aM h0 oM h1 lM h2 cc1_scratch1 cc1_scratch2 c v13 v46 v491 v492 v495) Q := by
  obtain ⟨o0, hok⟩ := okRun_cons hok
  obtain ⟨o1, hok⟩ := okRun_cons hok
  obtain ⟨o2, hok⟩ := okRun_cons hok
  rw [k1_part18_eq_skeleton]; unfold k1_part18_skel
  simp only [Prog.lift, Prog.bind_op, Prog.bind_ret, Prog.pure_eq_ret]
  refine st_put P defs K c _ _ R Q 11 (n := 64) rfl (add_11 c) hv ?_ o0
  refine st_sendB P defs K c _ _ R Q 16 (n := 64) rfl (src_16 c) rfl (dev_16 c _) rfl rfl ?_ o1
  refine st_sendB P defs K c _ _ R Q 17 (n := 64) rfl (src_17 c) rfl (dev_17 c _) rfl rfl ?_ o2
  exact (hQ _).trans fupd_intro

end Cert.KernelIdeal.AR

end
-- ==== Proof.PartsB.lean ====
/-
  The parts of the exchange's body, each a run of its events over the device's holdings: the later additions.
-/
module

public import proofs.«01_k».proof.Proof.State
public import proofs.«01_k».proof.Proof.Gen.KernelIdeal.Skeleton
public import Idealize.ShloMosaic.Lib.Pipeline.Value

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (P : Dev nD → Big F) (defs : Defs nD τ sig (Elt F) Λ₀) (K : GSem nD τ sig → ℕ) {c : Dev nD} {γ : Cfg}

theorem part19_run (R : sProp 𝕄) (Q : (BitVec 32) → sProp 𝕄) (v35 : BitVec 32) (v305 : BitVec 32) (v503 : BitVec 32) {h0 h1 h2}
    (hok : okRun c γ evs19 = true) (hQ : ∀ r, St P K R c (run c γ evs19) ⊢ Q r) :
    St P K R c γ ⊢ wp frame (wpE defs 𝒱₀ (c : Thread nD τ) none) Set.univ
      (k1_part19 aM h0 oM h1 lM h2 cc1_scratch1 cc1_scratch2 c v35 v305 v503) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part19_eq_skeleton]; unfold k1_part19_skel
  simp only [Prog.lift, Prog.bind_op, Prog.bind_ret, Prog.pure_eq_ret]
  refine st_doneB P defs K c _ _ R Q 12 rfl rfl ?_ o0
  refine st_recv P defs K c _ _ R Q 12 rfl rfl ?_ o1
  refine st_lookB P defs K c _ R Q 12 (by decide) (n := 96) rfl rfl (add_12 c) (fun w2 u2 a2 => ?_) o2
  refine st_put P defs K c _ _ R Q 12 (n := 96) rfl (add_12 c) (v := k1_pay14 w2 u2) (by unfold k1_pay14; rw [shapeCast_self]; exact a2) ?_ o3
  refine st_doneB P defs K c _ _ R Q 13 rfl rfl ?_ o4
  exact (hQ _).trans fupd_intro

theorem part20_run (R : sProp 𝕄) (Q : (BitVec 32) → sProp 𝕄) (v13 : BitVec 32) (v24 : BitVec 32) (v317 : BitVec 32) {h0 h1 h2}
    (hok : okRun c γ evs20 = true) (hQ : ∀ r, St P K R c (run c γ evs20) ⊢ Q r) :
    St P K R c γ ⊢ wp frame (wpE defs 𝒱₀ (c : Thread nD τ) none) Set.univ
      (k1_part20 aM h0 oM h1 lM h2 cc1_scratch1 cc1_scratch2 c v13 v24 v317) Q := by
  obtain ⟨o0, hok⟩ := okRun_cons hok
  obtain ⟨o1, hok⟩ := okRun_cons hok
  obtain ⟨o2, hok⟩ := okRun_cons hok
  obtain ⟨o3, hok⟩ := okRun_cons hok
  rw [k1_part20_eq_skeleton]; unfold k1_part20_skel
  simp only [Prog.lift, Prog.bind_op, Prog.bind_ret, Prog.pure_eq_ret]
  refine st_recv P defs K c _ _ R Q 13 rfl rfl ?_ o0
  refine st_lookB P defs K c _ R Q 13 (by decide) (n := 96) rfl rfl (add_13 c) (fun w1 u1 a1 => ?_) o1
  refine st_put P defs K c _ _ R Q 13 (n := 96) rfl (add_13 c) (v := k1_pay15 w1 u1) (by unfold k1_pay15; rw [shapeCast_self]; exact a1) ?_ o2
  refine st_sendB P defs K c _ _ R Q 18 (n := 96) rfl (src_18 c) rfl (dev_18 c _) rfl rfl ?_ o3
  exact (hQ _).trans fupd_intro

theorem part21_run (R : sProp 𝕄) (Q : (PUnit) → sProp 𝕄) (v24 : BitVec 32) (v410 : BitVec 32) {h0 h1 h2}
    (hok : okRun c γ evs21 = true) (hQ : ∀ r, St P K R c (run c γ evs21) ⊢ Q r) :
    St P K R c γ ⊢ wp frame (wpE defs 𝒱₀ (c : Thread nD τ) none) Set.univ
      (k1_part21 aM h0 oM h1 lM h2 cc1_scratch1 cc1_scratch2 c v24 v410) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part21_eq_skeleton]; unfold k1_part21_skel
  simp only [Prog.lift, Prog.bind_op, Prog.bind_ret, Prog.pure_eq_ret]
  refine st_doneB P defs K c _ _ R Q 14 rfl rfl ?_ o0
  refine st_recv P defs K c _ _ R Q 14 rfl rfl ?_ o1
  refine st_lookB P defs K c _ R Q 14 (by decide) (n := 96) rfl rfl (add_14 c) (fun w2 u2 a2 => ?_) o2
  refine st_put P defs K c _ _ R Q 14 (n := 96) rfl (add_14 c) (v := k1_pay16 w2 u2) (by unfold k1_pay16; rw [shapeCast_self]; exact a2) ?_ o3
  refine st_doneB P defs K c _ _ R Q 15 rfl rfl ?_ o4
  exact (hQ _).trans fupd_intro

theorem part22_run (R : sProp 𝕄) (Q : (BitVec 32) → sProp 𝕄) (v13 : BitVec 32) (v46 : BitVec 32) (v422 : BitVec 32) {h0 h1 h2}
    (hok : okRun c γ evs22 = true) (hQ : ∀ r, St P K R c (run c γ evs22) ⊢ Q r) :
    St P K R c γ ⊢ wp frame (wpE defs 𝒱₀ (c : Thread nD τ) none) Set.univ
      (k1_part22 aM h0 oM h1 lM h2 cc1_scratch1 cc1_scratch2 c v13 v46 v422) Q := by
  obtain ⟨o0, hok⟩ := okRun_cons hok
  obtain ⟨o1, hok⟩ := okRun_cons hok
  obtain ⟨o2, hok⟩ := okRun_cons hok
  obtain ⟨o3, hok⟩ := okRun_cons hok
  rw [k1_part22_eq_skeleton]; unfold k1_part22_skel
  simp only [Prog.lift, Prog.bind_op, Prog.bind_ret, Prog.pure_eq_ret]
  refine st_recv P defs K c _ _ R Q 15 rfl rfl ?_ o0
  refine st_lookB P defs K c _ R Q 15 (by decide) (n := 96) rfl rfl (add_15 c) (fun w1 u1 a1 => ?_) o1
  refine st_put P defs K c _ _ R Q 15 (n := 96) rfl (add_15 c) (v := k1_pay17 w1 u1) (by unfold k1_pay17; rw [shapeCast_self]; exact a1) ?_ o2
  refine st_sendB P defs K c _ _ R Q 19 (n := 96) rfl (src_19 c) rfl (dev_19 c _) rfl rfl ?_ o3
  exact (hQ _).trans fupd_intro

theorem part23_run (R : sProp 𝕄) (Q : (BitVec 32) → sProp 𝕄) (v46 : BitVec 32) (v515 : BitVec 32) (v527 : BitVec 32) {h0 h1 h2}
    (hok : okRun c γ evs23 = true) (hQ : ∀ r, St P K R c (run c γ evs23) ⊢ Q r) :
    St P K R c γ ⊢ wp frame (wpE defs 𝒱₀ (c : Thread nD τ) none) Set.univ
      (k1_part23 aM h0 oM h1 lM h2 cc1_scratch1 cc1_scratch2 c v46 v515 v527) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part23_eq_skeleton]; unfold k1_part23_skel
  simp only [Prog.lift, Prog.bind_op, Prog.bind_ret, Prog.pure_eq_ret]
  refine st_doneB P defs K c _ _ R Q 16 rfl rfl ?_ o0
  refine st_recv P defs K c _ _ R Q 16 rfl rfl ?_ o1
  refine st_lookB P defs K c _ R Q 16 (by decide) (n := 64) rfl rfl (add_16 c) (fun w2 u2 a2 => ?_) o2
  refine st_put P defs K c _ _ R Q 16 (n := 64) rfl (add_16 c) (v := k1_pay18 w2 u2) (by unfold k1_pay18; rw [shapeCast_self]; exact a2) ?_ o3
  refine st_doneB P defs K c _ _ R Q 17 rfl rfl ?_ o4
  refine st_recv P defs K c _ _ R Q 17 rfl rfl ?_ o5
  exact (hQ _).trans fupd_intro

theorem part24_run (R : sProp 𝕄) (Q : (BitVec 32) → sProp 𝕄) (v13 : BitVec 32) (v35 : BitVec 32) (v667 : BitVec 32) {h0 h1 h2}
    (hok : okRun c γ evs24 = true) (hQ : ∀ r, St P K R c (run c γ evs24) ⊢ Q r) :
    St P K R c γ ⊢ wp frame (wpE defs 𝒱₀ (c : Thread nD τ) none) Set.univ
      (k1_part24 aM h0 oM h1 lM h2 cc1_scratch1 cc1_scratch2 c v13 v35 v667) Q := by
  obtain ⟨o0, hok⟩ := okRun_cons hok
  obtain ⟨o1, hok⟩ := okRun_cons hok
  obtain ⟨o2, hok⟩ := okRun_cons hok
  obtain ⟨o3, hok⟩ := okRun_cons hok
  rw [k1_part24_eq_skeleton]; unfold k1_part24_skel
  simp only [Prog.lift, Prog.bind_op, Prog.bind_ret, Prog.pure_eq_ret]
  refine st_lookB P defs K c _ R Q 17 (by decide) (n := 64) rfl rfl (add_17 c) (fun w0 u0 a0 => ?_) o0
  refine st_put P defs K c _ _ R Q 17 (n := 64) rfl (add_17 c) (v := k1_pay19 w0 u0) (by unfold k1_pay19; rw [shapeCast_self]; exact a0) ?_ o1
  refine st_sendB P defs K c _ _ R Q 20 (n := 64) rfl (src_20 c) rfl (dev_20 c _) rfl rfl ?_ o2
  refine st_doneB P defs K c _ _ R Q 18 rfl rfl ?_ o3
  exact (hQ _).trans fupd_intro

theorem part25_run (R : sProp 𝕄) (Q : (PUnit) → sProp 𝕄) (v13 : BitVec 32) (v24 : BitVec 32) (v582 : BitVec 32) {h0 h1 h2}
    (hok : okRun c γ evs25 = true) (hQ : ∀ r, St P K R c (run c γ evs25) ⊢ Q r) :
    St P K R c γ ⊢ wp frame (wpE defs 𝒱₀ (c : Thread nD τ) none) Set.univ
      (k1_part25 aM h0 oM h1 lM h2 cc1_scratch1 cc1_scratch2 c v13 v24 v582) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part25_eq_skeleton]; unfold k1_part25_skel
  simp only [Prog.lift, Prog.bind_op, Prog.bind_ret, Prog.pure_eq_ret]
  refine st_recv P defs K c _ _ R Q 18 rfl rfl ?_ o0
  refine st_lookB P defs K c _ R Q 18 (by decide) (n := 96) rfl rfl (add_18 c) (fun w1 u1 a1 => ?_) o1
  refine st_put P defs K c _ _ R Q 18 (n := 96) rfl (add_18 c) (v := k1_pay20 w1 u1) (by unfold k1_pay20; rw [shapeCast_self]; exact a1) ?_ o2
  refine st_sendG P defs K c _ _ R Q 21 (n := 96) rfl (src_21 c) (dev_21 c _) rfl rfl ?_ o3
  refine st_doneB P defs K c _ _ R Q 19 rfl rfl ?_ o4
  exact (hQ _).trans fupd_intro

theorem part26_run (R : sProp 𝕄) (Q : (PUnit) → sProp 𝕄) (v13 : BitVec 32) (v46 : BitVec 32) (v637 : BitVec 32) {h0 h1 h2}
    (hok : okRun c γ evs26 = true) (hQ : ∀ r, St P K R c (run c γ evs26) ⊢ Q r) :
    St P K R c γ ⊢ wp frame (wpE defs 𝒱₀ (c : Thread nD τ) none) Set.univ
      (k1_part26 aM h0 oM h1 lM h2 cc1_scratch1 cc1_scratch2 c v13 v46 v637) Q := by
  obtain ⟨o0, hok⟩ := okRun_cons hok
  obtain ⟨o1, hok⟩ := okRun_cons hok
  obtain ⟨o2, hok⟩ := okRun_cons hok
  obtain ⟨o3, hok⟩ := okRun_cons hok
  rw [k1_part26_eq_skeleton]; unfold k1_part26_skel
  simp only [Prog.lift, Prog.bind_op, Prog.bind_ret, Prog.pure_eq_ret]
  refine st_recv P defs K c _ _ R Q 19 rfl rfl ?_ o0
  refine st_lookB P defs K c _ R Q 19 (by decide) (n := 96) rfl rfl (add_19 c) (fun w1 u1 a1 => ?_) o1
  refine st_put P defs K c _ _ R Q 19 (n := 96) rfl (add_19 c) (v := k1_pay21 w1 u1) (by unfold k1_pay21; rw [shapeCast_self]; exact a1) ?_ o2
  refine st_sendG P defs K c _ _ R Q 22 (n := 96) rfl (src_22 c) (dev_22 c _) rfl rfl ?_ o3
  exact (hQ _).trans fupd_intro

theorem part27_run (R : sProp 𝕄) (Q : (PUnit) → sProp 𝕄) (v13 : BitVec 32) (v35 : BitVec 32) (v692 : BitVec 32) {h0 h1 h2}
    (hok : okRun c γ evs27 = true) (hQ : ∀ r, St P K R c (run c γ evs27) ⊢ Q r) :
    St P K R c γ ⊢ wp frame (wpE defs 𝒱₀ (c : Thread nD τ) none) Set.univ
      (k1_part27 aM h0 oM h1 lM h2 cc1_scratch1 cc1_scratch2 c v13 v35 v692) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part27_eq_skeleton]; unfold k1_part27_skel
  simp only [Prog.lift, Prog.bind_op, Prog.bind_ret, Prog.pure_eq_ret]
  refine st_doneB P defs K c _ _ R Q 20 rfl rfl ?_ o0
  refine st_recv P defs K c _ _ R Q 20 rfl rfl ?_ o1
  refine st_lookB P defs K c _ R Q 20 (by decide) (n := 64) rfl rfl (add_20 c) (fun w2 u2 a2 => ?_) o2
  refine st_put P defs K c _ _ R Q 20 (n := 64) rfl (add_20 c) (v := k1_pay22 w2 u2) (by unfold k1_pay22; rw [shapeCast_self]; exact a2) ?_ o3
  refine st_sendG P defs K c _ _ R Q 23 (n := 64) rfl (src_23 c) (dev_23 c _) rfl rfl ?_ o4
  exact (hQ _).trans fupd_intro

end Cert.KernelIdeal.AR

end
-- ==== Proof.PartsC.lean ====
/-
  The parts of the exchange's body, each a run of its events over the device's holdings: the gathering.
-/
module

public import proofs.«01_k».proof.Proof.State
public import proofs.«01_k».proof.Proof.Gen.KernelIdeal.Skeleton
public import Idealize.ShloMosaic.Lib.Pipeline.Value

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (P : Dev nD → Big F) (defs : Defs nD τ sig (Elt F) Λ₀) (K : GSem nD τ sig → ℕ) {c : Dev nD} {γ : Cfg}

theorem part28_run (R : sProp 𝕄) (Q : (PUnit) → sProp 𝕄) (v13 : BitVec 32) (v24 : BitVec 32) (v35 : BitVec 32) {h0 h1 h2}
    (hok : okRun c γ evs28 = true) (hQ : ∀ r, St P K R c (run c γ evs28) ⊢ Q r) :
    St P K R c γ ⊢ wp frame (wpE defs 𝒱₀ (c : Thread nD τ) none) Set.univ
      (k1_part28 aM h0 oM h1 lM h2 cc1_scratch1 cc1_scratch2 c v13 v24 v35) Q := by
  obtain ⟨o0, hok⟩ := okRun_cons hok
  obtain ⟨o1, hok⟩ := okRun_cons hok
  obtain ⟨o2, hok⟩ := okRun_cons hok
  obtain ⟨o3, hok⟩ := okRun_cons hok
  rw [k1_part28_eq_skeleton]; unfold k1_part28_skel
  simp only [Prog.lift, Prog.bind_op, Prog.bind_ret, Prog.pure_eq_ret]
  refine st_doneG P defs K c _ _ R Q 21 rfl rfl ?_ o0
  refine st_recvG P defs K c _ _ R Q 21 rfl rfl ?_ o1
  refine st_sendG P defs K c _ _ R Q 24 (n := 96) rfl (src_24 c) (dev_24 c _) rfl rfl ?_ o2
  refine st_sendG P defs K c _ _ R Q 25 (n := 96) rfl (src_25 c) (dev_25 c _) rfl rfl ?_ o3
  exact (hQ _).trans fupd_intro

theorem part29_run (R : sProp 𝕄) (Q : (PUnit) → sProp 𝕄) (v13 : BitVec 32) (v24 : BitVec 32) (v46 : BitVec 32) {h0 h1 h2}
    (hok : okRun c γ evs29 = true) (hQ : ∀ r, St P K R c (run c γ evs29) ⊢ Q r) :
    St P K R c γ ⊢ wp frame (wpE defs 𝒱₀ (c : Thread nD τ) none) Set.univ
      (k1_part29 aM h0 oM h1 lM h2 cc1_scratch1 cc1_scratch2 c v13 v24 v46) Q := by
  obtain ⟨o0, hok⟩ := okRun_cons hok
  obtain ⟨o1, hok⟩ := okRun_cons hok
  obtain ⟨o2, hok⟩ := okRun_cons hok
  rw [k1_part29_eq_skeleton]; unfold k1_part29_skel
  simp only [Prog.lift, Prog.bind_op, Prog.bind_ret, Prog.pure_eq_ret]
  refine st_doneG P defs K c _ _ R Q 22 rfl rfl ?_ o0
  refine st_recvG P defs K c _ _ R Q 22 rfl rfl ?_ o1
  refine st_sendG P defs K c _ _ R Q 26 (n := 96) rfl (src_26 c) (dev_26 c _) rfl rfl ?_ o2
  exact (hQ _).trans fupd_intro

theorem part30_run (R : sProp 𝕄) (Q : (PUnit) → sProp 𝕄) (v13 : BitVec 32) (v35 : BitVec 32) (v46 : BitVec 32) {h0 h1 h2}
    (hok : okRun c γ evs30 = true) (hQ : ∀ r, St P K R c (run c γ evs30) ⊢ Q r) :
    St P K R c γ ⊢ wp frame (wpE defs 𝒱₀ (c : Thread nD τ) none) Set.univ
      (k1_part30 aM h0 oM h1 lM h2 cc1_scratch1 cc1_scratch2 c v13 v35 v46) Q := by
  obtain ⟨o0, hok⟩ := okRun_cons hok
  obtain ⟨o1, hok⟩ := okRun_cons hok
  obtain ⟨o2, hok⟩ := okRun_cons hok
  obtain ⟨o3, hok⟩ := okRun_cons hok
  rw [k1_part30_eq_skeleton]; unfold k1_part30_skel
  simp only [Prog.lift, Prog.bind_op, Prog.bind_ret, Prog.pure_eq_ret]
  refine st_sendG P defs K c _ _ R Q 27 (n := 96) rfl (src_27 c) (dev_27 c _) rfl rfl ?_ o0
  refine st_doneG P defs K c _ _ R Q 23 rfl rfl ?_ o1
  refine st_recvG P defs K c _ _ R Q 23 rfl rfl ?_ o2
  refine st_sendG P defs K c _ _ R Q 28 (n := 64) rfl (src_28 c) (dev_28 c _) rfl rfl ?_ o3
  exact (hQ _).trans fupd_intro

theorem part31_run (R : sProp 𝕄) (Q : (PUnit) → sProp 𝕄) (v13 : BitVec 32) (v35 : BitVec 32) {h0 h1 h2}
    (hok : okRun c γ evs31 = true) (hQ : ∀ r, St P K R c (run c γ evs31) ⊢ Q r) :
    St P K R c γ ⊢ wp frame (wpE defs 𝒱₀ (c : Thread nD τ) none) Set.univ
      (k1_part31 aM h0 oM h1 lM h2 cc1_scratch1 cc1_scratch2 c v13 v35) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part31_eq_skeleton]; unfold k1_part31_skel
  simp only [Prog.lift, Prog.bind_op, Prog.bind_ret, Prog.pure_eq_ret]
  refine st_sendG P defs K c _ _ R Q 29 (n := 64) rfl (src_29 c) (dev_29 c _) rfl rfl ?_ o0
  refine st_doneG P defs K c _ _ R Q 24 rfl rfl ?_ o1
  refine st_recvG P defs K c _ _ R Q 24 rfl rfl ?_ o2
  refine st_doneG P defs K c _ _ R Q 25 rfl rfl ?_ o3
  refine st_recvG P defs K c _ _ R Q 25 rfl rfl ?_ o4
  exact (hQ _).trans fupd_intro

theorem part32_run (R : sProp 𝕄) (Q : (Σ' (v932 : BitVec 32), BitVec 32) → sProp 𝕄) (v13 : BitVec 32) (v46 : BitVec 32) {h0 h1 h2}
    (hok : okRun c γ evs32 = true) (hQ : ∀ r, St P K R c (run c γ evs32) ⊢ Q r) :
    St P K R c γ ⊢ wp frame (wpE defs 𝒱₀ (c : Thread nD τ) none) Set.univ
      (k1_part32 aM h0 oM h1 lM h2 cc1_scratch1 cc1_scratch2 c v13 v46) Q := by
  obtain ⟨o0, hok⟩ := okRun_cons hok
  obtain ⟨o1, hok⟩ := okRun_cons hok
  obtain ⟨o2, hok⟩ := okRun_cons hok
  rw [k1_part32_eq_skeleton]; unfold k1_part32_skel
  simp only [Prog.lift, Prog.bind_op, Prog.bind_ret, Prog.pure_eq_ret]
  refine st_sendG P defs K c _ _ R Q 30 (n := 96) rfl (src_30 c) (dev_30 c _) rfl rfl ?_ o0
  refine st_sendG P defs K c _ _ R Q 31 (n := 96) rfl (src_31 c) (dev_31 c _) rfl rfl ?_ o1
  refine st_sendG P defs K c _ _ R Q 32 (n := 96) rfl (src_32 c) (dev_32 c _) rfl rfl ?_ o2
  exact (hQ _).trans fupd_intro

theorem part33_run (R : sProp 𝕄) (Q : (PUnit) → sProp 𝕄) (v24 : BitVec 32) (v46 : BitVec 32) (v932 : BitVec 32) (c96_i32_799 : BitVec 32) {h0 h1 h2}
    (hok : okRun c γ evs33 = true) (hQ : ∀ r, St P K R c (run c γ evs33) ⊢ Q r) :
    St P K R c γ ⊢ wp frame (wpE defs 𝒱₀ (c : Thread nD τ) none) Set.univ
      (k1_part33 aM h0 oM h1 lM h2 cc1_scratch1 cc1_scratch2 c v24 v46 v932 c96_i32_799) Q := by
  obtain ⟨o0, hok⟩ := okRun_cons hok
  obtain ⟨o1, hok⟩ := okRun_cons hok
  obtain ⟨o2, hok⟩ := okRun_cons hok
  obtain ⟨o3, hok⟩ := okRun_cons hok
  rw [k1_part33_eq_skeleton]; unfold k1_part33_skel
  simp only [Prog.lift, Prog.bind_op, Prog.bind_ret, Prog.pure_eq_ret]
  refine st_sendG P defs K c _ _ R Q 33 (n := 96) rfl (src_33 c) (dev_33 c _) rfl rfl ?_ o0
  refine st_doneG P defs K c _ _ R Q 26 rfl rfl ?_ o1
  refine st_recvG P defs K c _ _ R Q 26 rfl rfl ?_ o2
  refine st_doneG P defs K c _ _ R Q 27 rfl rfl ?_ o3
  exact (hQ _).trans fupd_intro

theorem part34_run (R : sProp 𝕄) (Q : (PUnit) → sProp 𝕄) (v13 : BitVec 32) (v35 : BitVec 32) {h0 h1 h2}
    (hok : okRun c γ evs34 = true) (hQ : ∀ r, St P K R c (run c γ evs34) ⊢ Q r) :
    St P K R c γ ⊢ wp frame (wpE defs 𝒱₀ (c : Thread nD τ) none) Set.univ
      (k1_part34 aM h0 oM h1 lM h2 cc1_scratch1 cc1_scratch2 c v13 v35) Q := by
  obtain ⟨o0, hok⟩ := okRun_cons hok
  obtain ⟨o1, hok⟩ := okRun_cons hok
  obtain ⟨o2, hok⟩ := okRun_cons hok
  rw [k1_part34_eq_skeleton]; unfold k1_part34_skel
  simp only [Prog.lift, Prog.bind_op, Prog.bind_ret, Prog.pure_eq_ret]
  refine st_recvG P defs K c _ _ R Q 27 rfl rfl ?_ o0
  refine st_sendG P defs K c _ _ R Q 34 (n := 96) rfl (src_34 c) (dev_34 c _) rfl rfl ?_ o1
  refine st_sendG P defs K c _ _ R Q 35 (n := 96) rfl (src_35 c) (dev_35 c _) rfl rfl ?_ o2
  exact (hQ _).trans fupd_intro

theorem part35_run (R : sProp 𝕄) (Q : (PUnit) → sProp 𝕄) (v13 : BitVec 32) (v35 : BitVec 32) (v46 : BitVec 32) {h0 h1 h2}
    (hok : okRun c γ evs35 = true) (hQ : ∀ r, St P K R c (run c γ evs35) ⊢ Q r) :
    St P K R c γ ⊢ wp frame (wpE defs 𝒱₀ (c : Thread nD τ) none) Set.univ
      (k1_part35 aM h0 oM h1 lM h2 cc1_scratch1 cc1_scratch2 c v13 v35 v46) Q := by
  obtain ⟨o0, hok⟩ := okRun_cons hok
  obtain ⟨o1, hok⟩ := okRun_cons hok
  obtain ⟨o2, hok⟩ := okRun_cons hok
  obtain ⟨o3, hok⟩ := okRun_cons hok
  rw [k1_part35_eq_skeleton]; unfold k1_part35_skel
  simp only [Prog.lift, Prog.bind_op, Prog.bind_ret, Prog.pure_eq_ret]
  refine st_sendG P defs K c _ _ R Q 36 (n := 96) rfl (src_36 c) (dev_36 c _) rfl rfl ?_ o0
  refine st_sendG P defs K c _ _ R Q 37 (n := 96) rfl (src_37 c) (dev_37 c _) rfl rfl ?_ o1
  refine st_doneG P defs K c _ _ R Q 28 rfl rfl ?_ o2
  refine st_recvG P defs K c _ _ R Q 28 rfl rfl ?_ o3
  exact (hQ _).trans fupd_intro

theorem part36_run (R : sProp 𝕄) (Q : (BitVec 32) → sProp 𝕄) (v13 : BitVec 32) (v24 : BitVec 32) (v46 : BitVec 32) {h0 h1 h2}
    (hok : okRun c γ evs36 = true) (hQ : ∀ r, St P K R c (run c γ evs36) ⊢ Q r) :
    St P K R c γ ⊢ wp frame (wpE defs 𝒱₀ (c : Thread nD τ) none) Set.univ
      (k1_part36 aM h0 oM h1 lM h2 cc1_scratch1 cc1_scratch2 c v13 v24 v46) Q := by
  obtain ⟨o0, hok⟩ := okRun_cons hok
  obtain ⟨o1, hok⟩ := okRun_cons hok
  obtain ⟨o2, hok⟩ := okRun_cons hok
  obtain ⟨o3, hok⟩ := okRun_cons hok
  rw [k1_part36_eq_skeleton]; unfold k1_part36_skel
  simp only [Prog.lift, Prog.bind_op, Prog.bind_ret, Prog.pure_eq_ret]
  refine st_doneG P defs K c _ _ R Q 29 rfl rfl ?_ o0
  refine st_recvG P defs K c _ _ R Q 29 rfl rfl ?_ o1
  refine st_sendG P defs K c _ _ R Q 38 (n := 64) rfl (src_38 c) (dev_38 c _) rfl rfl ?_ o2
  refine st_sendG P defs K c _ _ R Q 39 (n := 64) rfl (src_39 c) (dev_39 c _) rfl rfl ?_ o3
  exact (hQ _).trans fupd_intro

theorem part37_run (R : sProp 𝕄) (Q : (PUnit) → sProp 𝕄) (v13 : BitVec 32) (v24 : BitVec 32) (v46 : BitVec 32) (v1050 : BitVec 32) {h0 h1 h2}
    (hok : okRun c γ evs37 = true) (hQ : ∀ r, St P K R c (run c γ evs37) ⊢ Q r) :
    St P K R c γ ⊢ wp frame (wpE defs 𝒱₀ (c : Thread nD τ) none) Set.univ
      (k1_part37 aM h0 oM h1 lM h2 cc1_scratch1 cc1_scratch2 c v13 v24 v46 v1050) Q := by
  obtain ⟨o0, hok⟩ := okRun_cons hok
  obtain ⟨o1, hok⟩ := okRun_cons hok
  obtain ⟨o2, hok⟩ := okRun_cons hok
  rw [k1_part37_eq_skeleton]; unfold k1_part37_skel
  simp only [Prog.lift, Prog.bind_op, Prog.bind_ret, Prog.pure_eq_ret]
  refine st_sendG P defs K c _ _ R Q 40 (n := 64) rfl (src_40 c) (dev_40 c _) rfl rfl ?_ o0
  refine st_sendG P defs K c _ _ R Q 41 (n := 64) rfl (src_41 c) (dev_41 c _) rfl rfl ?_ o1
  refine st_doneG P defs K c _ _ R Q 30 rfl rfl ?_ o2
  exact (hQ _).trans fupd_intro

theorem part38_run (R : sProp 𝕄) (Q : (BitVec 32) → sProp 𝕄) (v46 : BitVec 32) {h0 h1 h2}
    (hok : okRun c γ evs38 = true) (hQ : ∀ r, St P K R c (run c γ evs38) ⊢ Q r) :
    St P K R c γ ⊢ wp frame (wpE defs 𝒱₀ (c : Thread nD τ) none) Set.univ
      (k1_part38 aM h0 oM h1 lM h2 cc1_scratch1 cc1_scratch2 c v46) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  obtain ⟨o5, hok⟩ := okRun_cons hok
  rw [k1_part38_eq_skeleton]; unfold k1_part38_skel
  simp only [Prog.lift, Prog.bind_op, Prog.bind_ret, Prog.pure_eq_ret]
  refine st_recvG P defs K c _ _ R Q 30 rfl rfl ?_ o0
  refine st_doneG P defs K c _ _ R Q 31 rfl rfl ?_ o1
  refine st_recvG P defs K c _ _ R Q 31 rfl rfl ?_ o2
  refine st_doneG P defs K c _ _ R Q 32 rfl rfl ?_ o3
  refine st_recvG P defs K c _ _ R Q 32 rfl rfl ?_ o4
  refine st_doneG P defs K c _ _ R Q 33 rfl rfl ?_ o5
  exact (hQ _).trans fupd_intro

theorem part39_run (R : sProp 𝕄) (Q : (PUnit) → sProp 𝕄) (v35 : BitVec 32) (v46 : BitVec 32) (c1_i32_954 : BitVec 32) {h0 h1 h2}
    (hok : okRun c γ evs39 = true) (hQ : ∀ r, St P K R c (run c γ evs39) ⊢ Q r) :
    St P K R c γ ⊢ wp frame (wpE defs 𝒱₀ (c : Thread nD τ) none) Set.univ
      (k1_part39 aM h0 oM h1 lM h2 cc1_scratch1 cc1_scratch2 c v35 v46 c1_i32_954) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part39_eq_skeleton]; unfold k1_part39_skel
  simp only [Prog.lift, Prog.bind_op, Prog.bind_ret, Prog.pure_eq_ret]
  refine st_recvG P defs K c _ _ R Q 33 rfl rfl ?_ o0
  refine st_doneG P defs K c _ _ R Q 34 rfl rfl ?_ o1
  refine st_recvG P defs K c _ _ R Q 34 rfl rfl ?_ o2
  refine st_doneG P defs K c _ _ R Q 35 rfl rfl ?_ o3
  refine st_recvG P defs K c _ _ R Q 35 rfl rfl ?_ o4
  exact (hQ _).trans fupd_intro

theorem part40_run (R : sProp 𝕄) (Q : (PUnit) → sProp 𝕄) (v24 : BitVec 32) (v35 : BitVec 32) {h0 h1 h2}
    (hok : okRun c γ evs40 = true) (hQ : ∀ r, St P K R c (run c γ evs40) ⊢ Q r) :
    St P K R c γ ⊢ wp frame (wpE defs 𝒱₀ (c : Thread nD τ) none) Set.univ
      (k1_part40 aM h0 oM h1 lM h2 cc1_scratch1 cc1_scratch2 c v24 v35) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part40_eq_skeleton]; unfold k1_part40_skel
  simp only [Prog.lift, Prog.bind_op, Prog.bind_ret, Prog.pure_eq_ret]
  refine st_doneG P defs K c _ _ R Q 36 rfl rfl ?_ o0
  refine st_recvG P defs K c _ _ R Q 36 rfl rfl ?_ o1
  refine st_doneG P defs K c _ _ R Q 37 rfl rfl ?_ o2
  refine st_recvG P defs K c _ _ R Q 37 rfl rfl ?_ o3
  refine st_doneG P defs K c _ _ R Q 38 rfl rfl ?_ o4
  exact (hQ _).trans fupd_intro

theorem part41_run (R : sProp 𝕄) (Q : (PUnit) → sProp 𝕄) (v24 : BitVec 32) {h0 h1 h2}
    (hok : okRun c γ evs41 = true) (hQ : ∀ r, St P K R c (run c γ evs41) ⊢ Q r) :
    St P K R c γ ⊢ wp frame (wpE defs 𝒱₀ (c : Thread nD τ) none) Set.univ
      (k1_part41 aM h0 oM h1 lM h2 cc1_scratch1 cc1_scratch2 c v24) Q := by
  obtain ⟨o0, hok⟩ := okRun_cons hok
  obtain ⟨o1, hok⟩ := okRun_cons hok
  obtain ⟨o2, hok⟩ := okRun_cons hok
  obtain ⟨o3, hok⟩ := okRun_cons hok
  obtain ⟨o4, hok⟩ := okRun_cons hok
  rw [k1_part41_eq_skeleton]; unfold k1_part41_skel
  simp only [Prog.lift, Prog.bind_op, Prog.bind_ret, Prog.pure_eq_ret]
  refine st_recvG P defs K c _ _ R Q 38 rfl rfl ?_ o0
  refine st_doneG P defs K c _ _ R Q 39 rfl rfl ?_ o1
  refine st_recvG P defs K c _ _ R Q 39 rfl rfl ?_ o2
  refine st_doneG P defs K c _ _ R Q 40 rfl rfl ?_ o3
  refine st_recvG P defs K c _ _ R Q 40 rfl rfl ?_ o4
  exact (hQ _).trans fupd_intro

end Cert.KernelIdeal.AR

end
-- ==== Proof.Chain.lean ====
/-
  The exchange's body in one piece: its first part and the barrier, then its events in order.
-/
module

public import proofs.«01_k».proof.Proof.PartsA
public import proofs.«01_k».proof.Proof.PartsB
public import proofs.«01_k».proof.Proof.PartsC

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (P : Dev nD → Big F) (defs : Defs nD τ sig (Elt F) Λ₀) (K : GSem nD τ sig → ℕ) (c : Dev nD)

/-- The first part only works out numbers. -/
theorem part1_run (X : sProp 𝕄) (Q : (Σ' (d0 : Dev nD) (v13 : BitVec 32) (v24 : BitVec 32) (v26 : BitVec 32) (v28 : BitVec 32) (v31 : BitVec 32), BitVec 32) → sProp 𝕄) {h0 h1 h2}
    (hQ : ∀ v13 v24 v26 v28 v31 v32, X ⊢ Q ⟨c, v13, v24, v26, v28, v31, v32⟩) :
    X ⊢ wp frame (wpE defs 𝒱₀ (c : Thread nD τ) none) Set.univ (k1_part1 aM h0 oM h1 lM h2 cc1_scratch1 cc1_scratch2) Q := by
  rw [k1_part1_eq_skeleton]; unfold k1_part1_skel
  simp only [Prog.lift, Prog.bind_op, Prog.bind_ret, Prog.pure_eq_ret, wp_deviceId]
  exact (hQ _ _ _ _ _ _).trans fupd_intro

set_option maxHeartbeats 4000000 in
/-- From what the device holds before the barrier (`X`, which the barrier turns into the holdings `St` after it) to the end. -/
theorem body_run (X R : sProp 𝕄) (Q : PUnit → sProp 𝕄) {h0 h1 h2}
    (hbar : ∀ (v13 v24 v26 v28 v31 v32 : BitVec 32) (Q' : (Σ' (v35 : BitVec 32) (v46 : BitVec 32) (v57 : BitVec 32), BitVec 32) → sProp 𝕄),
      (∀ r, St P K R c (cfg0 c) ⊢ Q' r) →
      X ⊢ wp frame (wpE defs 𝒱₀ (c : Thread nD τ) none) Set.univ (k1_part2 aM h0 oM h1 lM h2 cc1_scratch1 cc1_scratch2 c v13 v24 v26 v28 v31 v32) Q')
    (hQ : St P K R c (run c (cfg0 c) evs) ⊢ iprop(|={Set.univ}=> Q ⟨⟩)) :
    X ⊢ wp frame (wpE defs 𝒱₀ (c : Thread nD τ) none) Set.univ (cc1__allreduce_body aM h0 oM h1 lM h2 cc1_scratch1 cc1_scratch2) Q := by
  unfold cc1__allreduce_body
  rw [wp_bind]; refine part1_run defs c X _ ?_
  intro v13 v24 v26 v28 v31 v32; try dsimp only
  rw [wp_bind]; refine hbar v13 v24 v26 v28 v31 v32 _ ?_
  rintro ⟨v35, v46, v57, v58⟩; try dsimp only
  have ok := ok_evs c
  have hQ' : St P K R c (run c (cfg0 c) evs) ⊢ iprop(|={Set.univ}=> Q ⟨⟩) := hQ
  unfold evs at ok
  obtain ⟨k3, ok⟩ := okRun_append ok
  rw [wp_bind]; refine part3_run P defs K R _ v46 v57 v58 (hok := k3) (hQ := ?_)
  rintro ⟨v70, v82⟩; try dsimp only
  obtain ⟨k4, ok⟩ := okRun_append ok
  rw [wp_bind]; refine part4_run P defs K R _ v13 v35 v46 v57 v58 (hok := k4) (hQ := ?_)
  rintro ⟨v94, v106, v110, v111⟩; try dsimp only
  obtain ⟨k5, ok⟩ := okRun_append ok
  rw [wp_bind]; refine part5_run P defs K R _ v35 v110 v111 (hok := k5) (hQ := ?_)
  rintro ⟨v123, v135, v147, v151⟩; try dsimp only
  obtain ⟨k6, ok⟩ := okRun_append ok
  rw [wp_bind]; refine part6_run P defs K R _ v13 v24 v111 v151 (hok := k6) (hQ := ?_)
  rintro ⟨v159, v163, v164, v176⟩; try dsimp only
  obtain ⟨k7, ok⟩ := okRun_append ok
  rw [wp_bind]; refine part7_run P defs K R _ v24 v163 v164 (hok := k7) (hQ := ?_)
  rintro ⟨v188, v200, v212⟩; try dsimp only
  obtain ⟨k8, ok⟩ := okRun_append ok
  rw [wp_bind]; refine part8_run P defs K R _ v46 v70 (hok := k8) (hQ := ?_)
  rintro ⟨⟩; try dsimp only
  obtain ⟨k9, ok⟩ := okRun_append ok
  rw [wp_bind]; refine part9_run P defs K R _ v46 v82 v94 (hok := k9) (hQ := ?_)
  intro v267 hv267; try dsimp only
  obtain ⟨k10, ok⟩ := okRun_append ok
  rw [wp_bind]; refine part10_run P defs K R _ v13 v46 v106 v267 (hok := k10) (hv := hv267) (hQ := ?_)
  rintro ⟨v292, v293⟩; try dsimp only
  obtain ⟨k11, ok⟩ := okRun_append ok
  rw [wp_bind]; refine part11_run P defs K R _ v35 v292 v293 (hok := k11) (hQ := ?_)
  rintro ⟨v305, v317⟩; try dsimp only
  obtain ⟨k12, ok⟩ := okRun_append ok
  rw [wp_bind]; refine part12_run P defs K R _ v35 v123 v135 (hok := k12) (hQ := ?_)
  intro v353 hv353; try dsimp only
  obtain ⟨k13, ok⟩ := okRun_append ok
  rw [wp_bind]; refine part13_run P defs K R _ v35 v147 v353 (hok := k13) (hv := hv353) (hQ := ?_)
  rintro ⟨⟩; try dsimp only
  obtain ⟨k14, ok⟩ := okRun_append ok
  rw [wp_bind]; refine part14_run P defs K R _ v13 v24 v159 (hok := k14) (hQ := ?_)
  rintro ⟨v398, v410, v411, c96_i32_344⟩; try dsimp only
  obtain ⟨k15, ok⟩ := okRun_append ok
  rw [wp_bind]; refine part15_run P defs K R _ v24 v176 v398 v411 c96_i32_344 (hok := k15) (hQ := ?_)
  intro v422 v439 hv439; try dsimp only
  obtain ⟨k16, ok⟩ := okRun_append ok
  rw [wp_bind]; refine part16_run P defs K R _ v24 v188 v439 (hok := k16) (hv := hv439) (hQ := ?_)
  rintro ⟨⟩; try dsimp only
  obtain ⟨k17, ok⟩ := okRun_append ok
  rw [wp_bind]; refine part17_run P defs K R _ v24 v200 v212 (hok := k17) (hQ := ?_)
  intro v491 v492 v495 hvu; try dsimp only
  obtain ⟨k18, ok⟩ := okRun_append ok
  rw [wp_bind]; refine part18_run P defs K R _ v13 v46 v491 v492 v495 (hok := k18) (hv := hvu) (hQ := ?_)
  rintro ⟨v503, v515⟩; try dsimp only
  obtain ⟨k19, ok⟩ := okRun_append ok
  rw [wp_bind]; refine part19_run P defs K R _ v35 v305 v503 (hok := k19) (hQ := ?_)
  intro v527; try dsimp only
  obtain ⟨k20, ok⟩ := okRun_append ok
  rw [wp_bind]; refine part20_run P defs K R _ v13 v24 v317 (hok := k20) (hQ := ?_)
  intro v582; try dsimp only
  obtain ⟨k21, ok⟩ := okRun_append ok
  rw [wp_bind]; refine part21_run P defs K R _ v24 v410 (hok := k21) (hQ := ?_)
  rintro ⟨⟩; try dsimp only
  obtain ⟨k22, ok⟩ := okRun_append ok
  rw [wp_bind]; refine part22_run P defs K R _ v13 v46 v422 (hok := k22) (hQ := ?_)
  intro v637; try dsimp only
  obtain ⟨k23, ok⟩ := okRun_append ok
  rw [wp_bind]; refine part23_run P defs K R _ v46 v515 v527 (hok := k23) (hQ := ?_)
  intro v667; try dsimp only
  obtain ⟨k24, ok⟩ := okRun_append ok
  rw [wp_bind]; refine part24_run P defs K R _ v13 v35 v667 (hok := k24) (hQ := ?_)
  intro v692; try dsimp only
  obtain ⟨k25, ok⟩ := okRun_append ok
  rw [wp_bind]; refine part25_run P defs K R _ v13 v24 v582 (hok := k25) (hQ := ?_)
  rintro ⟨⟩; try dsimp only
  obtain ⟨k26, ok⟩ := okRun_append ok
  rw [wp_bind]; refine part26_run P defs K R _ v13 v46 v637 (hok := k26) (hQ := ?_)
  rintro ⟨⟩; try dsimp only
  obtain ⟨k27, ok⟩ := okRun_append ok
  rw [wp_bind]; refine part27_run P defs K R _ v13 v35 v692 (hok := k27) (hQ := ?_)
  rintro ⟨⟩; try dsimp only
  obtain ⟨k28, ok⟩ := okRun_append ok
  rw [wp_bind]; refine part28_run P defs K R _ v13 v24 v35 (hok := k28) (hQ := ?_)
  rintro ⟨⟩; try dsimp only
  obtain ⟨k29, ok⟩ := okRun_append ok
  rw [wp_bind]; refine part29_run P defs K R _ v13 v24 v46 (hok := k29) (hQ := ?_)
  rintro ⟨⟩; try dsimp only
  obtain ⟨k30, ok⟩ := okRun_append ok
  rw [wp_bind]; refine part30_run P defs K R _ v13 v35 v46 (hok := k30) (hQ := ?_)
  rintro ⟨⟩; try dsimp only
  obtain ⟨k31, ok⟩ := okRun_append ok
  rw [wp_bind]; refine part31_run P defs K R _ v13 v35 (hok := k31) (hQ := ?_)
  rintro ⟨⟩; try dsimp only
  obtain ⟨k32, ok⟩ := okRun_append ok
  rw [wp_bind]; refine part32_run P defs K R _ v13 v46 (hok := k32) (hQ := ?_)
  rintro ⟨v932, c96_i32_799⟩; try dsimp only
  obtain ⟨k33, ok⟩ := okRun_append ok
  rw [wp_bind]; refine part33_run P defs K R _ v24 v46 v932 c96_i32_799 (hok := k33) (hQ := ?_)
  rintro ⟨⟩; try dsimp only
  obtain ⟨k34, ok⟩ := okRun_append ok
  rw [wp_bind]; refine part34_run P defs K R _ v13 v35 (hok := k34) (hQ := ?_)
  rintro ⟨⟩; try dsimp only
  obtain ⟨k35, ok⟩ := okRun_append ok
  rw [wp_bind]; refine part35_run P defs K R _ v13 v35 v46 (hok := k35) (hQ := ?_)
  rintro ⟨⟩; try dsimp only
  obtain ⟨k36, ok⟩ := okRun_append ok
  rw [wp_bind]; refine part36_run P defs K R _ v13 v24 v46 (hok := k36) (hQ := ?_)
  intro v1050; try dsimp only
  obtain ⟨k37, ok⟩ := okRun_append ok
  rw [wp_bind]; refine part37_run P defs K R _ v13 v24 v46 v1050 (hok := k37) (hQ := ?_)
  rintro ⟨⟩; try dsimp only
  obtain ⟨k38, ok⟩ := okRun_append ok
  rw [wp_bind]; refine part38_run P defs K R _ v46 (hok := k38) (hQ := ?_)
  intro c1_i32_954; try dsimp only
  obtain ⟨k39, ok⟩ := okRun_append ok
  rw [wp_bind]; refine part39_run P defs K R _ v35 v46 c1_i32_954 (hok := k39) (hQ := ?_)
  rintro ⟨⟩; try dsimp only
  obtain ⟨k40, ok⟩ := okRun_append ok
  rw [wp_bind]; refine part40_run P defs K R _ v24 v35 (hok := k40) (hQ := ?_)
  rintro ⟨⟩; try dsimp only
  obtain ⟨k41, ok⟩ := okRun_append ok
  rw [wp_bind]; refine part41_run P defs K R _ v24 (hok := k41) (hQ := ?_)
  rintro ⟨⟩; try dsimp only
  simp only [Prog.lift, Prog.bind_op, Prog.bind_ret, Prog.pure_eq_ret]
  obtain ⟨o0, ok⟩ := okRun_cons ok
  obtain ⟨o1, ok⟩ := okRun_cons ok
  refine st_doneG P defs K c _ _ R Q 41 rfl rfl ?_ o0
  refine st_recvG P defs K c _ _ R Q 41 rfl rfl ?_ o1
  simp only [evs, run_append] at hQ'
  exact hQ'

end Cert.KernelIdeal.AR

end
-- ==== Proof.Ends.lean ====
/-
  The exchange's two ends: its buffers cut into the blocks and slots the transfers deal in, and put together
  again; its semaphores' cells closed.
-/
module

public import proofs.«01_k».proof.Proof.Barrier
public import proofs.«01_k».proof.Proof.Chain
public import Idealize.ShloMosaic.Lib.Ring

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Rows cut into blocks and slots -/

theorem row_blk : ∀ r : Fin 2048, ∃ k : Fin 3, ∃ v : Fin 8, rowLo k v ≤ r.val ∧ r.val < rowLo k v + sub k := by decide +kernel
theorem row_slot : ∀ r : Fin 1792, ∃ s : Fin 42, isRS s = true ∧ slotLo s ≤ r.val ∧ r.val < slotLo s + sub (kOf s) := by decide +kernel
theorem slot_apart : ∀ s t : Fin 42, isRS s = true → isRS t = true → s ≠ t →
    slotLo s + sub (kOf s) ≤ slotLo t ∨ slotLo t + sub (kOf t) ≤ slotLo s := by decide +kernel

theorem blk_apart (b b' : Blk) (h : b ≠ b') : Disjoint (blkRows b) (blkRows b') := by
  rw [Finset.disjoint_left]
  intro i hi hi'
  obtain ⟨h1, h2⟩ := mem_blk hi
  obtain ⟨h3, h4⟩ := mem_blk hi'
  exact h (Prod.ext (h1.symm.trans h3) (Fin.ext (h2.symm.trans h4)))
theorem blk_all : Finset.univ.biUnion blkRows = Finset.univ := by
  ext i
  simp only [Finset.mem_biUnion, Finset.mem_univ, true_and, iff_true]
  obtain ⟨k, v, h1, h2⟩ := row_blk (i 0)
  exact ⟨(k, v), Finset.mem_filter.mpr ⟨Finset.mem_univ _, h1, h2⟩⟩

/-- A transfer's slot, if it has one. -/
def slotSet (s : Fin 42) : Finset S1792x1024.Idx := if isRS s = true then landRows s else ∅
theorem slotSet_apart (s t : Fin 42) (h : s ≠ t) : Disjoint (slotSet s) (slotSet t) := by
  unfold slotSet
  split
  · split
    · rename_i h1 h2
      rw [Finset.disjoint_left]
      intro i hi hi'
      obtain ⟨-, h3, h4⟩ := Finset.mem_filter.mp hi
      obtain ⟨-, h5, h6⟩ := Finset.mem_filter.mp hi'
      rcases slot_apart s t h1 h2 h with h | h <;> omega
    · exact Finset.disjoint_empty_right _
  · exact Finset.disjoint_empty_left _
theorem slotSet_all : Finset.univ.biUnion slotSet = Finset.univ := by
  ext i
  simp only [Finset.mem_biUnion, Finset.mem_univ, true_and, iff_true]
  obtain ⟨s, h0, h1, h2⟩ := row_slot (i 0)
  exact ⟨s, by rw [slotSet, if_pos h0]; exact Finset.mem_filter.mpr ⟨Finset.mem_univ _, h1, h2⟩⟩

abbrev aAll (c : Dev nD) (f : Big F) : sProp 𝕄 := (aM.view.loc (c : Thread nD τ)) ↦{fullShare} f
abbrev oAll (c : Dev nD) (f : Big F) : sProp 𝕄 := (oM.view.loc (c : Thread nD τ)) ↦{fullShare} f
abbrev lAll (c : Dev nD) (f : Slots F) : sProp 𝕄 := (lM.view.loc (c : Thread nD τ)) ↦{fullShare} f

theorem a_blocks (c : Dev nD) (f : Big F) : (aAll c f : sProp 𝕄) = bigSep Finset.univ fun b => aPts c b f := by
  have h := pointsTo_biUnion (Val := Elt F) (Ix := Unit) (Name := ℕ) (U := UU) (Lvl := ℕ) (ℓ := aM.view.loc (c : Thread nD τ)) (q := fullShare) (f := f) Finset.univ blkRows (fun b _ b' _ h => blk_apart b b' h)
  rw [blk_all] at h
  exact h
theorem o_blocks (c : Dev nD) (f : Big F) : (oAll c f : sProp 𝕄) = bigSep Finset.univ fun b => oPts c b f := by
  have h := pointsTo_biUnion (Val := Elt F) (Ix := Unit) (Name := ℕ) (U := UU) (Lvl := ℕ) (ℓ := oM.view.loc (c : Thread nD τ)) (q := fullShare) (f := f) Finset.univ blkRows (fun b _ b' _ h => blk_apart b b' h)
  rw [blk_all] at h
  exact h

theorem slot_item (c : Dev nD) (s : Fin 42) :
    (iprop(∃ f : Slots F, (lM.view.loc (c : Thread nD τ)) ↦[slotSet s]{fullShare} f) : sProp 𝕄) ⊣⊢ whenB (isRS s) (slotAny c s) := by
  unfold slotSet
  rcases h : isRS s
  · rw [whenB_false _ rfl]
    constructor
    · iintro -; iempintro
    · iintro -
      iexists fun _ => Classical.choice (Elt.nonempty F .bf16)
      rw [if_neg (by decide), pointsTo_empty]; iempintro
  · rw [whenB_true _ rfl, if_pos rfl]
    exact ⟨BI.Entails.refl _, BI.Entails.refl _⟩

theorem l_open (c : Dev nD) (f : Slots F) : (lAll c f : sProp 𝕄) ⊢ bigSep Finset.univ fun s => whenB (isRS s) (slotAny c s) := by
  have h := pointsTo_biUnion (Val := Elt F) (Ix := Unit) (Name := ℕ) (U := UU) (Lvl := ℕ) (ℓ := lM.view.loc (c : Thread nD τ)) (q := fullShare) (f := f) Finset.univ slotSet (fun s _ t _ h => slotSet_apart s t h)
  rw [slotSet_all] at h
  refine (Entails.of_eq h).trans (bigSep_mono fun s _ => ?_)
  have e : ((lM.view.loc (c : Thread nD τ)) ↦[slotSet s]{fullShare} f : sProp 𝕄) ⊢ iprop(∃ f : Slots F, (lM.view.loc (c : Thread nD τ)) ↦[slotSet s]{fullShare} f) := by
    iintro H; iexists f; iexact H
  exact e.trans (slot_item c s).1
theorem l_shut (c : Dev nD) : (bigSep Finset.univ fun s => whenB (isRS s) (slotAny c s) : sProp 𝕄) ⊢ iprop(∃ f : Slots F, lAll c f) :=
  (bigSep_mono fun s _ => (slot_item c s).2).trans
    (Ring.pointsTo_blocks_join_exists (ℓ := lM.view.loc (c : Thread nD τ)) slotSet slotSet_apart slotSet_all (fun _ => Classical.choice (Elt.nonempty F .bf16)))

/-! ## The result's blocks at the start -/

theorem sB_inj (c : Dev nD) : Set.InjOn (fun s => sB s c) (Finset.univ.filter fun s : Fin 42 => s.val < 12) := by
  have h : ∀ (c : Dev nD) (s t : Fin 42), s.val < 12 → t.val < 12 → sB s c = sB t c → s = t := by decide +kernel
  intro s hs t ht e
  exact h c s t (Finset.mem_filter.mp hs).2 (Finset.mem_filter.mp ht).2 e
theorem sB_image : ∀ c : Dev nD, ((Finset.univ.filter fun s : Fin 42 => s.val < 12).image fun s => sB s c)
    = Finset.univ.filter fun b : Blk => ¬ (cfg0 c).OB b = 1 := by decide +kernel
theorem OB_other : ∀ (c : Dev nD) (b : Blk), ¬ (cfg0 c).OB b = 1 → (cfg0 c).OB b = 0 := by decide +kernel

theorem o_open (P : Dev nD → Big F) (c : Dev nD) (f : Big F) :
    (oAll c f : sProp 𝕄) ⊢ iprop(OO P c (cfg0 c).OB ∗ bigSep Finset.univ fun s : Fin 42 => whenB (s.val < 12) (iprop(∃ f : Big F, oPts c (sB s c) f))) := by
  rw [o_blocks, bigSep_filter_split Finset.univ (fun b : Blk => (cfg0 c).OB b = 1)]
  refine (sep_mono_left ?_).trans (sep_mono_right ?_)
  · rw [bigSep_filter]
    refine bigSep_mono fun b _ => ?_
    by_cases h : (cfg0 c).OB b = 1
    · rw [if_pos h, h]; refine (show _ ⊢ iprop(∃ f : Big F, oPts c b f) from ?_)
      iintro H; iexists f; iexact H
    · rw [if_neg h, OB_other c b h]; exact BI.Entails.refl _
  · rw [← sB_image, bigSep_image_of_injOn (sB_inj c), bigSep_filter]
    refine bigSep_mono fun s _ => ?_
    by_cases h : s.val < 12
    · rw [if_pos h, whenB_true _ (decide_eq_true h)]; exact exists_intro (Φ := fun f : Big F => oPts c (sB s c) f) f
    · rw [if_neg h, whenB_false _ (decide_eq_false h)]; exact BI.Entails.refl _

/-! ## Before -/

variable (P : Dev nD → Big F) (K : GSem nD τ sig → ℕ) (c : Dev nD)

/-- What a device holds of the protocol when the exchange begins, its buffers apart. -/
def hold (c : Dev nD) : sProp 𝕄 :=
  iprop(barHold c ∗ (bigSep Finset.univ fun s => pre1 c s) ∗ bigSep Finset.univ fun s : Fin 42 => reached ER (recvC c s) 0)

theorem pre_intro (f : Big F) (g : Slots F) :
    iprop(Inv P K ∗ (∃ W, owes (c : Thread nD τ) (O₀ c) W) ∗ hold c ∗ aAll c (P c) ∗ oAll c f ∗ lAll c g) ⊢ Pre P K c iprop(emp) := by
  unfold hold Pre
  iintro ⟨HI, HO, ⟨Hb, Hp, Hr⟩, HA, HB, HL⟩
  isplitl [HI]; · iexact HI
  isplitl [HO]; · iexact HO
  isplitl [Hb]; · iexact Hb
  isplitl [Hp]; · iexact Hp
  ihave HB' := (o_open P c f) $$ HB
  icases HB' with ⟨HOO, HW⟩
  ihave HL' := (l_open c g) $$ HL
  isplitl [Hr HW HL']
  · unfold give
    iapply (both _ _); isplitl [Hr]; · iexact Hr
    iapply (both _ _); isplitl [HL'] <;> iassumption
  isplitl [HA]
  · have e : (aAll c (P c) : sProp 𝕄) ⊢ PP P c (cfg0 c).PB := Entails.of_eq (a_blocks c (P c))
    iapply e; iexact HA
  isplitl [HOO]; · iexact HOO
  iempintro

/-! ## After -/

/-- Everything back: every semaphore at zero, the operand as it was, the result complete, nothing owed. -/
def Post (c : Dev nD) : sProp 𝕄 :=
  iprop(semVal (barC c) 0 ∗ (bigSep Finset.univ fun s : Fin 42 => iprop(semVal (sendC c s) 0 ∗ semVal (recvC c s) 0))
    ∗ (∃ g : Slots F, lAll c g) ∗ aAll c (P c) ∗ oAll c (fin P) ∗ ∃ W, owes (c : Thread nD τ) (0 : CellTallies nD τ sig Unit) W)

theorem close_bar : iprop(Inv P K ∗ atPos ER (barC c) (0 + 1) ∅ 0) ⊢ (|={Set.univ}=> semVal (barC c) 0 : sProp 𝕄) := by
  have e : iprop(Inv P K ∗ atPos ER (barC c) (0 + 1) ∅ 0) ⊢ iprop(cellInv ER (arRd P) (K (barC c)) (barC c) ∗ atPos ER (barC c) (0 + 1) ∅ 0) := by
    iintro ⟨HI, H⟩
    isplitl [HI]; · iapply (Inv_bar P K c); iexact HI
    iexact H
  exact e.trans (Rounds.cell_close ER (arRd P) (g := barC c) (Set.mem_univ (K (barC c))) id (duties_later P _))
theorem close_send (s : Fin 42) : iprop(Inv P K ∗ atPos ER (sendC c s) (0 + 1) ∅ 0) ⊢ (|={Set.univ}=> semVal (sendC c s) 0 : sProp 𝕄) := by
  have e : iprop(Inv P K ∗ atPos ER (sendC c s) (0 + 1) ∅ 0) ⊢ iprop(cellInv ER (arRd P) (K (sendC c s)) (sendC c s) ∗ atPos ER (sendC c s) (0 + 1) ∅ 0) := by
    iintro ⟨HI, H⟩
    isplitl [HI]; · iapply (Inv_send P K c s); iexact HI
    iexact H
  exact e.trans (Rounds.cell_close ER (arRd P) (g := sendC c s) (Set.mem_univ (K (sendC c s))) id (duties_later P _))
theorem close_recv (s : Fin 42) : iprop(Inv P K ∗ atPos ER (recvC c s) (0 + 1) ∅ 0) ⊢ (|={Set.univ}=> semVal (recvC c s) 0 : sProp 𝕄) := by
  have e : iprop(Inv P K ∗ atPos ER (recvC c s) (0 + 1) ∅ 0) ⊢ iprop(cellInv ER (arRd P) (K (recvC c s)) (recvC c s) ∗ atPos ER (recvC c s) (0 + 1) ∅ 0) := by
    iintro ⟨HI, H⟩
    isplitl [HI]; · iapply (Inv_recv P K c s); iexact HI
    iexact H
  exact e.trans (Rounds.cell_close ER (arRd P) (g := recvC c s) (Set.mem_univ (K (recvC c s))) id (duties_later P _))

/-- A transfer at the end: its two semaphores' cells, and its slot. -/
theorem item_end (s : Fin 42) :
    iprop(Inv P K ∗ tItem P c s (if isRS s then 4 else 3))
      ⊢ (|={Set.univ}=> iprop((semVal (sendC c s) 0 ∗ semVal (recvC c s) 0) ∗ whenB (isRS s) (slotAny c s)) : sProp 𝕄) := by
  have e : (tItem P c s (if isRS s then 4 else 3) : sProp 𝕄)
      ⊢ iprop(atPos ER (sendC c s) (0 + 1) ∅ 0 ∗ atPos ER (recvC c s) (0 + 1) ∅ 0 ∗ whenB (isRS s) (slotAny c s)) := by
    rcases h : isRS s
    · refine (show tI3 P c s ⊢ _ from ?_)
      unfold tI3; rw [h, whenB_false _ rfl, whenB_false _ rfl]
    · refine (show tI4 c s ⊢ _ from ?_)
      unfold tI4; rw [whenB_true _ rfl]
  iintro ⟨#HI, H⟩
  ihave H' := e $$ H
  icases H' with ⟨H1, H2, H3⟩
  imod (close_send P K c s) $$ [H1] with H1
  · isplitr; · iexact HI
    iexact H1
  imod (close_recv P K c s) $$ [H2] with H2
  · isplitr; · iexact HI
    iexact H2
  imodintro
  isplitr [H3]
  · isplitl [H1] <;> iassumption
  iexact H3

theorem items_end :
    iprop(Inv P K ∗ TT P c (run c (cfg0 c) evs).T)
      ⊢ (|={Set.univ}=> iprop((bigSep Finset.univ fun s : Fin 42 => iprop(semVal (sendC c s) 0 ∗ semVal (recvC c s) 0)) ∗ ∃ g : Slots F, lAll c g) : sProp 𝕄) := by
  have e : iprop(Inv P K ∗ TT P c (run c (cfg0 c) evs).T)
      ⊢ bigSep Finset.univ fun s => iprop(|={Set.univ}=> iprop((semVal (sendC c s) 0 ∗ semVal (recvC c s) 0) ∗ whenB (isRS s) (slotAny c s)) : sProp 𝕄) := by
    unfold TT
    refine bigSep_with_persistent (R := Inv P K) fun s _ => ?_
    rw [run_evs_T]; exact item_end P K c s
  refine e.trans ((bigSep_fupd _ _).trans (fupd_mono ((apart _ _).trans (sep_mono_right (l_shut c)))))

theorem post_elim :
    St P K (iprop(atPos ER (barC c) (0 + 1) ∅ 0 ∗ emp)) c (run c (cfg0 c) evs) ⊢ (|={Set.univ}=> Post P c : sProp 𝕄) := by
  unfold St Ow
  rw [run_evs_nx, owedFrom_end]
  have ha : (PP P c (run c (cfg0 c) evs).PB : sProp 𝕄) ⊢ aAll c (P c) := by
    rw [a_blocks]; unfold PP
    refine bigSep_mono fun b _ => ?_
    rw [run_evs_PB]; exact BI.Entails.refl _
  have ho : (OO P c (run c (cfg0 c) evs).OB : sProp 𝕄) ⊢ oAll c (fin P) := by
    rw [o_blocks]; unfold OO
    refine bigSep_mono fun b _ => ?_
    rw [run_evs_OB]; exact BI.Entails.refl _
  iintro ⟨#HI, HO, HT, HP, HB, Hat, -⟩
  imod (close_bar P K c) $$ [Hat] with Hb
  · isplitr; · iexact HI
    iexact Hat
  imod (items_end P K c) $$ [HT] with ⟨Hs, Hl⟩
  · isplitr; · iexact HI
    iexact HT
  imodintro
  unfold Post
  isplitl [Hb]; · iexact Hb
  isplitl [Hs]; · iexact Hs
  isplitl [Hl]; · iexact Hl
  isplitl [HP]; · iapply ha; iexact HP
  isplitl [HB]; · iapply ho; iexact HB
  iexact HO

/-- The exchange, whole. -/
theorem exchange_run (defs : Defs nD τ sig (Elt F) Λ₀) (f : Big F) (g : Slots F) (Q : PUnit → sProp 𝕄) {h0 h1 h2} :
    iprop((Inv P K ∗ (∃ W, owes (c : Thread nD τ) (O₀ c) W) ∗ hold c ∗ aAll c (P c) ∗ oAll c f ∗ lAll c g) ∗ (Post P c -∗ Q ⟨⟩))
      ⊢ wp frame (wpE defs 𝒱₀ (c : Thread nD τ) none) Set.univ (cc1__allreduce_body aM h0 oM h1 lM h2 cc1_scratch1 cc1_scratch2) Q := by
  have e := body_run P defs K c (Pre P K c iprop(emp)) (iprop(atPos ER (barC c) (0 + 1) ∅ 0 ∗ emp)) (fun _ => Post P c)
    (h0 := h0) (h1 := h1) (h2 := h2)
    (fun v13 v24 v26 v28 v31 v32 Q' h => part2_run P defs K c iprop(emp) v13 v24 v26 v28 v31 v32 Q' h) (post_elim P K c)
  refine (sep_mono_left ((pre_intro P K c f g).trans e)).trans ?_
  refine (wp_frame_r _ _ _).trans (wp_mono _ _ _ fun _ => ?_)
  iintro ⟨H, Hk⟩; iapply Hk; iexact H

end Cert.KernelIdeal.AR

end
-- ==== Proof.Region1.lean ====
/-
  The exchange as a region of the program: its proof data, and its one point's body.
-/
module

public import proofs.«01_k».proof.Proof.Region0
public import proofs.«01_k».proof.Proof.Ends
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.AR
open Idealize.ShloMosaic.Pipeline (Dat BodyObligation BodyObligationLoose)

variable {F : FTy → Type} [FloatOps F]

local notation "𝕄" => MT nD τ sig Unit (Elt F) ℕ UU ℕ

/-- A buffer of the device whole, at contents not chosen. -/
abbrev some' (c : Dev nD) (b : Ref sig .tc) : sProp 𝕄 :=
  iprop(∃ f : Buf (Elt F) ((c : Thread nD τ).loc b), ((c : Thread nD τ).loc b) ↦{fullShare} f)

/-- The scoped buffers of the products' kernel, which the exchange leaves alone. -/
def idle1Rest (c : Dev nD) : sProp 𝕄 :=
  iprop(some' c cc0_stg0_0 ∗ some' c cc0_stg1_0 ∗ some' c cc0_stg2_0 ∗ some' c cc0_stg3_0 ∗ some' c cc0_stg3_1 ∗ some' c cc0_stg4_0
    ∗ some' c cc0_stg5_0 ∗ some' c cc0_scratch0 ∗ some' c cc0_scratch1 ∗ some' c cc0_scratch2)

theorem scoped1_split (c : Dev nD) : (Pipeline.scopedRest (Ix := Unit) (Name := ℕ) (U := UU) (Lvl := ℕ) (Val := Elt F) spec1 c : sProp 𝕄)
    ⊢ iprop(idle1Rest c ∗ ∃ g : Slots F, lAll c g) := by
  rw [scopedRest1_eq]
  unfold idle1Rest
  iintro ⟨H0, H1, H2, H3, H4, H5, H6, H7, H8, H9, ⟨%g, HL⟩⟩
  isplitr [HL]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexists g; iexact HL
theorem scoped1_join (c : Dev nD) : (iprop(idle1Rest c ∗ ∃ g : Slots F, lAll c g) : sProp 𝕄)
    ⊢ Pipeline.scopedRest (Ix := Unit) (Name := ℕ) (U := UU) (Lvl := ℕ) (Val := Elt F) spec1 c := by
  rw [scopedRest1_eq]
  unfold idle1Rest
  iintro ⟨⟨H0, H1, H2, H3, H4, H5, H6, H7, H8, H9⟩, ⟨%g, HL⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists g; iexact HL

variable (m : (ℓ : Loc nD τ sig) → Buf (Elt F) ℓ)

/-- The exchange's semaphores, all at zero. -/
def semsZero (c : Dev nD) : sProp 𝕄 := bigSep Finset.univ fun s : Fin 42 => iprop(semVal (sendC c s) 0 ∗ semVal (recvC c s) 0)

/-- What the exchange is entered with, and what it leaves, of the protocol. -/
def Xk (c : Dev nD) : sProp 𝕄 := iprop(∃ K, Inv (outOf m) K ∗ hold c)
def Yk (c : Dev nD) : sProp 𝕄 := semVal (barC c) 0

def entered (c : Dev nD) : sProp 𝕄 := iprop(Xk m c ∗ idle1Rest c ∗ (∃ g : Slots F, lAll c g) ∗ ∃ r, prngReg c r)
def finished (c : Dev nD) : sProp 𝕄 := iprop(Yk c ∗ semsZero c ∗ idle1Rest c ∗ (∃ g : Slots F, lAll c g) ∗ ∃ r, prngReg c r)

def dat1 (c : Dev nD) : Dat τ (Elt F) Unit ℕ UU ℕ cfg1 c where
  A w := match w with
    | ⟨0, _⟩ => outOf m c
    | ⟨1, _⟩ => V0 m c (Proc.devRef .tc main_v2)
  after w _ := match w with
    | ⟨0, _⟩ => outOf m c
    | ⟨1, _⟩ => fin (outOf m)
  Φ t := if t.val = 0 then entered m c else finished c
  q _ := fullShare
  owed t := if t.val = 0 then O₀ c else 0

theorem phi1_first (c : Dev nD) (t : Fin (cfg1.N + 1)) (h : t.val = 0) : (dat1 m c).Φ t = entered m c := if_pos h
theorem phi1_last (c : Dev nD) (t : Fin (cfg1.N + 1)) (h : t.val ≠ 0) : (dat1 m c).Φ t = finished c := if_neg h
theorem owed1_first (c : Dev nD) (t : Fin (cfg1.N + 1)) (h : t.val = 0) : (dat1 m c).owed t = O₀ c := if_pos h
theorem owed1_last (c : Dev nD) (t : Fin (cfg1.N + 1)) (h : t.val ≠ 0) : (dat1 m c).owed t = 0 := if_neg h

theorem blk1_0 (t : Fin grid1.N) (f : Big F) : (win1_0.blk t).view.read (Elt F) f = f :=
  funext fun j => congrArg f (funext fun a => Fin.ext (by fin_cases a <;> exact (Nat.zero_add _).trans (Nat.one_mul _)))

theorem before1_0 (c : Dev nD) (t : Fin cfg1.N) (d) : (dat1 m c).before 0 t d = outOf m c :=
  ((dat1 m c).before_in_eq_fetched 0 rfl (fun _ => rfl) (fun _ _ _ => rfl) (fun t => (blk1_0 t (outOf m c)).symm) t d).trans (blk1_0 t (outOf m c))

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W; iexact HO

theorem has_a' (c : Dev nD) (X : cc1_stg0_0.ty.Contents (Elt F)) : (owns (c : Thread nD τ) (Memref.whole cc1_stg0_0) fullShare X : sProp 𝕄)
    = (((c : Thread nD τ).loc cc1_stg0_0) ↦{fullShare} X) := owns_whole (c : Thread nD τ) cc1_stg0_0 fullShare X
theorem has_a (c : Dev nD) (X : Big F) : (has c aM X : sProp 𝕄) = aAll c X := has_a' c X
theorem has_o' (c : Dev nD) (X : cc1_stg1_0.ty.Contents (Elt F)) : (owns (c : Thread nD τ) (Memref.whole cc1_stg1_0) fullShare X : sProp 𝕄)
    = (((c : Thread nD τ).loc cc1_stg1_0) ↦{fullShare} X) := owns_whole (c : Thread nD τ) cc1_stg1_0 fullShare X
theorem has_o (c : Dev nD) (X : Big F) : (has c oM X : sProp 𝕄) = oAll c X := has_o' c X
theorem st1_0_eq (t : Fin cfg1.N) : st1_0 t = aM := rfl
theorem st1_1_eq (t : Fin cfg1.N) : st1_1 t = oM := rfl

/-- The windows as the body finds them and as it leaves them. -/
theorem found1 (c : Dev nD) (t : Fin cfg1.N) :
    (bigSep Finset.univ fun w : Fin cfg1.W => iprop(∃ d, owns (c : Thread nD τ) ((cfg1.win w).stage (cfg1.slots t w)) fullShare ((dat1 m c).before w t d)) : sProp 𝕄)
      ⊢ iprop(aAll c (outOf m c) ∗ ∃ f : Big F, oAll c f) := by
  rw [bigSep_W1]
  simp only [before1_0]
  have e : iprop((∃ _ : Big F, has c (st1_0 t) (outOf m c)) ∗ ∃ d, has c (st1_1 t) ((dat1 m c).before 1 t d))
      ⊢ (iprop(aAll c (outOf m c) ∗ ∃ f : Big F, oAll c f) : sProp 𝕄) := by
    iintro ⟨⟨%_, H0⟩, ⟨%d, H1⟩⟩
    isplitl [H0]
    · iapply (Entails.of_eq (has_a c (outOf m c))); iexact H0
    iexists (dat1 m c).before 1 t d
    iapply (Entails.of_eq (has_o c ((dat1 m c).before 1 t d))); iexact H1
  exact e

theorem left1 (c : Dev nD) (t : Fin cfg1.N) : iprop(aAll c (outOf m c) ∗ oAll c (fin (outOf m)))
    ⊢ (bigSep Finset.univ fun w : Fin cfg1.W => (dat1 m c).leavesExact w t : sProp 𝕄) := by
  rw [bigSep_W1, ← has_a, ← has_o]
  exact BI.Entails.refl _

theorem body1 (c : Dev nD) : BodyObligation (dat1 m c) defs₀ 𝒱₀ () Set.univ := fun t => by
  have h0 : (t.castSucc : Fin (cfg1.N + 1)).val = 0 := by
    have := lt_of_lt_of_eq t.isLt N_1
    show t.val = 0; omega
  have h1 : (t.succ : Fin (cfg1.N + 1)).val ≠ 0 := by show t.val + 1 ≠ 0; omega
  obtain rfl := fin_N1 t
  rw [phi1_first m c _ h0, phi1_last m c _ h1]
  have hO := owesAt_elim (dat1 m c) t1_0.castSucc (O₀ c) (owed1_first m c _ h0)
  have hO' := owesAt_intro (dat1 m c) t1_0.succ 0 (owed1_last m c _ h1) rfl
  unfold entered finished Xk Yk semsZero
  iintro ⟨⟨⟨%K, HI, Hh⟩, Hi, ⟨%g, HL⟩, Hr⟩, HO, HW⟩
  ihave HW := (found1 m c t1_0) $$ HW
  icases HW with ⟨HA, ⟨%f, HB⟩⟩
  ihave HO := hO $$ HO
  iapply (exchange_run (outOf m) K c defs₀ f g _)
  isplitr [Hi Hr]
  · isplitl [HI]; · iexact HI
    isplitl [HO]; · iexact HO
    isplitl [Hh]; · iexact Hh
    isplitl [HA]; · iexact HA
    isplitl [HB] <;> iassumption
  unfold Post
  iintro ⟨Hb, Hs, HL, HA, HB, HO⟩
  isplitl [Hb Hs Hi HL Hr]
  · isplitl [Hb]; · iexact Hb
    isplitl [Hs]; · iexact Hs
    isplitl [Hi]; · iexact Hi
    isplitl [HL] <;> iassumption
  isplitl [HO]; · iapply hO'; iexact HO
  iapply (left1 m c t1_0)
  isplitl [HA] <;> iassumption

end Cert.KernelIdeal.Run

end
-- ==== Proof.Segments.lean ====
/-
  The two regions as the program's segments: what each is entered with and what it leaves.
-/
module

public import proofs.«01_k».proof.Proof.Region1
public import proofs.«01_k».proof.Proof.Gen.KernelIdeal.Regions

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.AR
open Idealize.ShloMosaic.Pipeline (Dat BodyObligation BodyObligationLoose)

variable {F : FTy → Type} [FloatOps F]

local notation "𝕄" => MT nD τ sig Unit (Elt F) ℕ UU ℕ

variable (m : (ℓ : Loc nD τ sig) → Buf (Elt F) ℓ)

/-! ## The unscoped buffers' contents between the regions -/

def W1 (c : Dev nD) : Valuation τ sig (Elt F) := Function.update (V0 m c) main_v1 (outOf m c)
def W2 (c : Dev nD) : Valuation τ sig (Elt F) := Function.update (W1 m c) main_v2 (fin (outOf m))

theorem W1_v1 (c : Dev nD) : W1 m c (Proc.devRef .tc main_v1) = outOf m c := Function.update_self _ _ _
theorem W1_of (c : Dev nD) (r : Ref sig .tc) (h : r ≠ main_v1) : W1 m c (Proc.devRef .tc r) = V0 m c (Proc.devRef .tc r) :=
  Function.update_of_ne (StableHlo.devRef_ne_of_ne h) _ _
theorem W2_v2 (c : Dev nD) : W2 m c (Proc.devRef .tc main_v2) = fin (outOf m) := Function.update_self _ _ _
theorem W2_of (c : Dev nD) (r : Ref sig .tc) (h : r ≠ main_v2) : W2 m c (Proc.devRef .tc r) = W1 m c (Proc.devRef .tc r) :=
  Function.update_of_ne (StableHlo.devRef_ne_of_ne h) _ _

/-! ## The exchange's own semaphores -/

def osem1 (k : Fin 42 × Fin 2) : SemLoc sig := if k.2 = 0 then .dma (sendS k.1) else .dma (recvS k.1)
theorem osem1_send (s : Fin 42) : osem1 (s, 0) = .dma (sendS s) := rfl
theorem osem1_recv (s : Fin 42) : osem1 (s, 1) = .dma (recvS s) := rfl

/-- The number of the semaphore. -/
def osemNo (k : Fin 42 × Fin 2) : ℕ := if k.2 = 0 then 9 + k.1.val else 51 + k.1.val
theorem osem1_no (k : Fin 42 × Fin 2) : ∃ d : DmaSem sig, osem1 k = .dma d ∧ d.val = osemNo k := by
  obtain ⟨s, e⟩ := k
  unfold osem1 osemNo
  split
  · exact ⟨sendS s, rfl, rfl⟩
  · exact ⟨recvS s, rfl, rfl⟩
theorem osemNo_inj (k k' : Fin 42 × Fin 2) (h : osemNo k = osemNo k') : k = k' := by
  obtain ⟨s, e⟩ := k
  obtain ⟨s', e'⟩ := k'
  unfold osemNo at h
  have := s.isLt; have := s'.isLt
  have hs : s.val = s'.val ∧ e = e' := by
    fin_cases e <;> fin_cases e' <;> simp at h ⊢ <;> omega
  exact Prod.ext (Fin.ext hs.1) hs.2
theorem osemNo_le (k : Fin 42 × Fin 2) : 9 ≤ osemNo k := by unfold osemNo; split <;> omega
theorem stage_lt : ∀ (w : Fin 2) (s : Fin (spec1 w).nbuf), ((spec1 w).sem s).val < 9 := by decide
theorem osem_scoped : ∀ d : DmaSem sig, 9 ≤ d.val → (SemLoc.dma d : SemLoc sig).isScoped .tc = true := by decide +kernel

theorem ownFacts1 : Pipeline.OwnSemFacts spec1 osem1 where
  isScoped k := by
    obtain ⟨d, h, hd⟩ := osem1_no k
    rw [h]; exact osem_scoped d (hd ▸ osemNo_le k)
  inj k k' h := by
    obtain ⟨d, h1, hd⟩ := osem1_no k
    obtain ⟨d', h1', hd'⟩ := osem1_no k'
    rw [h1, h1'] at h
    have e : d = d' := SemLoc.dma.inj h
    exact osemNo_inj _ _ (by rw [← hd, ← hd', e])
  disj k w s h := by
    obtain ⟨d, h1, hd⟩ := osem1_no k
    rw [h1] at h
    have e := SemLoc.dma.inj h
    have := stage_lt w s
    have := osemNo_le k
    rw [← hd, e] at this
    omega

theorem ownSems1_eq (c : Dev nD) : (Pipeline.ownSems0 osem1 c : sProp 𝕄) = semsZero c := by
  unfold Pipeline.ownSems0 semsZero
  rw [bigSep_univ_prod]
  exact bigSep_congr fun s _ => BI.bigSep_fin_two fun e : Fin 2 => (semVal ((c : Thread nD τ), osem1 (s, e)) 0 : sProp 𝕄)

/-! ## Opening the exchange's cells -/

/-- Of transfer `s`, what device `c` carries from launch: the rights to open its two cells, its two tokens, its credit. -/
def kept (c : Dev nD) (s : Fin 42) : sProp 𝕄 :=
  iprop((openTok ER (sendC c s) ∗ openTok ER (recvC c s)) ∗ dutyTok ER (sendC c s) 0 0 ∗ dutyTok ER (recvC (pr s c) s) 0 0 ∗ crd (recvC c s) s)

/-- What device `c` carries of the protocol from launch to the exchange. -/
def Tk (c : Dev nD) : sProp 𝕄 := iprop(∃ K, Inv (outOf m) K ∗ barHold c ∗ bigSep Finset.univ fun s => kept c s)

theorem open_one (P : Dev nD → Big F) (K : GSem nD τ sig → ℕ) (c : Dev nD) (s : Fin 42) :
    iprop(Inv P K ∗ (kept c s ∗ (semVal (sendC c s) 0 ∗ semVal (recvC c s) 0)))
      ⊢ (|={Set.univ}=> iprop(pre1 c s ∗ reached ER (recvC c s) 0) : sProp 𝕄) := by
  unfold kept pre1
  iintro ⟨#HI, ⟨⟨Ho1, Ho2⟩, Ht1, Ht2, Hc⟩, Hv1, Hv2⟩
  imod (Rounds.cell_open ER (arRd P) (g := sendC c s) (Set.mem_univ (K (sendC c s)))) $$ [Ho1 Hv1] with ⟨Ha1, Hr1⟩
  · isplitr; · iapply (Inv_send P K c s); iexact HI
    isplitl [Ho1] <;> iassumption
  imod (Rounds.cell_open ER (arRd P) (g := recvC c s) (Set.mem_univ (K (recvC c s)))) $$ [Ho2 Hv2] with ⟨Ha2, Hr2⟩
  · isplitr; · iapply (Inv_recv P K c s); iexact HI
    isplitl [Ho2] <;> iassumption
  imodintro
  isplitr [Hr2]
  · isplitl [Ht1]; · iexact Ht1
    isplitl [Hr1]; · iexact Hr1
    isplitl [Ht2]; · iexact Ht2
    isplitl [Ha1]; · iexact Ha1
    isplitl [Ha2]; · iexact Ha2
    iexact Hc
  iexact Hr2

theorem open_all (P : Dev nD → Big F) (K : GSem nD τ sig → ℕ) (c : Dev nD) :
    iprop(Inv P K ∗ ((bigSep Finset.univ fun s => kept c s) ∗ semsZero c))
      ⊢ (|={Set.univ}=> iprop((bigSep Finset.univ fun s => pre1 c s) ∗ bigSep Finset.univ fun s : Fin 42 => reached ER (recvC c s) 0) : sProp 𝕄) := by
  unfold semsZero
  refine (sep_mono_right (both _ _)).trans ?_
  exact (bigSep_with_persistent (R := Inv P K) fun s _ => open_one P K c s).trans ((bigSep_fupd _ _).trans (fupd_mono (apart _ _)))

theorem hopen1 (c : Dev nD) : iprop(Tk m c ∗ Pipeline.ownSems0 osem1 c ∗ levAts L lv) ⊢ (|={Set.univ}=> Xk m c : sProp 𝕄) := by
  rw [ownSems1_eq]
  unfold Tk Xk hold
  iintro ⟨⟨%K, #HI, Hb, Hk⟩, Hs, -⟩
  imod (open_all (outOf m) K c) $$ [Hk Hs] with ⟨Hp, Hr⟩
  · isplitr; · iexact HI
    isplitl [Hk] <;> iassumption
  imodintro
  iexists K
  isplitr; · iexact HI
  isplitl [Hb]; · iexact Hb
  isplitl [Hp] <;> iassumption

/-! ## The proof data of both regions -/

def pdats : (p : Fin 2) → (c : Dev nD) → Dat τ (Elt F) Unit ℕ UU ℕ (Pipeline.pin (pcfgs (F := F)) adm p) c
  | 0 => dat0 m
  | 1 => dat1 m

local notation "ℝ𝕊" => Pipeline.RegionSeg (pcfgs (F := F)) adm (pdats m) () defs₀ 𝒱₀ L lv

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem O₀_pos {c : Dev nD} {g : GSem nD τ sig} {u : Unit} (h : 0 < O₀ c g u) :
    (∃ s, g = recvC (pr s c) s) ∨ ∃ x, g = barC (nb x c) := by
  have one (g' : GSem nD τ sig) (h : 0 < (tallyAt g' () 1 : CellTallies nD τ sig Unit) g u) : g = g' := by
    rw [tallyAt_apply] at h
    split at h
    · next hg => exact hg.1
    · exact absurd h (Nat.lt_irrefl 0)
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨s, -, e⟩ := owedFrom_pos h
        exact .inl ⟨s, e⟩
      · exact .inr ⟨2, one _ h⟩
    · exact .inr ⟨1, one _ h⟩
  · exact .inr ⟨0, one _ h⟩
theorem O₀_lev {c : Dev nD} {g : GSem nD τ sig} {u : Unit} (h : 0 < O₀ c g u) : u ∈ L g ∧ 0 < lv g u := by
  rcases O₀_pos h with ⟨s, rfl⟩ | ⟨x, rfl⟩
  · exact ⟨by rw [show L (recvC (pr s c) s) = {()} from if_pos rfl]; exact Finset.mem_singleton_self _, by rw [lv_recv]; omega⟩
  · exact ⟨by rw [show L (barC (nb x c)) = {()} from if_pos rfl]; exact Finset.mem_singleton_self _, Nat.one_pos⟩

theorem stage0_lt : ∀ (w : Fin 6) (s : Fin (spec0 w).nbuf), ((spec0 w).sem s).val < 51 := by decide
theorem lev_stage (c : Dev nD) (d : DmaSem sig) (u : Unit) (h : d.val < 51) : lv ((c : Thread nD τ), .dma d) u ≤ 0 :=
  le_of_eq (if_pos h)

theorem mem_L (c : Dev nD) (sm : SemLoc sig) : () ∈ L ((c : Thread nD τ), sm) := by
  rw [show L ((c : Thread nD τ), sm) = {()} from if_pos rfl]; exact Finset.mem_singleton_self _

end Cert.KernelIdeal.Run

end
-- ==== Proof.Regions.lean ====
/-
  The records of the two regions, and the way from each to the next.
-/
module

public import proofs.«01_k».proof.Proof.Segments
public import Idealize.ShloMosaic.Lib.Pipeline.ValueKit

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.AR
open Idealize.ShloMosaic.Pipeline (Dat BodyObligation BodyObligationLoose)

variable {F : FTy → Type} [FloatOps F]

local notation "𝕄" => MT nD τ sig Unit (Elt F) ℕ UU ℕ

variable (m : (ℓ : Loc nD τ sig) → Buf (Elt F) ℓ)

local notation "ℝ𝕊" => Pipeline.RegionSeg (pcfgs (F := F)) adm (pdats m) () defs₀ 𝒱₀ L lv

/-! ## The arrays at the end of each region -/

theorem arr0_out (c : Dev nD) : (dat0 m c).arrAt 5 cfg0.N = outOf m c :=
  (dat0 m c).arrAt_eq_of_after_last 5 t0_7 (by decide +kernel) _ fun j =>
    congrArg (outOf m c) (funext fun a => Fin.ext (by fin_cases a <;> rfl))
theorem arr1_out (c : Dev nD) : (dat1 m c).arrAt 1 cfg1.N = fin (outOf m) :=
  (dat1 m c).arrAt_eq_of_after_last 1 t1_0 (by decide +kernel) _ fun j =>
    congrArg (fin (outOf m)) (funext fun a => Fin.ext (by fin_cases a <;> rfl))

theorem arrs0 (c : Dev nD) (w : Fin 6) : (dat0 m c).arrAt w cfg0.N = W1 m c (Proc.devRef .tc (Pipeline.arrRef spec0 w)) := by
  fin_cases w
  · exact ((dat0 m c).arrAt_in 0 rfl _).trans (W1_of m c main_arg0 (by decide)).symm
  · exact ((dat0 m c).arrAt_in 1 rfl _).trans (W1_of m c main_arg1 (by decide)).symm
  · exact ((dat0 m c).arrAt_in 2 rfl _).trans (W1_of m c main_arg2 (by decide)).symm
  · exact ((dat0 m c).arrAt_in 3 rfl _).trans (W1_of m c main_arg3 (by decide)).symm
  · exact ((dat0 m c).arrAt_in 4 rfl _).trans (W1_of m c main_arg4 (by decide)).symm
  · exact (arr0_out m c).trans (W1_v1 m c).symm
theorem arrs1_in (c : Dev nD) (w : Fin 2) : (dat1 m c).arrAt w 0 = W1 m c (Proc.devRef .tc (Pipeline.arrRef spec1 w)) := by
  fin_cases w
  · exact (W1_v1 m c).symm
  · exact (W1_of m c main_v2 (by decide)).symm
theorem arrs1 (c : Dev nD) (w : Fin 2) : (dat1 m c).arrAt w cfg1.N = W2 m c (Proc.devRef .tc (Pipeline.arrRef spec1 w)) := by
  fin_cases w
  · exact ((dat1 m c).arrAt_in 0 rfl _).trans ((W1_v1 m c).symm.trans (W2_of m c main_v1 (by decide)).symm)
  · exact (arr1_out m c).trans (W2_v2 m c).symm

theorem share0 (c : Dev nD) (w : Fin cfg0.W) : (dat0 m c).share w = fullShare := by
  unfold Dat.share; split <;> rfl
theorem share1 (c : Dev nD) (w : Fin cfg1.W) : (dat1 m c).share w = fullShare := by
  unfold Dat.share; split <;> rfl

theorem v1_mem : (Proc.devRef .tc main_v1 : DevRef τ sig) ∈ Pipeline.arrRefs spec0 :=
  Finset.mem_map_of_mem _ (Finset.mem_image.mpr ⟨5, Finset.mem_univ _, rfl⟩)
theorem v2_mem : (Proc.devRef .tc main_v2 : DevRef τ sig) ∈ Pipeline.arrRefs spec1 :=
  Finset.mem_map_of_mem _ (Finset.mem_image.mpr ⟨1, Finset.mem_univ _, rfl⟩)
theorem W1_off (c : Dev nD) (b : DevRef τ sig) (h : b ∉ Pipeline.arrRefs spec0) : W1 m c b = V0 m c b :=
  Function.update_of_ne (fun e : b = Proc.devRef .tc main_v1 => h (by rw [e]; exact v1_mem)) _ _
theorem W2_off (c : Dev nD) (b : DevRef τ sig) (h : b ∉ Pipeline.arrRefs spec1) : W2 m c b = W1 m c b :=
  Function.update_of_ne (fun e : b = Proc.devRef .tc main_v2 => h (by rw [e]; exact v2_mem)) _ _

/-! ## Entering and leaving -/

/-- What no window of the first region holds: the result's array, the generator register, the protocol. -/
def rest0 (c : Dev nD) : sProp 𝕄 :=
  iprop(StableHlo.held (c.tc : Thread nD τ) (Pipeline.ucRefs τ sig \ Pipeline.arrRefs spec0) (V0 m c) ∗ (∃ r, prngReg c r) ∗ Tk m c)

theorem hin0 (c : Dev nD) : iprop(Pipeline.scopedRest (Pipeline.pin (pcfgs (F := F)) adm 0).spec c ∗ emp) ⊢ (pdats m 0 c).Φ 0 := by
  have e : iprop(Pipeline.scopedRest (Ix := Unit) (Name := ℕ) (U := UU) (Lvl := ℕ) (Val := Elt F) spec0 c ∗ emp) ⊢ (iprop(carried m c 0 ∗ idle0Rest c) : sProp 𝕄) := by
    rw [scopedRest0_eq]
    unfold carried idle0Rest
    iintro ⟨⟨⟨%g, H7⟩, ⟨%b, H8⟩, ⟨%s, H9⟩, H1, H2, H3⟩, -⟩
    isplitl [H7 H8 H9]
    · iexists g, b, s
      isplitr; · ipureintro; exact fun h => absurd rfl h
      isplitl [H7]; · iapply (Entails.of_eq (owns_whole (c : Thread nD τ) cc0_scratch0 fullShare g).symm); iexact H7
      isplitl [H8]; · iapply (Entails.of_eq (owns_whole (c : Thread nD τ) cc0_scratch1 fullShare b).symm); iexact H8
      iapply (Entails.of_eq (owns_whole (c : Thread nD τ) cc0_scratch2 fullShare s).symm); iexact H9
    isplitl [H1]; · iexact H1
    isplitl [H2] <;> iassumption
  exact e
theorem hout0 (c : Dev nD) : (pdats m 0 c).Φ (Fin.last (Pipeline.pin (pcfgs (F := F)) adm 0).N)
    ⊢ iprop(Pipeline.scopedRest (Pipeline.pin (pcfgs (F := F)) adm 0).spec c ∗ emp) := by
  have e (n : ℕ) : (iprop(carried m c n ∗ idle0Rest c) : sProp 𝕄) ⊢ iprop(Pipeline.scopedRest (Ix := Unit) (Name := ℕ) (U := UU) (Lvl := ℕ) (Val := Elt F) spec0 c ∗ emp) := by
    rw [scopedRest0_eq]
    unfold carried idle0Rest
    iintro ⟨⟨%g, %b, %s, -, H7, H8, H9⟩, H1, H2, H3⟩
    isplitl [H7 H8 H9 H1 H2 H3]
    · isplitl [H7]; · iexists g; iapply (Entails.of_eq (owns_whole (c : Thread nD τ) cc0_scratch0 fullShare g)); iexact H7
      isplitl [H8]; · iexists b; iapply (Entails.of_eq (owns_whole (c : Thread nD τ) cc0_scratch1 fullShare b)); iexact H8
      isplitl [H9]; · iexists s; iapply (Entails.of_eq (owns_whole (c : Thread nD τ) cc0_scratch2 fullShare s)); iexact H9
      isplitl [H1]; · iexact H1
      isplitl [H2] <;> iassumption
    iempintro
  exact e _

theorem cut0 : Pipeline.LevelCut (pcfgs (F := F)) adm () L lv 0 (fun c => O₀ c) (fun _ => 0) where
  hι c w s := mem_L c _
  hιb c w s := lev_stage c _ () (stage0_lt w s)
  hD c g i h := O₀_lev h

set_option backward.isDefEq.respectTransparency.types false in
/-- The products' region. -/
def reg0 : ℝ𝕊 0 :=
  Pipeline.RegionSeg.ofHeld (pcfgs (F := F)) adm (pdats m) () defs₀ 𝒱₀ L lv 0 (fun c => O₀ c) (fun _ => iprop(emp)) (fun _ => iprop(emp)) kit0 rfl
    (fun c => (body0 m c).loose) (fun _ _ => rfl) (fun _ => rfl) (share0 m) (hin0 m) (hout0 m) (fun _ => 0) cut0 (rest0 m)
    (fun c => V0 m c) (W1 m) (fun _ _ => rfl) (arrs0 m)

theorem reg0_pre (c : Dev nD) : iprop(StableHlo.held (c.tc : Thread nD τ) (Pipeline.ucRefs τ sig) (V0 m c)
      ∗ (∃ r, prngReg c r) ∗ Tk m c ∗ ∃ W, owes (c : Thread nD τ) (O₀ c) W) ⊢ (reg0 m).pre c := by
  show _ ⊢ iprop(StableHlo.held (c.tc : Thread nD τ) (Pipeline.arrRefs spec0) (V0 m c) ∗ emp ∗ rest0 m c ∗ ∃ W, owes (c : Thread nD τ) (O₀ c) W)
  rw [StableHlo.held_sub_split (c.tc : Thread nD τ) (Pipeline.arrRefs_sub_ucRefs spec0 (by decide)) (V0 m c)]
  unfold rest0
  iintro ⟨⟨H1, H2⟩, Hp, HT, HO⟩
  isplitl [H1]; · iexact H1
  isplitr; · iempintro
  isplitr [HO]
  · isplitl [H2]; · iexact H2
    isplitl [Hp] <;> iassumption
  iexact HO

theorem reg0_post (c : Dev nD) : (reg0 m).post c ⊢ iprop(StableHlo.held (c.tc : Thread nD τ) (Pipeline.ucRefs τ sig) (W1 m c)
      ∗ (∃ r, prngReg c r) ∗ Tk m c ∗ ∃ W, owes (c : Thread nD τ) (O₀ c) W) := by
  show iprop(StableHlo.held (c.tc : Thread nD τ) (Pipeline.arrRefs spec0) (W1 m c) ∗ emp ∗ rest0 m c ∗ ∃ W, owes (c : Thread nD τ) (O₀ c) W) ⊢ _
  rw [StableHlo.held_sub_split (c.tc : Thread nD τ) (Pipeline.arrRefs_sub_ucRefs spec0 (by decide)) (W1 m c)]
  unfold rest0
  rw [StableHlo.held_congr (c.tc : Thread nD τ) (S := Pipeline.ucRefs τ sig \ Pipeline.arrRefs spec0) (V := W1 m c) (V' := V0 m c)
    (fun b hb => W1_off m c b (Finset.mem_sdiff.mp hb).2)]
  iintro ⟨H1, -, ⟨H2, Hp, HT⟩, HO⟩
  isplitl [H1 H2]
  · isplitl [H1] <;> iassumption
  isplitl [Hp]; · iexact Hp
  isplitl [HT] <;> iassumption

/-- The unscoped buffers the exchange has no window on. -/
abbrev others : Finset (DevRef τ sig) := Pipeline.ucRefs τ sig \ Pipeline.arrRefs spec1

theorem held_none (c : Dev nD) (W : Valuation τ sig (Elt F)) : (StableHlo.held (c.tc : Thread nD τ) ∅ W : sProp 𝕄) = BI.emp := BI.bigSep_empty

theorem hin1 (c : Dev nD) : iprop(Pipeline.scopedRest (Pipeline.pin (pcfgs (F := F)) adm 1).spec c ∗ (∃ r, prngReg c r)
      ∗ StableHlo.held (c.tc : Thread nD τ) ∅ (W1 m c) ∗ Xk m c) ⊢ (pdats m 1 c).Φ 0 := by
  have e : iprop(Pipeline.scopedRest (Ix := Unit) (Name := ℕ) (U := UU) (Lvl := ℕ) (Val := Elt F) spec1 c ∗ (∃ r, prngReg c r)
      ∗ StableHlo.held (c.tc : Thread nD τ) ∅ (W1 m c) ∗ Xk m c) ⊢ (entered m c : sProp 𝕄) := by
    unfold entered
    iintro ⟨Hs, Hp, -, HX⟩
    ihave Hs := (scoped1_split c) $$ Hs
    icases Hs with ⟨Hi, HL⟩
    isplitl [HX]; · iexact HX
    isplitl [Hi]; · iexact Hi
    isplitl [HL] <;> iassumption
  exact e.trans (Entails.of_eq (phi1_first m c 0 rfl).symm)
theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (W2 m c) ∗ Pipeline.ownSems0 osem1 c ∗ Yk c) := by
  have e : (finished c : sProp 𝕄) ⊢ iprop(Pipeline.scopedRest (Ix := Unit) (Name := ℕ) (U := UU) (Lvl := ℕ) (Val := Elt F) spec1 c ∗ (∃ r, prngReg c r)
      ∗ StableHlo.held (c.tc : Thread nD τ) ∅ (W2 m c) ∗ Pipeline.ownSems0 osem1 c ∗ Yk c) := by
    rw [ownSems1_eq, held_none]
    unfold finished
    iintro ⟨HY, Hs, Hi, HL, Hp⟩
    isplitl [Hi HL]
    · iapply (scoped1_join c)
      isplitl [Hi] <;> iassumption
    isplitl [Hp]; · iexact Hp
    isplitr; · iempintro
    isplitl [Hs] <;> iassumption
  exact (Entails.of_eq (phi1_last m c (Fin.last _) (by rw [Fin.val_last, show cfg1.N = 1 from N_1]; decide))).trans e

theorem cut1 : Pipeline.LevelCutOwed (pcfgs (F := F)) adm (pdats m) () L lv 1 (fun _ => 0) where
  hι c w s := mem_L c _
  hιb c w s := lev_stage c _ () (lt_trans (stage_lt w s) (by decide))
  hD c t g i h := by
    have e : (pdats m 1 c).owed t = if t.val = 0 then O₀ c else 0 := rfl
    rw [e] at h
    split at h
    · exact O₀_lev h
    · exact absurd h (Nat.lt_irrefl 0)

set_option backward.isDefEq.respectTransparency.types false in
/-- The exchange's region. -/
def reg1 : ℝ𝕊 1 :=
  Pipeline.RegionSeg.ofTalk (pcfgs (F := F)) adm (pdats m) () defs₀ 𝒱₀ L lv 1 osem1 ownFacts1
    ∅ others (Finset.empty_subset _) kit1 rfl (fun c => (body1 m c).loose)
    (fun _ => 0) O₀ (fun c => (owed1_first m c 0 rfl).trans (zero_add _).symm)
    (fun c => owed1_last m c (Fin.last _) (by rw [Fin.val_last, show cfg1.N = 1 from N_1]; decide)) (fun _ => rfl) (share1 m)
    (W1 m) (W2 m)
    (fun c b hb => W2_off m c b (Finset.mem_sdiff.mp (Finset.mem_sdiff.mp hb).1).2)
    (Tk m) Yk (Xk m) Yk (hopen1 m) (hin1 m) (hout1 m)
    (fun c => by iintro H; imodintro; iexact H)
    (fun _ => 0) (cut1 m) (fun _ => iprop(emp)) (arrs1_in m) (arrs1 m)

theorem reg1_pre (c : Dev nD) : iprop(StableHlo.held (c.tc : Thread nD τ) (Pipeline.ucRefs τ sig) (W1 m c)
      ∗ (∃ r, prngReg c r) ∗ Tk m c ∗ ∃ W, owes (c : Thread nD τ) (O₀ c) W) ⊢ (reg1 m).pre c := by
  show _ ⊢ iprop(StableHlo.held (c.tc : Thread nD τ) (Pipeline.arrRefs spec1) (W1 m c) ∗ (∃ r, prngReg c r)
    ∗ (StableHlo.held (c.tc : Thread nD τ) others (W1 m c) ∗ emp) ∗ Tk m c ∗ ∃ W, owes (c : Thread nD τ) (0 + O₀ c) W)
  rw [StableHlo.held_sub_split (c.tc : Thread nD τ) (Pipeline.arrRefs_sub_ucRefs spec1 (by decide)) (W1 m c), zero_add]
  iintro ⟨⟨H1, H2⟩, Hp, HT, HO⟩
  isplitl [H1]; · iexact H1
  isplitl [Hp]; · iexact Hp
  isplitl [H2]
  · isplitl [H2]; · iexact H2
    iempintro
  isplitl [HT] <;> iassumption

theorem reg1_post (c : Dev nD) : (reg1 m).post c ⊢ iprop((StableHlo.held (c.tc : Thread nD τ) (Pipeline.ucRefs τ sig) (W2 m c) ∗ semVal (barC c) 0)
      ∗ ∃ W, owes (c : Thread nD τ) (0 : CellTallies nD τ sig Unit) W) := by
  show iprop(StableHlo.held (c.tc : Thread nD τ) (Pipeline.arrRefs spec1) (W2 m c) ∗ (∃ r, prngReg c r)
    ∗ (StableHlo.held (c.tc : Thread nD τ) others (W2 m c) ∗ emp) ∗ Yk c ∗ ∃ W, owes (c : Thread nD τ) (0 : CellTallies nD τ sig Unit) W) ⊢ _
  rw [StableHlo.held_sub_split (c.tc : Thread nD τ) (Pipeline.arrRefs_sub_ucRefs spec1 (by decide)) (W2 m c)]
  unfold Yk
  iintro ⟨H1, -, ⟨H2, -⟩, HY, HO⟩
  isplitr [HO]
  · isplitr [HY]
    · isplitl [H1] <;> iassumption
    iexact HY
  iexact HO

end Cert.KernelIdeal.Run

end
-- ==== Proof.Launch.lean ====
/-
  The launch: every cell of the exchange given its invariant, every token and credit dealt to the device that
  spends it; and the whole program's run.
-/
module

public import proofs.«01_k».proof.Proof.Regions
public import Idealize.ShloMosaic.Lib.Quiescent

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.AR
open Idealize.ShloMosaic.Pipeline (Dat)

variable {F : FTy → Type} [FloatOps F]

local notation "𝕄" => MT nD τ sig Unit (Elt F) ℕ UU ℕ

/-! ## Cells and tokens told apart -/

/-- A cell's device and its semaphore's number. -/
def key (g : GSem nD τ sig) : Dev nD × ℕ := (g.1.1, match g.2 with | .reg _ => 0 | .dma q => q.val)
theorem key_bar (c : Dev nD) : key (barC c) = (c, 0) := rfl
theorem key_send (c : Dev nD) (s : Fin 42) : key (sendC c s) = (c, 9 + s.val) := rfl
theorem key_recv (c : Dev nD) (s : Fin 42) : key (recvC c s) = (c, 51 + s.val) := rfl

abbrev X42 : Type := Dev nD × Fin 42

def scCell : X42 ⊕ X42 → GSem nD τ sig
  | .inl x => sendC x.1 x.2
  | .inr x => recvC x.1 x.2
theorem scCell_inj : Function.Injective scCell := by
  intro a b h
  have hk := congrArg key h
  rcases a with ⟨c, s⟩ | ⟨c, s⟩ <;> rcases b with ⟨d, t⟩ | ⟨d, t⟩ <;> simp only [scCell, key_send, key_recv, Prod.mk.injEq] at hk
  · rw [hk.1, Fin.ext (Nat.add_left_cancel hk.2)]
  · have := s.isLt; omega
  · have := t.isLt; omega
  · rw [hk.1, Fin.ext (Nat.add_left_cancel hk.2)]
def scEmb : X42 ⊕ X42 ↪ GSem nD τ sig := ⟨scCell, scCell_inj⟩
def barEmb : Dev nD ↪ GSem nD τ sig := ⟨fun c => barC c, fun _ _ h => congrArg (fun g : GSem nD τ sig => g.1.1) h⟩

abbrev barCells : Finset (GSem nD τ sig) := Finset.univ.map barEmb
abbrev scCells : Finset (GSem nD τ sig) := Finset.univ.map scEmb

theorem cells_apart : Disjoint (barCells : Finset (GSem nD τ sig)) scCells := by
  rw [Finset.disjoint_left]
  rintro g h1 h2
  obtain ⟨c, -, rfl⟩ := Finset.mem_map.mp h1
  obtain ⟨x, -, h⟩ := Finset.mem_map.mp h2
  have hk := congrArg key (show scCell x = barC c from h)
  rcases x with ⟨d, s⟩ | ⟨d, s⟩ <;> simp only [scCell, key_send, key_recv, key_bar, Prod.mk.injEq] at hk <;> omega

abbrev TokIx : Type := (Dev nD × Fin 3) ⊕ (X42 ⊕ X42)
def tok : TokIx → GSem nD τ sig × ℕ × Fin 3
  | .inl x => (barC x.1, 0, x.2)
  | .inr (.inl x) => (sendC x.1 x.2, 0, 0)
  | .inr (.inr x) => (recvC x.1 x.2, 0, 0)
theorem tok_inj : Function.Injective tok := by
  intro a b h
  have h1 := congrArg (fun t : GSem nD τ sig × ℕ × Fin 3 => key t.1) h
  have h2 := congrArg (fun t : GSem nD τ sig × ℕ × Fin 3 => t.2.2) h
  rcases a with ⟨c, s⟩ | ⟨c, s⟩ | ⟨c, s⟩ <;> rcases b with ⟨d, t⟩ | ⟨d, t⟩ | ⟨d, t⟩ <;>
    simp only [tok, key_send, key_recv, key_bar, Prod.mk.injEq] at h1 h2
  · rw [h1.1, h2]
  · omega
  · omega
  · omega
  · rw [h1.1, Fin.ext (Nat.add_left_cancel h1.2)]
  · have := s.isLt; omega
  · omega
  · have := t.isLt; omega
  · rw [h1.1, Fin.ext (Nat.add_left_cancel h1.2)]
def toks : Finset (GSem nD τ sig × ℕ × Fin 3) := Finset.univ.map ⟨tok, tok_inj⟩

/-! ## The dealing -/

/-- A barrier token goes across its edge, a receive token to the transfer's sender. -/
def barSwap : Dev nD × Fin 3 ≃ Dev nD × Fin 3 :=
  ⟨fun x => (nb x.2 x.1, x.2), fun x => (nb x.2 x.1, x.2), fun x => Prod.ext (nb_nb x.2 x.1) rfl, fun x => Prod.ext (nb_nb x.2 x.1) rfl⟩
def recvSwap : X42 ≃ X42 :=
  ⟨fun x => (pr x.2 x.1, x.2), fun x => (pr x.2 x.1, x.2), fun x => Prod.ext (pr_pr x.2 x.1) rfl, fun x => Prod.ext (pr_pr x.2 x.1) rfl⟩

/-- The tokens device `c` spends. -/
def spends (c : Dev nD) : sProp 𝕄 :=
  iprop((bigSep Finset.univ fun x : Fin 3 => dutyTok ER (barC (nb x c)) 0 x)
    ∗ (bigSep Finset.univ fun s : Fin 42 => dutyTok ER (sendC c s) 0 0) ∗ bigSep Finset.univ fun s : Fin 42 => dutyTok ER (recvC (pr s c) s) 0 0)

theorem toks_dealt : (bigSep toks fun x => (dutyTok ER x.1 x.2.1 x.2.2 : sProp 𝕄)) = bigSep Finset.univ fun c : Dev nD => spends c := by
  unfold toks spends
  rw [bigSep_map, bigSep_univ_sum, bigSep_univ_sum, bigSep_sep', bigSep_sep']
  have h1 : (bigSep Finset.univ fun a : Dev nD × Fin 3 => (dutyTok ER (barC a.1) 0 a.2 : sProp 𝕄))
      = bigSep Finset.univ fun c : Dev nD => bigSep Finset.univ fun x : Fin 3 => dutyTok ER (barC (nb x c)) 0 x := by
    rw [bigSep_univ_equiv barSwap, bigSep_univ_prod]; rfl
  have h2 : (bigSep Finset.univ fun a : X42 => (dutyTok ER (sendC a.1 a.2) 0 0 : sProp 𝕄))
      = bigSep Finset.univ fun c : Dev nD => bigSep Finset.univ fun s : Fin 42 => dutyTok ER (sendC c s) 0 0 := by
    rw [bigSep_univ_prod]
  have h3 : (bigSep Finset.univ fun a : X42 => (dutyTok ER (recvC a.1 a.2) 0 0 : sProp 𝕄))
      = bigSep Finset.univ fun c : Dev nD => bigSep Finset.univ fun s : Fin 42 => dutyTok ER (recvC (pr s c) s) 0 0 := by
    rw [bigSep_univ_equiv recvSwap, bigSep_univ_prod]; rfl
  rw [← h1, ← h2, ← h3]; rfl

/-- The rights to open device `c`'s cells. -/
def opens (c : Dev nD) : sProp 𝕄 := bigSep Finset.univ fun s : Fin 42 => iprop(openTok ER (sendC c s) ∗ openTok ER (recvC c s))

theorem opens_dealt : (bigSep scCells fun g => (openTok ER g : sProp 𝕄)) = bigSep Finset.univ fun c : Dev nD => opens c := by
  unfold opens
  rw [bigSep_map, bigSep_univ_sum]
  have h1 : (bigSep Finset.univ fun a : X42 => (openTok ER (sendC a.1 a.2) : sProp 𝕄))
      = bigSep Finset.univ fun c : Dev nD => bigSep Finset.univ fun s : Fin 42 => openTok ER (sendC c s) := by rw [bigSep_univ_prod]
  have h2 : (bigSep Finset.univ fun a : X42 => (openTok ER (recvC a.1 a.2) : sProp 𝕄))
      = bigSep Finset.univ fun c : Dev nD => bigSep Finset.univ fun s : Fin 42 => openTok ER (recvC c s) := by rw [bigSep_univ_prod]
  have h3 : (bigSep Finset.univ fun c : Dev nD => bigSep Finset.univ fun s : Fin 42 => (iprop(openTok ER (sendC c s) ∗ openTok ER (recvC c s)) : sProp 𝕄))
      = iprop((bigSep Finset.univ fun c : Dev nD => bigSep Finset.univ fun s : Fin 42 => openTok ER (sendC c s))
        ∗ bigSep Finset.univ fun c : Dev nD => bigSep Finset.univ fun s : Fin 42 => openTok ER (recvC c s)) := by
    rw [← bigSep_sep']
    exact bigSep_congr fun c _ => bigSep_sep' _ _ _
  rw [h3, ← h1, ← h2]; rfl

theorem inv_intro (P : Dev nD → Big F) (κ : GSem nD τ sig → ℕ) :
    iprop((bigSep (barCells ∪ scCells) fun g => cellInv ER (arRd P) (κ g) g) ∗ levAts L lv) ⊢ (AR.Inv P κ : sProp 𝕄) := by
  unfold AR.Inv
  have e : (bigSep (barCells ∪ scCells) fun g => (cellInv ER (arRd P) (κ g) g : sProp 𝕄))
      = iprop((bigSep Finset.univ fun c : Dev nD => cellInv ER (arRd P) (κ (barEmb c)) (barEmb c))
        ∗ (bigSep Finset.univ fun a : X42 => cellInv ER (arRd P) (κ (scEmb (Sum.inl a))) (scEmb (Sum.inl a)))
        ∗ bigSep Finset.univ fun a : X42 => cellInv ER (arRd P) (κ (scEmb (Sum.inr a))) (scEmb (Sum.inr a))) := by
    rw [bigSep_union cells_apart, bigSep_map, bigSep_map, bigSep_univ_sum]; rfl
  rw [e]
  iintro ⟨⟨H1, H2, H3⟩, HL⟩
  isplitl [H1]; · iexact H1
  isplitl [H2]; · iexact H2
  isplitl [H3]; · iexact H3
  iexact HL

/-! ## The credits -/

theorem at_one (g g' : GSem nD τ sig) (n : ℕ) : (tallyAt g () n : CellTallies nD τ sig Unit) g' () = if g' = g then n else 0 := by
  rw [tallyAt_apply]
  by_cases h : g' = g
  · rw [if_pos ⟨h, rfl⟩, if_pos h]
  · rw [if_neg fun hh => h hh.1, if_neg h]

theorem bar_eq (c d : Dev nD) : barC c = barC d ↔ c = d :=
  ⟨fun h => congrArg (fun g : GSem nD τ sig => g.1.1) h, fun h => by rw [h]⟩
theorem recv_eq (c d : Dev nD) (s t : Fin 42) : recvC c s = recvC d t ↔ c = d ∧ s = t := by
  constructor
  · intro h
    have hk := congrArg key h
    rw [key_recv, key_recv, Prod.mk.injEq] at hk
    exact ⟨hk.1, Fin.ext (Nat.add_left_cancel hk.2)⟩
  · rintro ⟨rfl, rfl⟩; rfl
theorem bar_recv (c d : Dev nD) (s : Fin 42) : barC c ≠ recvC d s := by
  intro h
  have hk := congrArg key h
  rw [key_recv, key_bar, Prod.mk.injEq] at hk
  omega

theorem owed_parts (d : Dev nD) (g : GSem nD τ sig) : O₀ d g ()
    = (((∑ s : Fin 42, if g = recvC (pr s d) s then amt (kOf s) else 0) + if g = barC (nb 2 d) then 1 else 0) + if g = barC (nb 1 d) then 1 else 0)
      + if g = barC (nb 0 d) then 1 else 0 := by
  unfold O₀ owedFrom
  simp only [Pi.add_apply, Finsupp.add_apply, at_one, Finset.sum_apply, Finsupp.finset_sum_apply]
  rw [Finset.filter_true_of_mem fun s _ => Nat.zero_le _]

theorem owed_bar (c : Dev nD) : ∑ d : Dev nD, O₀ d (barC c) () = 3 := by
  have one (x : Fin 3) : (∑ d : Dev nD, if barC c = barC (nb x d) then 1 else 0) = 1 := by
    rw [Finset.sum_eq_single (nb x c)]
    · rw [nb_nb, if_pos rfl]
    · intro d _ h
      rw [if_neg fun e => h (by rw [(bar_eq _ _).mp e, nb_nb])]
    · intro h; exact absurd (Finset.mem_univ _) h
  simp only [owed_parts, Finset.sum_add_distrib, one]
  simp only [bar_recv, if_false, Finset.sum_const_zero]

theorem owed_recv (c : Dev nD) (s : Fin 42) : ∑ d : Dev nD, O₀ d (recvC c s) () = amt (kOf s) := by
  have none (x : Fin 3) : (∑ d : Dev nD, if recvC c s = barC (nb x d) then 1 else 0) = 0 :=
    Finset.sum_eq_zero fun d _ => if_neg (bar_recv _ _ _).symm
  simp only [owed_parts, Finset.sum_add_distrib, none, Nat.add_zero]
  rw [Finset.sum_eq_single (pr s c)]
  · rw [Finset.sum_eq_single s]
    · rw [pr_pr, if_pos rfl]
    · intro t _ h
      exact if_neg fun e => h ((recv_eq _ _ _ _).mp e).2.symm
    · intro h; exact absurd (Finset.mem_univ _) h
  · intro d _ h
    refine Finset.sum_eq_zero fun t _ => if_neg fun e => h ?_
    obtain ⟨h1, rfl⟩ := (recv_eq _ _ _ _).mp e
    rw [h1, pr_pr]
  · intro h; exact absurd (Finset.mem_univ _) h

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, h, Finsupp.single_eq_same]

def recvEmb : Fin 42 ↪ SemLoc sig := ⟨fun s => .dma (recvS s), fun s t h => by
  have := congrArg (fun q : DmaSem sig => q.val) (SemLoc.dma.inj h)
  exact Fin.ext (Nat.add_left_cancel (show 51 + s.val = 51 + t.val from this))⟩

theorem creds (c : Dev nD) :
    (Pipeline.launchCred O₀ c : sProp 𝕄) ⊢ iprop(cred (tallyAt (barC c) () 3) ∗ bigSep Finset.univ fun s : Fin 42 => crd (recvC c s) s) := by
  unfold Pipeline.launchCred
  rw [bigSep_univ_at _ (SemLoc.reg barS), launch_at (barC c) 3 (owed_bar c)]
  refine sep_mono_right ?_
  have hsub : Finset.univ.map recvEmb ⊆ Finset.univ.erase (SemLoc.reg barS : SemLoc sig) := by
    intro x hx
    obtain ⟨s, -, rfl⟩ := Finset.mem_map.mp hx
    exact Finset.mem_erase.mpr ⟨fun h => (by cases h), Finset.mem_univ _⟩
  refine (BI.bigSep_subset hsub).trans (BI.equiv_iff.mpr ?_).1
  rw [bigSep_map]
  refine bigSep_congr fun s _ => ?_
  unfold crd
  rw [← launch_at (recvC c s) _ (owed_recv c s)]; rfl

/-! ## The first state -/

variable (m : (ℓ : Loc nD τ sig) → Buf (Elt F) ℓ) (ρ : Dev nD → PrngReg)

/-- The launch element: the pipelines' at their staging cells, the exchange's at its cells and tokens. -/
def u₀ : UU :=
  (initOf (Pipeline.cells (Pipeline.pin (pcfgs (F := F)) adm) cellOf_inj) (Pipeline.launchToks (Pipeline.pin (pcfgs (F := F)) adm) cellOf_inj),
    launchOf barCells scCells toks)

/-- The exchange's part of it, kept at device 0 until it is dealt. -/
def G (c : Dev nD) : sProp 𝕄 := if c = 0 then BI.own (ER (launchOf barCells scCells toks)) else iprop(emp)
theorem bigSep_G : (bigSep Finset.univ G : sProp 𝕄) = BI.own (ER (launchOf barCells scCells toks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What every device may consult. -/
def records (κ : GSem nD τ sig → ℕ) : sProp 𝕄 :=
  iprop(AR.Inv (outOf m) κ ∗ bigSep Finset.univ fun c : Dev nD => reached ER (barC c) 0)
instance records_persistent (κ : GSem nD τ sig → ℕ) : BI.Persistent (records m κ) := by unfold records; infer_instance

/-- What a device's core is launched with besides the exchange's ghost state. -/
def bundle (c : Dev nD) : sProp 𝕄 :=
  iprop(StableHlo.held (c.tc : Thread nD τ) (Pipeline.ucRefs τ sig) (V0 m c)
    ∗ (cred (tallyAt (barC c) () 3) ∗ bigSep Finset.univ fun s : Fin 42 => crd (recvC c s) s)
    ∗ owes (c : Thread nD τ) (O₀ c) ∅ ∗ ∃ r, prngReg c r)
/-- And what of that it alone holds. -/
def linear (c : Dev nD) : sProp 𝕄 := iprop(atPos ER (barC c) 0 ∅ 0 ∗ opens c ∗ spends c)

def T₀ (c : Dev nD) : sProp 𝕄 :=
  iprop(StableHlo.held (c.tc : Thread nD τ) (Pipeline.ucRefs τ sig) (V0 m c) ∗ (∃ r, prngReg c r) ∗ Tk m c ∗ ∃ W, owes (c : Thread nD τ) (O₀ c) W)
def Tₙ (c : Dev nD) : sProp 𝕄 :=
  iprop(StableHlo.held (c.tc : Thread nD τ) (Pipeline.ucRefs τ sig) (W2 m c) ∗ semVal (barC c) 0)

theorem kept_intro (c : Dev nD) :
    iprop(opens c ∗ (bigSep Finset.univ fun s : Fin 42 => dutyTok ER (sendC c s) 0 0) ∗ (bigSep Finset.univ fun s : Fin 42 => dutyTok ER (recvC (pr s c) s) 0 0)
      ∗ bigSep Finset.univ fun s : Fin 42 => crd (recvC c s) s) ⊢ (bigSep Finset.univ fun s => kept c s : sProp 𝕄) := by
  unfold opens
  refine (sep_mono_right ((sep_mono_right (both _ _)).trans (both _ _))).trans (both _ _)

theorem T₀_intro (κ : GSem nD τ sig → ℕ) (c : Dev nD) : iprop(records m κ ∗ (linear c ∗ bundle m c)) ⊢ T₀ m c := by
  have hr (x : Fin 3) : (bigSep Finset.univ fun c : Dev nD => (reached ER (barC c) 0 : sProp 𝕄)) ⊢ reached ER (barC (nb x c)) 0 :=
    bigSep_elim (Finset.mem_univ (nb x c))
  unfold records linear bundle T₀ Tk barHold spends
  rw [fin3]
  iintro ⟨⟨#HI, #HR⟩, ⟨Hat, Ho, ⟨Ht, Hs, Hv⟩⟩, Hh, ⟨Hc, Hd⟩, HO, Hp⟩
  isplitl [Hh]; · iexact Hh
  isplitl [Hp]; · iexact Hp
  isplitr [HO]
  · iexists κ
    isplitr; · iexact HI
    isplitl [Ht Hat Hc]
    · isplitl [Ht]; · iexact Ht
      isplitr
      · isplitr; · iapply (hr 0); iexact HR
        isplitr; · iapply (hr 1); iexact HR
        iapply (hr 2); iexact HR
      isplitl [Hat] <;> iassumption
    iapply (kept_intro c)
    isplitl [Ho]; · iexact Ho
    isplitl [Hs]; · iexact Hs
    isplitl [Hv] <;> iassumption
  iexists ∅; iexact HO

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What each core is handed, sorted. -/
theorem core_sorted (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
  rw [show unscopedBufs c (fun b => m ((c : Thread nD τ).loc b)) = StableHlo.held (c.tc : Thread nD τ) (Pipeline.ucRefs τ sig) (V0 m c) from
    Pipeline.unscopedBufs_held c (V0 m c), unscopedSems_eq]
  unfold bundle
  iintro ⟨Hh, Hus, HO, Hcr, Hp, HG⟩
  ihave Hc := (creds c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hsort : (bigSep Finset.univ fun c : Dev nD => (iprop(unscopedBufs c (fun b => m ((c : Thread nD τ).loc b)) ∗ unscopedSems0 c
          ∗ owes (c : Thread nD τ) (O₀ c) ∅ ∗ Pipeline.launchCred O₀ c ∗ prngReg c (ρ c) ∗ G c) : sProp 𝕄))
      ⊢ iprop(bigSep Finset.univ (bundle m) ∗ (bigSep Finset.univ fun c : Dev nD => semVal (barC c) 0) ∗ bigSep Finset.univ G) := (bigSep_mono (s := Finset.univ) fun (c : Dev nD) _ => core_sorted m ρ c).trans ((apart (F := F) _ _).trans (sep_mono_right (apart (F := F) _ _)))
  iintro ⟨H, #HL⟩
  ihave H := hsort $$ H
  icases H with ⟨HB, Hv, HG⟩
  ihave HG := (Entails.of_eq (bigSep_G (F := F))) $$ HG
  imod (Rounds.fund_launch ER (arRd (outOf m)) cells_apart (fun g _ h => h) toks) $$ [Hv HG] with ⟨%κ, -, #Hinv, #Hr, Hat, Hopen, Htok⟩
  · isplitl [Hv]
    · iapply hv; iexact Hv
    · iexact HG
  imodintro
  iapply (bigSep_with_persistent (R := records m κ) (Φ := fun c => iprop(linear c ∗ bundle m c)) fun c _ => T₀_intro m κ c)
  isplitr
  · unfold records
    isplitr
    · iapply (inv_intro (outOf m) κ)
      isplitr; · iexact Hinv
      iexact HL
    iapply hre; iexact Hr
  iapply (both (F := F) _ _)
  isplitr [HB]; swap; · iexact HB
  unfold linear
  iapply (both (F := F) _ _)
  isplitl [Hat]; · iapply hat; iexact Hat
  iapply (both (F := F) _ _)
  isplitl [Hopen]; · iapply (Entails.of_eq (opens_dealt (F := F))); iexact Hopen
  iapply (Entails.of_eq (toks_dealt (F := F))); iexact Htok

/-! ## The run -/

theorem unscoped_eq : ∀ sm : SemLoc sig, sm.isScoped .tc = false → sm = .reg barS := by decide

theorem uc_mem (b : Ref sig .tc) (h : b.isScoped = false) : (Proc.devRef .tc b : DevRef τ sig) ∈ Pipeline.ucRefs τ sig :=
  Finset.mem_filter.mpr ⟨StableHlo.devRef_mem_tcRefs b, fun h' => Bool.false_ne_true (h.symm.trans h')⟩

theorem W2_arg (c : Dev nD) (b : Ref sig .tc) (h1 : b ≠ main_v1) (h2 : b ≠ main_v2) : W2 m c (Proc.devRef .tc b) = m ((c : Thread nD τ).loc b) :=
  (W2_of m c b h2).trans (W1_of m c b h1)

/-- What a final state shows of device `c`. -/
def Shows (c : Dev nD) (s : MemSt nD τ sig (Elt F)) : Prop :=
  (∀ b ∈ Pipeline.ucRefs τ sig, s.mem ((c : Thread nD τ).1, b) = W2 m c b) ∧ s.sem (barC c) = 0

set_option backward.isDefEq.respectTransparency.types false in
/-- Every run of the program ends with the sum of the devices' operands on every device, the arguments as they were and every
    semaphore at zero. -/
theorem run_main : θ_run defs (onTc (τ := τ) (main (F := F))) ⟨m, fun _ => 0, ρ⟩ (fun r =>
    (∀ c : Dev nD, r.2.mem ((c : Thread nD τ).loc main_v2) = fin (outOf m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  Pipeline.θ_run_regions_kit_sems (pcfgs (F := F)) adm (pdats m) () cellOf_inj EP defs₀ 𝒱₀ L lv m ρ main
    [.region (reg0 m), .region (reg1 m)]
    (fun c Q => by rw [Gen.main_segs adm (pdats m) () 𝒱₀ L lv (reg0 m) (reg1 m) c])
    (by simp only [Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => reg0_pre m c, fun c => (reg0_post m c).trans (reg1_pre m c), fun c => reg1_post m c⟩)
    (hinit := init m ρ)
    (QY := Shows m)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => ⟨((h c).1 _ (uc_mem main_v2 (by decide))).trans (W2_v2 m c),
        ((h c).1 _ (uc_mem main_arg0 (by decide))).trans (W2_arg m c main_arg0 (by decide) (by decide)),
        ((h c).1 _ (uc_mem main_arg1 (by decide))).trans (W2_arg m c main_arg1 (by decide) (by decide)),
        ((h c).1 _ (uc_mem main_arg2 (by decide))).trans (W2_arg m c main_arg2 (by decide) (by decide)),
        ((h c).1 _ (uc_mem main_arg3 (by decide))).trans (W2_arg m c main_arg3 (by decide) (by decide)),
        ((h c).1 _ (uc_mem main_arg4 (by decide))).trans (W2_arg m c main_arg4 (by decide) (by decide))⟩,
      sem_eq_zero hs fun c sm hsm => by
        obtain rfl := unscoped_eq sm hsm
        exact (h c).2⟩)

end Cert.KernelIdeal.Run

end
-- ==== Proof.Frames.lean ====
/-
  The frames of the three programs: each ends with its arguments as they were and every semaphore at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem

attribute [local instance] Cert.Kernel.Gen.facts Cert.KernelIdeal.Gen.facts

/-! The two printed programs have the same text. -/

theorem same_defs₀ {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | 1, (t, s) => rfl

theorem same_defs {F : FTy → Type} [FloatOps F] : Cert.Kernel.defs (F := F) = Cert.KernelIdeal.defs (F := F) :=
  congrArg (Pipeline.defs Cert.KernelIdeal.pcfgs) same_defs₀

theorem frame_kernel : Cert.quiescent_Kernel (hKernel := Cert.Kernel.Gen.facts) := fun m ρ _ => by
  rw [same_defs]
  exact (θ_run Cert.KernelIdeal.defs _ _).mono (fun _ h => ⟨fun c => (h.1 c).2, h.2⟩) (Cert.KernelIdeal.Run.run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Run.run_main (F := Ideal) m ρ)

theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.Proof

end
-- ==== Proof.ExchangeSum.lean ====
/-
  Over the extended reals the exchange leaves the sum of the devices' operands.
-/
module

public import proofs.«01_k».proof.Proof.Schedule
public import Idealize.ShloMosaic.PureOps.Ideal

@[expose] public section

noncomputable section

namespace Cert.KernelIdeal.AR

open Idealize.ShloMosaic Idealize.SL.Sem

/-- Three rounds over three different edges reach each corner of the cube once. -/
theorem corners (k : Fin 3) (c : Dev nD) (f : Dev nD → EReal) :
    ((f c + f (par (mask k 0) c)) + (f (par (mask k 1) c) + f (par (mask k 0) (par (mask k 1) c))))
      + ((f (par (mask k 2) c) + f (par (mask k 0) (par (mask k 2) c)))
        + (f (par (mask k 1) (par (mask k 2) c)) + f (par (mask k 0) (par (mask k 1) (par (mask k 2) c)))))
      = ∑ d, f d := by
  have e : ∀ k : Fin 3, ∀ c : Dev nD, ([c, par (mask k 0) c, par (mask k 1) c, par (mask k 0) (par (mask k 1) c), par (mask k 2) c,
      par (mask k 0) (par (mask k 2) c), par (mask k 1) (par (mask k 2) c), par (mask k 0) (par (mask k 1) (par (mask k 2) c))] : List (Dev nD)).Perm
      (List.finRange 8) := by decide +kernel
  have h := ((e k c).map f).sum_eq
  refine Eq.trans ?_ (h.trans (Fin.sum_univ_def (n := 8) f).symm)
  simp only [List.map_cons, List.map_nil, List.sum_cons, List.sum_nil, add_zero, add_assoc]

theorem fin_sum (P : Dev nD → Big Ideal) (i : S2048x1024.Idx) : (fin P i : EReal) = ∑ d, (P d i : EReal) :=
  corners (partOf (i 0)) (dev (blkOf (i 0))) (fun d => P d i)

end Cert.KernelIdeal.AR

end
-- ==== Proof.PartialSum.lean ====
/-
  Over the extended reals, index by index, what a device puts into the exchange: the shared product in its own
  rows, and the chosen experts' products among its eight, each times the gate.
-/
module

public import proofs.«01_k».proof.Proof.Contents
public import Idealize.ShloMosaic.Lib.Pointwise

@[expose] public section

set_option maxRecDepth 16384

noncomputable section

namespace Cert.KernelIdeal.AR

open Idealize.ShloMosaic Idealize.ShloMosaic.TcCoe Idealize.SL.Sem
open Cert.KernelIdeal Cert.KernelIdeal.Gen

/-! ## The terms -/

/-- Token `t`'s score for expert `g`. -/
def score (x : Vec Ideal S2048x1024 .f32) (rw' : Vec Ideal S1024x64 .f32) (t : Fin 2048) (g : Fin 64) : EReal :=
  ∑ k : Fin 1024, x (ix2 t k) * rw' (ix2 k g)
/-- The exponential of a score less the greatest. -/
def expo (x : Vec Ideal S2048x1024 .f32) (rw' : Vec Ideal S1024x64 .f32) (t : Fin 2048) (g : Fin 64) : EReal :=
  Ideal.exp (score x rw' t g - Finset.fold max (Ideal.ofBits FTy.f32 0xFF800000#32) (fun g' => score x rw' t g') Finset.univ)
/-- The probability of expert `g`. -/
def prob (x : Vec Ideal S2048x1024 .f32) (rw' : Vec Ideal S1024x64 .f32) (t : Fin 2048) (g : Fin 64) : EReal :=
  Ideal.div (expo x rw' t g) (∑ g' : Fin 64, expo x rw' t g')
/-- The shared product. -/
def common (x : Vec Ideal S2048x1024 .f32) (sw : Vec Ideal S1024x1024 .f32) (t : Fin 2048) (h : Fin 1024) : EReal :=
  ∑ k : Fin 1024, x (ix2 t k) * sw (ix2 k h)
/-- Expert `g`'s product. -/
def product (x : Vec Ideal S2048x1024 .f32) {n : ℕ} (W : Vec Ideal ⟨3, ![n, 1024, 1024]⟩ .f32) (t : Fin 2048) (g : Fin n) (h : Fin 1024) : EReal :=
  ∑ k : Fin 1024, x (ix2 t k) * W (ix3 g k h)

theorem select_eq (a b : BitVec 32) (v : EReal) :
    Scalar.select (IntOp.cmpi CmpIPredicate.eq a b) v (0 : EReal) = if a = b then v else 0 := by
  by_cases h : a = b
  · subst h
    rw [if_pos rfl]
    show (if IntOp.cmpi CmpIPredicate.eq a a = 1#1 then v else 0) = v
    rw [if_pos (by simp [IntOp.cmpi])]
  · rw [if_neg h]
    show (if IntOp.cmpi CmpIPredicate.eq a b = 1#1 then v else 0) = 0
    have hb : (a == b) = false := beq_eq_false_iff_ne.mpr h
    rw [if_neg (by simp [IntOp.cmpi, hb])]

/-! ## The stored values at an index -/

theorem gate_apply (x : Vec Ideal S2048x1024 .f32) (rw' : Vec Ideal S1024x64 .f32) (ix : Vec Ideal S2048x1 .i32) (t : Fin 2048) :
    (k0_pay4 (F := Ideal) x rw' ix (ix2 t (0 : Fin 1)) : EReal)
      = ∑ g : Fin 64, if BitVec.ofNat 32 g.val = ix (ix2 t (0 : Fin 1)) then prob x rw' t g else 0 := by
  pointwise [k0_pay4]
  exact Finset.sum_congr rfl fun g _ => select_eq _ _ _

theorem cast_apply (x : Vec Ideal S2048x1024 .f32) (t : Fin 2048) (k : Fin 1024) :
    (k0_pay5 (F := Ideal) x (ix2 t k) : EReal) = x (ix2 t k) := by
  pointwise [k0_pay5]

theorem step_apply (i : grid0.Coords) (d : Dev nD) (ix : Vec Ideal S2048x1 .i32) (g : Vec Ideal S2048x1 .f32) (x : Vec Ideal S2048x1024 .bf16)
    (w : Vec Ideal S1x1024x1024 .f32) (s : Vec Ideal S2048x1024 .f32) (t : Fin 2048) (h : Fin 1024) :
    (k0_pay2 (F := Ideal) i d ix g x w s (ix2 t h) : EReal)
      = (s (ix2 t h) : EReal) + if ix (ix2 t (0 : Fin 1))
            = Scalar.addi (Scalar.muli (Scalar.remsi (Scalar.divsi d.word 1#32) 8#32) 8#32) (BitVec.ofNat 32 (i 0).val)
          then (g (ix2 t (0 : Fin 1)) : EReal) * ∑ k : Fin 1024, x (ix2 t k) * w (ix3 (0 : Fin 1) k h) else 0 := by
  pointwise [k0_pay2]
  exact congrArg (s (ix2 t h) + ·) (select_eq _ _ _)

theorem shared_apply (x : Vec Ideal S256x1024 .bf16) (w : Vec Ideal S1024x1024 .f32) (t : Fin 256) (h : Fin 1024) :
    (k0_pay1 (F := Ideal) x w (ix2 t h) : EReal) = ∑ k : Fin 1024, x (ix2 t k) * w (ix2 k h) := by
  pointwise [k0_pay1]

theorem zero_apply (i : S2048x1024.Idx) : (k0_pay6 (F := Ideal) i : EReal) = 0 := by
  idx_vars i
  pointwise [k0_pay6]

/-! ## The start of the sum -/

theorem own_off (d : Dev nD) : k0_off1 d = ![256 * d.val, 0] := by revert d; decide +kernel

theorem start_apply (d : Dev nD) (x : Vec Ideal S2048x1024 .f32) (sw : Vec Ideal S1024x1024 .f32) (t : Fin 2048) (h : Fin 1024) :
    (sumStart d x sw (ix2 t h) : EReal) = if t.val / 256 = d.val then common x sw t h else 0 := by
  unfold sumStart
  have o0 : k0_off1 d 0 = 256 * d.val := by rw [own_off]; rfl
  have o1 : k0_off1 d 1 = 0 := by rw [own_off]; rfl
  by_cases ht : t.val / 256 = d.val
  · have hr : t.val - 256 * d.val < 256 := by omega
    have e : (ix2 t h : S2048x1024.Idx) = (ownRows d).emb (ix2 (⟨t.val - 256 * d.val, hr⟩ : Fin 256) h) := by
      funext a; apply Fin.ext
      fin_cases a
      · show t.val = k0_off1 d 0 + 1 * (t.val - 256 * d.val)
        omega
      · show h.val = k0_off1 d 1 + 1 * h.val
        omega
    rw [if_pos ht, e, Rect.overlay_emb, shared_apply]
    unfold common
    refine Finset.sum_congr rfl fun k _ => congrArg (· * sw (ix2 k h)) ?_
    have e' : (ownRows d).emb (ix2 (⟨t.val - 256 * d.val, hr⟩ : Fin 256) k) = (ix2 t k : S2048x1024.Idx) := by
      funext a; apply Fin.ext
      fin_cases a
      · show k0_off1 d 0 + 1 * (t.val - 256 * d.val) = t.val
        omega
      · show k0_off1 d 1 + 1 * k.val = k.val
        omega
    rw [e']
    exact cast_apply x t k
  · rw [if_neg ht, Rect.overlay_of_not_mem, zero_apply]
    rw [Rect.mem_set_unit]
    intro hm
    have h0 : k0_off1 d 0 ≤ t.val ∧ t.val < k0_off1 d 0 + 256 := hm 0
    omega

/-! ## The sum after the eight experts -/

theorem word_at : ∀ (d : Dev nD) (e : Fin 8),
    Scalar.addi (Scalar.muli (Scalar.remsi (Scalar.divsi d.word 1#32) 8#32) 8#32) (BitVec.ofNat 32 ((grid0.coords (ptOf e.val)) 0).val)
      = BitVec.ofNat 32 (8 * d.val + e.val) := by decide +kernel

variable (m : (ℓ : Loc nD τ sig) → Buf (Elt Ideal) ℓ)

theorem index_at : ∀ e : Fin 8, (win0_3.index (ptOf e.val)) 0 = e.val := by decide +kernel

theorem ewAt_apply (c : Dev nD) (e : Fin 8) (k h : Fin 1024) :
    ewAt m c (ptOf e.val) (ix3 (0 : Fin 1) k h) = V0 m c main_arg3 (ix3 e k h) := by
  unfold ewAt
  refine congrArg (V0 m c main_arg3) (funext fun a => Fin.ext ?_)
  fin_cases a
  · show win0_3.index (ptOf e.val) 0 * 1 + 1 * 0 = e.val
    rw [index_at, Nat.mul_one]; rfl
  · exact (Nat.zero_add _).trans (Nat.one_mul _)
  · exact (Nat.zero_add _).trans (Nat.one_mul _)

/-- One expert's term on device `d`. -/
def term (d : Dev nD) (t : Fin 2048) (h : Fin 1024) (e : Fin 8) : EReal :=
  if ixArr m d (ix2 t (0 : Fin 1)) = BitVec.ofNat 32 (8 * d.val + e.val)
    then (∑ g : Fin 64, if BitVec.ofNat 32 g.val = ixArr m d (ix2 t (0 : Fin 1)) then prob (xArr m d) (rwArr m d) t g else 0)
      * product (xArr m d) (n := 8) (V0 m d main_arg3) t e h else 0

theorem sumAt_next (d : Dev nD) (t : Fin 2048) (h : Fin 1024) (e : Fin 8) :
    (sumAt m d (e.val + 1) (ix2 t h) : EReal) = sumAt m d e.val (ix2 t h) + term m d t h e := by
  show (k0_pay2 (F := Ideal) (grid0.coords (ptOf e.val)) d (ixArr m d) (gateOf m d) (castOf m d) (ewAt m d (ptOf e.val)) (sumAt m d e.val) (ix2 t h) : EReal) = _
  rw [step_apply, word_at]
  unfold term gateOf product
  rw [gate_apply]
  refine congrArg (sumAt m d e.val (ix2 t h) + ·) (if_congr Iff.rfl (congrArg (_ * ·) (Finset.sum_congr rfl fun k _ => ?_)) rfl)
  rw [ewAt_apply]
  exact congrArg (· * _) (cast_apply (xArr m d) t k)

theorem out_apply (d : Dev nD) (t : Fin 2048) (h : Fin 1024) :
    (outOf m d (ix2 t h) : EReal)
      = (if t.val / 256 = d.val then common (xArr m d) (swArr m d) t h else 0) + ∑ e : Fin 8, term m d t h e := by
  have e0 : (outOf m d (ix2 t h) : EReal) = sumAt m d 8 (ix2 t h) := by unfold outOf; pointwise [k0_pay3]
  have s0 : (sumAt m d 1 (ix2 t h) : EReal) = sumAt m d 0 (ix2 t h) + term m d t h 0 := sumAt_next m d t h 0
  have s1 : (sumAt m d 2 (ix2 t h) : EReal) = sumAt m d 1 (ix2 t h) + term m d t h 1 := sumAt_next m d t h 1
  have s2 : (sumAt m d 3 (ix2 t h) : EReal) = sumAt m d 2 (ix2 t h) + term m d t h 2 := sumAt_next m d t h 2
  have s3 : (sumAt m d 4 (ix2 t h) : EReal) = sumAt m d 3 (ix2 t h) + term m d t h 3 := sumAt_next m d t h 3
  have s4 : (sumAt m d 5 (ix2 t h) : EReal) = sumAt m d 4 (ix2 t h) + term m d t h 4 := sumAt_next m d t h 4
  have s5 : (sumAt m d 6 (ix2 t h) : EReal) = sumAt m d 5 (ix2 t h) + term m d t h 5 := sumAt_next m d t h 5
  have s6 : (sumAt m d 7 (ix2 t h) : EReal) = sumAt m d 6 (ix2 t h) + term m d t h 6 := sumAt_next m d t h 6
  have s7 : (sumAt m d 8 (ix2 t h) : EReal) = sumAt m d 7 (ix2 t h) + term m d t h 7 := sumAt_next m d t h 7
  have z : (sumAt m d 0 (ix2 t h) : EReal) = _ := start_apply d (xArr m d) (swArr m d) t h
  rw [e0, s7, s6, s5, s4, s3, s2, s1, s0, z, Fin.sum_univ_eight]
  simp only [add_assoc]

end Cert.KernelIdeal.AR

end
-- ==== Proof.RefSum.lean ====
/-
  The reference's result over the extended reals, index by index: the shared product plus, over the 64 experts, the
  product of the one the token is routed to, times its probability.
-/
module

public import proofs.«01_k».proof.Proof.Gen.ReferenceIdeal.Run
public import proofs.«01_k».proof.Proof.PartialSum

@[expose] public section

set_option maxRecDepth 16384

noncomputable section

namespace Cert.ReferenceIdeal.Out

open Idealize.ShloMosaic Idealize.ShloMosaic.TcCoe Idealize.SL.Sem
open Cert.ReferenceIdeal Cert.ReferenceIdeal.Gen
open Cert.KernelIdeal.AR (score expo prob common product select_eq)

variable (x : Vec Ideal S2048x1024 .f32) (rw' : Vec Ideal S1024x64 .f32) (ix : Vec Ideal S2048x1 .i32)
  (W : Vec Ideal S64x1024x1024 .f32) (sw : Vec Ideal S1024x1024 .f32)

/-! ## The reference's text, in pieces -/

def scores : FVec Ideal S2048x64 .f32 := Host.dotGeneral (φ₁ := .f32) (φ₂ := .f32) dot_S2048x1024_S1024x64_S2048x64_1_0_0_1_n_n none x rw'
def expos : FVec Ideal S2048x64 .f32 :=
  Host.exp (subf (scores x rw') (broadcastInDim S2048x64 ![0, 1] bcast_S2048x1_S2048x64_0_1 (broadcastInDim S2048x1 ![0] bcast_S2048_S2048x1_0
    (Host.reduce FloatOps.maximumf (scores x rw') (constant S_ .f32 0xFF800000#32) reducesTo_S2048x64_S2048_d1 h_S_))))
def probs : FVec Ideal S2048x64 .f32 :=
  Host.divf (expos x rw') (broadcastInDim S2048x64 ![0, 1] bcast_S2048x1_S2048x64_0_1 (broadcastInDim S2048x1 ![0] bcast_S2048_S2048x1_0
    (Host.reduceAdd (expos x rw') (constant S_ .f32 0x00000000#32) reducesTo_S2048x64_S2048_d1 h_S_)))
def chosen : FVec Ideal S2048x64 .f32 :=
  select (cmpi .eq (broadcastInDim S2048x64 ![0, 1] bcast_S2048x1_S2048x64_0_1 ix)
      (broadcastInDim S2048x64 ![0, 1] bcast_S1x64_S2048x64_0_1 (broadcastInDim S1x64 ![1] bcast_S64_S1x64_1 (iotaInDim S64 32 0))))
    (probs x rw') (broadcastInDim S2048x64 ![] bcast_S_S2048x64 (id (constant S_ .f32 0x00000000#32)))
def result : FVec Ideal S2048x1024 .bf16 :=
  truncf .bf16 (addf (Host.dotGeneral (φ₁ := .f32) (φ₂ := .f32) dot_S2048x1024_S1024x1024_S2048x1024_1_0_0_1_n_n none x sw)
    (Host.reduceAdd (mulf (broadcastInDim S2048x64x1024 ![0, 1, 2] bcast_S2048x64x1_S2048x64x1024_0_1_2
        (broadcastInDim S2048x64x1 ![0, 1] bcast_S2048x64_S2048x64x1_0_1 (chosen x rw' ix)))
      (Host.dotGeneral (φ₁ := .f32) (φ₂ := .f32) dot_S2048x1024_S64x1024x1024_S2048x64x1024_1_1_0_02_n_n none x W))
      (constant S_ .f32 0x00000000#32) reducesTo_S2048x64x1024_S2048x1024_d1 h_S_)) bitsLt_bf16_f32

/-! ## At an index -/

theorem scores_apply (t : Fin 2048) (g : Fin 64) : (scores x rw' (ix2 t g) : EReal) = score x rw' t g := by
  pointwise [scores, score]

theorem expos_apply (t : Fin 2048) (g : Fin 64) : (expos x rw' (ix2 t g) : EReal) = expo x rw' t g := by
  pointwise [expos, expo, scores_apply]

theorem probs_apply (t : Fin 2048) (g : Fin 64) : (probs x rw' (ix2 t g) : EReal) = prob x rw' t g := by
  pointwise [probs, prob, expos_apply]

theorem chosen_apply (t : Fin 2048) (g : Fin 64) :
    (chosen x rw' ix (ix2 t g) : EReal) = if ix (ix2 t (0 : Fin 1)) = BitVec.ofNat 32 g.val then prob x rw' t g else 0 := by
  pointwise [chosen, probs_apply, id]
  exact select_eq _ _ _

theorem result_apply (t : Fin 2048) (h : Fin 1024) :
    (result x rw' ix W sw (ix2 t h) : EReal)
      = common x sw t h + ∑ g : Fin 64, if ix (ix2 t (0 : Fin 1)) = BitVec.ofNat 32 g.val then prob x rw' t g * product x (n := 64) W t g h else 0 := by
  have e (g : Fin 64) : (if ix (ix2 t (0 : Fin 1)) = BitVec.ofNat 32 g.val then prob x rw' t g * product x (n := 64) W t g h else 0)
      = (if ix (ix2 t (0 : Fin 1)) = BitVec.ofNat 32 g.val then prob x rw' t g else 0) * product x (n := 64) W t g h := by
    split
    · rfl
    · exact (zero_mul _).symm
  rw [Finset.sum_congr rfl fun g _ => e g]
  pointwise [result, chosen_apply, common, product]

end Cert.ReferenceIdeal.Out

end
-- ==== Proof.Value.lean ====
/-
  The value claim: over the extended reals the sum of the devices' parts is the reference's result.
-/
module

public import proofs.«01_k».proof.Defs
public import proofs.«01_k».proof.Proof.Launch
public import proofs.«01_k».proof.Proof.ExchangeSum
public import proofs.«01_k».proof.Proof.RefSum

@[expose] public section

noncomputable section

namespace Cert.Proof

open Idealize.ShloMosaic Idealize.ShloMosaic.TcCoe Idealize.SL.Sem
open Cert.KernelIdeal.AR (score expo prob common product term)

/-! ## The sums -/

theorem word_inj {g g' : Fin 64} (h : BitVec.ofNat 32 g.val = BitVec.ofNat 32 g'.val) : g = g' := by
  have := congrArg BitVec.toNat h
  rw [BitVec.toNat_ofNat, BitVec.toNat_ofNat, Nat.mod_eq_of_lt (by have := g.isLt; omega), Nat.mod_eq_of_lt (by have := g'.isLt; omega)] at this
  exact Fin.ext this

/-- The gate, where the token is routed to `g`, is the probability of `g`. -/
theorem gate_at (a : BitVec 32) (p : Fin 64 → EReal) (g : Fin 64) (h : a = BitVec.ofNat 32 g.val) :
    (∑ g' : Fin 64, if BitVec.ofNat 32 g'.val = a then p g' else 0) = p g := by
  subst h
  rw [Finset.sum_eq_single g (fun g' _ hn => if_neg fun e => hn (word_inj e)) (fun hn => absurd (Finset.mem_univ g) hn), if_pos rfl]

/-- The number of device `d`'s expert `e`. -/
def expert (d e : Fin 8) : Fin 64 := ⟨8 * d.val + e.val, by omega⟩

/-- The experts, device by device. -/
theorem experts (f : Fin 64 → EReal) :
    (∑ d : Fin 8, ∑ e : Fin 8, f (expert d e)) = ∑ g : Fin 64, f g := by
  rw [← Fintype.sum_prod_type' (f := fun (d e : Fin 8) => f (expert d e))]
  refine Fintype.sum_equiv (finProdFinEquiv (m := 8) (n := 8)) _ _ fun de => congrArg f (Fin.ext ?_)
  show 8 * de.1.val + de.2.val = de.2.val + 8 * de.1.val
  omega

/-- One device has token `t` among its own rows. -/
theorem owner (t : Fin 2048) (v : EReal) : (∑ d : Fin 8, if t.val / 256 = d.val then v else 0) = v := by
  have ht : t.val / 256 < 8 := by omega
  rw [Finset.sum_eq_single (⟨t.val / 256, ht⟩ : Fin 8) (fun d _ hn => if_neg fun e => hn (Fin.ext e.symm))
    (fun hn => absurd (Finset.mem_univ _) hn), if_pos rfl]

/-! ## The two results -/

section

variable (m : (ℓ : Loc Cert.KernelIdeal.nD Cert.KernelIdeal.τ Cert.KernelIdeal.sig) → Buf (Elt Ideal) ℓ)
  (x : Vec Ideal ⟨2, ![2048, 1024]⟩ .f32) (rw' : Vec Ideal ⟨2, ![1024, 64]⟩ .f32) (ix : Vec Ideal ⟨2, ![2048, 1]⟩ .i32)
  (W : Vec Ideal ⟨3, ![64, 1024, 1024]⟩ .f32) (sw : Vec Ideal ⟨2, ![1024, 1024]⟩ .f32)

/-- Expert `g`'s term of the reference. -/
def routed (t : Fin 2048) (h : Fin 1024) (g : Fin 64) : EReal :=
  if ix (ix2 t (0 : Fin 1)) = BitVec.ofNat 32 g.val then prob x rw' t g * product x (n := 64) W t g h else 0

/-- Expert `e` of device `d` is expert `8 d + e`. -/
theorem block_at (d : Fin 8) (e : Fin 8) (k h : Fin 1024) :
    Layout.block ⟨3, ![8, 1024, 1024]⟩ ⟨3, ![64, 1024, 1024]⟩ 0 8 d W (by decide) (ix3 e k h) = W (ix3 (expert d e) k h) := by
  rw [Layout.block_apply]
  refine congrArg W (funext fun a => Fin.ext ?_)
  rw [Layout.Tiles.idx_val]
  fin_cases a
  · show d.val * 8 + e.val = 8 * d.val + e.val
    omega
  · rfl
  · rfl

theorem fin_eq
    (h0 : ∀ c, Cert.KernelIdeal.AR.xArr m c = x) (h1 : ∀ c, Cert.KernelIdeal.AR.rwArr m c = rw') (h2 : ∀ c, Cert.KernelIdeal.AR.ixArr m c = ix)
    (h3 : ∀ c : Dev Cert.KernelIdeal.nD, Cert.KernelIdeal.Gen.V0 m c Cert.KernelIdeal.main_arg3
      = Layout.block ⟨3, ![8, 1024, 1024]⟩ ⟨3, ![64, 1024, 1024]⟩ 0 8 c W)
    (h4 : ∀ c, Cert.KernelIdeal.AR.swArr m c = sw) :
    Cert.KernelIdeal.AR.fin (Cert.KernelIdeal.AR.outOf m) = Cert.ReferenceIdeal.Out.result x rw' ix W sw := by
  funext i
  obtain ⟨t, h, rfl⟩ : ∃ (t : Fin 2048) (h : Fin 1024), i = ix2 t h := ⟨i 0, i 1, eq_ix2 i⟩
  refine (Cert.KernelIdeal.AR.fin_sum _ _).trans (Eq.trans ?_ (Cert.ReferenceIdeal.Out.result_apply x rw' ix W sw t h).symm)
  have e1 (d : Dev Cert.KernelIdeal.nD) : (Cert.KernelIdeal.AR.outOf m d (ix2 t h) : EReal)
      = (if t.val / 256 = d.val then common x sw t h else 0) + ∑ e : Fin 8, routed x rw' ix W t h (expert d e) := by
    rw [Cert.KernelIdeal.AR.out_apply, h0, h4]
    refine congrArg (_ + ·) (Finset.sum_congr rfl fun e _ => ?_)
    unfold term
    rw [h0, h1, h2]
    unfold routed
    by_cases hc : ix (ix2 t (0 : Fin 1)) = BitVec.ofNat 32 (8 * d.val + e.val)
    · have hc' : ix (ix2 t (0 : Fin 1)) = BitVec.ofNat 32 (expert d e).val := hc
      rw [if_pos hc, if_pos hc', gate_at _ _ (expert d e) hc, h3]
      unfold product
      refine congrArg (_ * ·) (Finset.sum_congr rfl fun k _ => congrArg (_ * ·) (block_at W d e k h))
    · have hc' : ¬ ix (ix2 t (0 : Fin 1)) = BitVec.ofNat 32 (expert d e).val := hc
      rw [if_neg hc, if_neg hc']
  refine (Finset.sum_congr rfl fun d _ => e1 d).trans (Finset.sum_add_distrib.trans ?_)
  exact congrArg₂ (· + ·) (owner t _) (experts (routed x rw' ix W t h))

end

/-! ## The claim -/

theorem algebraic : Cert.algebraic_KernelIdeal_ReferenceIdeal (hKernelIdeal := Cert.KernelIdeal.Gen.facts)
    (hReferenceIdeal := Cert.ReferenceIdeal.Gen.facts) := fun m g m' g' _ hin => by
  refine ⟨Cert.ReferenceIdeal.Out.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun _ h c => ⟨((h.1 c).1).trans ?_, (h.1 c).2⟩) (Cert.KernelIdeal.Run.run_main (F := Ideal) m g)
    exact fin_eq m _ _ _ _ _ (fun c => (hin c).1) (fun c => (hin c).2.1) (fun c => (hin c).2.2.1) (fun c => (hin c).2.2.2.1)
      (fun c => (hin c).2.2.2.2)
  · exact (θ_run Cert.ReferenceIdeal.defs _ _).mono (fun _ h => h 0) (Cert.ReferenceIdeal.Value.run (F := Ideal) m' g')

end Cert.Proof

end
-- ==== Proof.lean ====
/-
  All five claims together: each program's run ends with every semaphore counter at zero, the idealized
  kernel is the kernel's own text, and over the extended reals it computes the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Gen.ReferenceIdeal
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨frame_kernel, frame_ideal, frame_reference, trivial, algebraic⟩⟩

end Cert.Proof

end
